-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x2560 : Shape := ⟨3, ![16, 1, 2560]⟩
abbrev S2560x10240 : Shape := ⟨2, ![2560, 10240]⟩
abbrev S10240 : Shape := ⟨1, ![10240]⟩
abbrev S10240x2560 : Shape := ⟨2, ![10240, 2560]⟩
abbrev S2560 : Shape := ⟨1, ![2560]⟩
abbrev S16x2560 : Shape := ⟨2, ![16, 2560]⟩
abbrev S1x10240 : Shape := ⟨2, ![1, 10240]⟩
abbrev S1x16 : Shape := ⟨2, ![1, 16]⟩
abbrev S16x10240 : Shape := ⟨2, ![16, 10240]⟩
abbrev S10x2560x1024 : Shape := ⟨3, ![10, 2560, 1024]⟩
abbrev S32x2560 : Shape := ⟨2, ![32, 2560]⟩
abbrev S32x10240 : Shape := ⟨2, ![32, 10240]⟩
abbrev S4 : Shape := ⟨1, ![4]⟩
abbrev S10 : Shape := ⟨1, ![10]⟩
abbrev S20 : Shape := ⟨1, ![20]⟩
abbrev S5 : Shape := ⟨1, ![5]⟩
abbrev S1 : Shape := ⟨1, ![1]⟩
abbrev S_ : Shape := ⟨0, ![]⟩
abbrev S1x2560x1024 : Shape := ⟨3, ![1, 2560, 1024]⟩
abbrev S2560x1024 : Shape := ⟨2, ![2560, 1024]⟩
abbrev S512x2560 : Shape := ⟨2, ![512, 2560]⟩
abbrev S16 : Shape := ⟨1, ![16]⟩
abbrev S16x1 : Shape := ⟨2, ![16, 1]⟩
abbrev S16x256 : Shape := ⟨2, ![16, 256]⟩
abbrev S16x16 : Shape := ⟨2, ![16, 16]⟩
abbrev S16x128 : Shape := ⟨2, ![16, 128]⟩
abbrev S32x1024 : Shape := ⟨2, ![32, 1024]⟩
abbrev S16x1024 : Shape := ⟨2, ![16, 1024]⟩
abbrev S1x1024 : Shape := ⟨2, ![1, 1024]⟩
abbrev S32x512 : Shape := ⟨2, ![32, 512]⟩
abbrev S1x2560 : Shape := ⟨2, ![1, 2560]⟩

abbrev nBuf : Space → Nat
  | .hbm => 14
  | .vmem => 15
  | .smem => 0
  | _ => 0

abbrev bufTy : (tb : Table) → Fin (tcTables nBuf tb) → BufTy
  | .hbm, ⟨0, _⟩ => ⟨S16x1x2560, .bf16⟩
  | .hbm, ⟨1, _⟩ => ⟨S2560x10240, .fp8e4m3⟩
  | .hbm, ⟨2, _⟩ => ⟨S10240, .f32⟩
  | .hbm, ⟨3, _⟩ => ⟨S10240, .f32⟩
  | .hbm, ⟨4, _⟩ => ⟨S10240x2560, .fp8e4m3⟩
  | .hbm, ⟨5, _⟩ => ⟨S2560, .f32⟩
  | .hbm, ⟨6, _⟩ => ⟨S16x2560, .bf16⟩
  | .hbm, ⟨7, _⟩ => ⟨S1x10240, .f32⟩
  | .hbm, ⟨8, _⟩ => ⟨S1x10240, .f32⟩
  | .hbm, ⟨9, _⟩ => ⟨S16x2560, .bf16⟩
  | .hbm, ⟨10, _⟩ => ⟨S16x2560, .fp8e4m3⟩
  | .hbm, ⟨11, _⟩ => ⟨S1x16, .f32⟩
  | .hbm, ⟨12, _⟩ => ⟨S16x10240, .fp8e4m3⟩
  | .hbm, ⟨13, _⟩ => ⟨S1x16, .f32⟩
  | .local _ .vmem, ⟨0, _⟩ => ⟨S16x2560, .bf16⟩
  | .local _ .vmem, ⟨1, _⟩ => ⟨S10x2560x1024, .fp8e4m3⟩
  | .local _ .vmem, ⟨2, _⟩ => ⟨S1x10240, .f32⟩
  | .local _ .vmem, ⟨3, _⟩ => ⟨S1x10240, .f32⟩
  | .local _ .vmem, ⟨4, _⟩ => ⟨S10240x2560, .fp8e4m3⟩
  | .local _ .vmem, ⟨5, _⟩ => ⟨S2560, .f32⟩
  | .local _ .vmem, ⟨6, _⟩ => ⟨S16x2560, .bf16⟩
  | .local _ .vmem, ⟨7, _⟩ => ⟨S16x2560, .fp8e4m3⟩
  | .local _ .vmem, ⟨8, _⟩ => ⟨S1x16, .f32⟩
  | .local _ .vmem, ⟨9, _⟩ => ⟨S16x10240, .fp8e4m3⟩
  | .local _ .vmem, ⟨10, _⟩ => ⟨S1x16, .f32⟩
  | .local _ .vmem, ⟨11, _⟩ => ⟨S32x2560, .fp8e4m3⟩
  | .local _ .vmem, ⟨12, _⟩ => ⟨S16x10240, .f32⟩
  | .local _ .vmem, ⟨13, _⟩ => ⟨S32x10240, .fp8e4m3⟩
  | .local _ .vmem, ⟨14, _⟩ => ⟨S16x2560, .f32⟩
  | _, _ => ⟨S16x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c1024_i32 : BitVec 32 := 1024#32
  c1024_i32
def k0_mult3 : BitVec 32 :=
  let c2048_i32 : BitVec 32 := 2048#32
  c2048_i32
def k0_mult4 : BitVec 32 :=
  let c3072_i32 : BitVec 32 := 3072#32
  c3072_i32
def k0_mult5 : BitVec 32 :=
  let c4096_i32 : BitVec 32 := 4096#32
  c4096_i32
def k0_mult6 : BitVec 32 :=
  let c5120_i32 : BitVec 32 := 5120#32
  c5120_i32
def k0_mult7 : BitVec 32 :=
  let c6144_i32 : BitVec 32 := 6144#32
  c6144_i32
def k0_mult8 : BitVec 32 :=
  let c7168_i32 : BitVec 32 := 7168#32
  c7168_i32
def k0_mult9 : BitVec 32 :=
  let c8192_i32 : BitVec 32 := 8192#32
  c8192_i32
def k0_mult10 : BitVec 32 :=
  let c9216_i32 : BitVec 32 := 9216#32
  c9216_i32
def k0_mult11 : BitVec 32 :=
  let c0_i32_45 : BitVec 32 := 0#32
  c0_i32_45
def k0_mult12 : BitVec 32 :=
  let c512_i32 : BitVec 32 := 512#32
  c512_i32
def k0_mult13 : BitVec 32 :=
  let c1024_i32_52 : BitVec 32 := 1024#32
  c1024_i32_52
def k0_mult14 : BitVec 32 :=
  let c1536_i32 : BitVec 32 := 1536#32
  c1536_i32
def k0_mult15 : BitVec 32 :=
  let c2048_i32_59 : BitVec 32 := 2048#32
  c2048_i32_59
def k0_mult16 : BitVec 32 :=
  let c2560_i32 : BitVec 32 := 2560#32
  c2560_i32
def k0_mult17 : BitVec 32 :=
  let c3072_i32_66 : BitVec 32 := 3072#32
  c3072_i32_66
def k0_mult18 : BitVec 32 :=
  let c3584_i32 : BitVec 32 := 3584#32
  c3584_i32
def k0_mult19 : BitVec 32 :=
  let c4096_i32_73 : BitVec 32 := 4096#32
  c4096_i32_73
def k0_mult20 : BitVec 32 :=
  let c4608_i32 : BitVec 32 := 4608#32
  c4608_i32
def k0_mult21 : BitVec 32 :=
  let c5120_i32_80 : BitVec 32 := 5120#32
  c5120_i32_80
def k0_mult22 : BitVec 32 :=
  let c5632_i32 : BitVec 32 := 5632#32
  c5632_i32
def k0_mult23 : BitVec 32 :=
  let c6144_i32_85 : BitVec 32 := 6144#32
  c6144_i32_85
def k0_mult24 : BitVec 32 :=
  let c6656_i32 : BitVec 32 := 6656#32
  c6656_i32
def k0_mult25 : BitVec 32 :=
  let c7168_i32_90 : BitVec 32 := 7168#32
  c7168_i32_90
def k0_mult26 : BitVec 32 :=
  let c7680_i32 : BitVec 32 := 7680#32
  c7680_i32
def k0_mult27 : BitVec 32 :=
  let c8192_i32_95 : BitVec 32 := 8192#32
  c8192_i32_95
def k0_mult28 : BitVec 32 :=
  let c8704_i32 : BitVec 32 := 8704#32
  c8704_i32
def k0_mult29 : BitVec 32 :=
  let c9216_i32_100 : BitVec 32 := 9216#32
  c9216_i32_100
def k0_mult30 : BitVec 32 :=
  let c9728_i32 : BitVec 32 := 9728#32
  c9728_i32
@[reducible] def k0_t1_loop : Scf.Loop 32 :=
  let c0_i32_140 : BitVec 32 := 0#32
  let c10_i32_141 : BitVec 32 := 10#32
  let v261 : BitVec 32 := Scalar.addi c0_i32_140 c10_i32_141
  let c1_i32_142 : BitVec 32 := 1#32
  ⟨c0_i32_140, v261, c1_i32_142⟩
def k0_mult31 (k0_t1 : Fin k0_t1_loop.trips) : BitVec 32 :=
  let c0_i32_140 : BitVec 32 := 0#32
  let c1_i32_142 : BitVec 32 := 1#32
  let arg30 : BitVec 32 := Scf.iv c0_i32_140 c1_i32_142 k0_t1
  let c1024_i32_271 : BitVec 32 := 1024#32
  let v530 : BitVec 32 := Scalar.muli arg30 c1024_i32_271
  v530
def k0_off1 (k0_t1 : Fin k0_t1_loop.trips) : Fin 1 → Nat :=
  let c0_i32_140 : BitVec 32 := 0#32
  let c1_i32_142 : BitVec 32 := 1#32
  let arg30 : BitVec 32 := Scf.iv c0_i32_140 c1_i32_142 k0_t1
  ![arg30.toNat]
def k0_off2 (k0_t1 : Fin k0_t1_loop.trips) : Fin 3 → Nat :=
  let c0_i32_140 : BitVec 32 := 0#32
  let c1_i32_142 : BitVec 32 := 1#32
  let arg30 : BitVec 32 := Scf.iv c0_i32_140 c1_i32_142 k0_t1
  let c0_i32_272 : BitVec 32 := 0#32
  let c0_i32_273 : BitVec 32 := 0#32
  ![arg30.toNat, 0, 0]
def k0_off3 (k0_t1 : Fin k0_t1_loop.trips) : Fin 2 → Nat :=
  let c0_i32_274 : BitVec 32 := 0#32
  let c0_i32_140 : BitVec 32 := 0#32
  let c1_i32_142 : BitVec 32 := 1#32
  let arg30 : BitVec 32 := Scf.iv c0_i32_140 c1_i32_142 k0_t1
  let c1024_i32_271 : BitVec 32 := 1024#32
  let v530 : BitVec 32 := Scalar.muli arg30 c1024_i32_271
  let v531 : BitVec 32 := v530
  ![0, v531.toNat]
def k0_off4 (k0_t1 : Fin k0_t1_loop.trips) : Fin 3 → Nat :=
  let c0_i32_140 : BitVec 32 := 0#32
  let c1_i32_142 : BitVec 32 := 1#32
  let arg30 : BitVec 32 := Scf.iv c0_i32_140 c1_i32_142 k0_t1
  let v538 : Index := Scalar.indexCast arg30
  let c0_277 : Index := 0#32
  let c0_278 : Index := 0#32
  ![v538.toNat, 0, 0]
def k0_mult32 (k0_t1 : Fin k0_t1_loop.trips) : BitVec 32 :=
  let c0_i32_140 : BitVec 32 := 0#32
  let c1_i32_142 : BitVec 32 := 1#32
  let arg30 : BitVec 32 := Scf.iv c0_i32_140 c1_i32_142 k0_t1
  let c1024_i32_280 : BitVec 32 := 1024#32
  let v542 : BitVec 32 := Scalar.muli arg30 c1024_i32_280
  v542
def k0_off5 (k0_t1 : Fin k0_t1_loop.trips) : Fin 2 → Nat :=
  let c0_281 : Index := 0#32
  let c0_i32_140 : BitVec 32 := 0#32
  let c1_i32_142 : BitVec 32 := 1#32
  let arg30 : BitVec 32 := Scf.iv c0_i32_140 c1_i32_142 k0_t1
  let c1024_i32_280 : BitVec 32 := 1024#32
  let v542 : BitVec 32 := Scalar.muli arg30 c1024_i32_280
  let v543 : BitVec 32 := v542
  let v547 : Index := Scalar.indexCast v543
  ![0, v547.toNat]
def k0_off6 (k0_t1 : Fin k0_t1_loop.trips) : Fin 2 → Nat :=
  let c0_284 : Index := 0#32
  let c0_i32_140 : BitVec 32 := 0#32
  let c1_i32_142 : BitVec 32 := 1#32
  let arg30 : BitVec 32 := Scf.iv c0_i32_140 c1_i32_142 k0_t1
  let c1024_i32_280 : BitVec 32 := 1024#32
  let v542 : BitVec 32 := Scalar.muli arg30 c1024_i32_280
  let v543 : BitVec 32 := v542
  let v557 : Index := Scalar.indexCast v543
  ![0, v557.toNat]
@[reducible] def k0_t2_loop : Scf.Loop 32 :=
  let c0_i32_257 : BitVec 32 := 0#32
  let c20_i32 : BitVec 32 := 20#32
  let v506 : BitVec 32 := Scalar.addi c0_i32_257 c20_i32
  let c1_i32_258 : BitVec 32 := 1#32
  ⟨c0_i32_257, v506, c1_i32_258⟩
def k0_mult33 (k0_t2 : Fin k0_t2_loop.trips) : BitVec 32 :=
  let c0_i32_257 : BitVec 32 := 0#32
  let c1_i32_258 : BitVec 32 := 1#32
  let arg30 : BitVec 32 := Scf.iv c0_i32_257 c1_i32_258 k0_t2
  let c512_i32_271 : BitVec 32 := 512#32
  let v530 : BitVec 32 := Scalar.muli arg30 c512_i32_271
  v530
def k0_off7 (k0_t2 : Fin k0_t2_loop.trips) : Fin 1 → Nat :=
  let c0_i32_257 : BitVec 32 := 0#32
  let c1_i32_258 : BitVec 32 := 1#32
  let arg30 : BitVec 32 := Scf.iv c0_i32_257 c1_i32_258 k0_t2
  ![arg30.toNat]
def k0_off8 (k0_t2 : Fin k0_t2_loop.trips) : Fin 2 → Nat :=
  let c0_i32_257 : BitVec 32 := 0#32
  let c1_i32_258 : BitVec 32 := 1#32
  let arg30 : BitVec 32 := Scf.iv c0_i32_257 c1_i32_258 k0_t2
  let c512_i32_271 : BitVec 32 := 512#32
  let v530 : BitVec 32 := Scalar.muli arg30 c512_i32_271
  let v531 : BitVec 32 := v530
  let c0_i32_272 : BitVec 32 := 0#32
  ![v531.toNat, 0]
def k0_mult34 (k0_t2 : Fin k0_t2_loop.trips) : BitVec 32 :=
  let c0_i32_257 : BitVec 32 := 0#32
  let c1_i32_258 : BitVec 32 := 1#32
  let arg30 : BitVec 32 := Scf.iv c0_i32_257 c1_i32_258 k0_t2
  let c512_i32_274 : BitVec 32 := 512#32
  let v536 : BitVec 32 := Scalar.muli arg30 c512_i32_274
  v536
def k0_off9 (k0_t2 : Fin k0_t2_loop.trips) : Fin 2 → Nat :=
  let c0_275 : Index := 0#32
  let c0_i32_257 : BitVec 32 := 0#32
  let c1_i32_258 : BitVec 32 := 1#32
  let arg30 : BitVec 32 := Scf.iv c0_i32_257 c1_i32_258 k0_t2
  let c512_i32_274 : BitVec 32 := 512#32
  let v536 : BitVec 32 := Scalar.muli arg30 c512_i32_274
  let v537 : BitVec 32 := v536
  let v538 : Index := Scalar.indexCast v537
  ![0, v538.toNat]
def k0_off10 (k0_t2 : Fin k0_t2_loop.trips) : Fin 2 → Nat :=
  let c0_i32_257 : BitVec 32 := 0#32
  let c1_i32_258 : BitVec 32 := 1#32
  let arg30 : BitVec 32 := Scf.iv c0_i32_257 c1_i32_258 k0_t2
  let c512_i32_274 : BitVec 32 := 512#32
  let v536 : BitVec 32 := Scalar.muli arg30 c512_i32_274
  let v537 : BitVec 32 := v536
  let v540 : Index := Scalar.indexCast v537
  let c0_276 : Index := 0#32
  ![v540.toNat, 0]
-- ==== ReferenceIdeal.lean ====
abbrev S16x1x2560 : Shape := ⟨3, ![16, 1, 2560]⟩
abbrev S2560x10240 : Shape := ⟨2, ![2560, 10240]⟩
abbrev S10240 : Shape := ⟨1, ![10240]⟩
abbrev S10240x2560 : Shape := ⟨2, ![10240, 2560]⟩
abbrev S2560 : Shape := ⟨1, ![2560]⟩
abbrev S16x2560 : Shape := ⟨2, ![16, 2560]⟩
abbrev S1x10240 : Shape := ⟨2, ![1, 10240]⟩
abbrev S1x2560 : Shape := ⟨2, ![1, 2560]⟩
abbrev S1x16 : Shape := ⟨2, ![1, 16]⟩
abbrev S16x10240 : Shape := ⟨2, ![16, 10240]⟩
abbrev S16 : Shape := ⟨1, ![16]⟩
abbrev S16x1 : Shape := ⟨2, ![16, 1]⟩

abbrev nBuf : Space → Nat
  | .hbm => 15
  | .vmem => 11
  | .smem => 0
  | _ => 0

abbrev bufTy : (tb : Table) → Fin (tcTables nBuf tb) → BufTy
  | .hbm, ⟨0, _⟩ => ⟨S16x1x2560, .bf16⟩
  | .hbm, ⟨1, _⟩ => ⟨S2560x10240, .fp8e4m3⟩
  | .hbm, ⟨2, _⟩ => ⟨S10240, .f32⟩
  | .hbm, ⟨3, _⟩ => ⟨S10240, .f32⟩
  | .hbm, ⟨4, _⟩ => ⟨S10240x2560, .fp8e4m3⟩
  | .hbm, ⟨5, _⟩ => ⟨S2560, .f32⟩
  | .hbm, ⟨6, _⟩ => ⟨S16x2560, .bf16⟩
  | .hbm, ⟨7, _⟩ => ⟨S1x10240, .f32⟩
  | .hbm, ⟨8, _⟩ => ⟨S1x10240, .f32⟩
  | .hbm, ⟨9, _⟩ => ⟨S1x2560, .f32⟩
  | .hbm, ⟨10, _⟩ => ⟨S16x2560, .bf16⟩
  | .hbm, ⟨11, _⟩ => ⟨S16x2560, .fp8e4m3⟩
  | .hbm, ⟨12, _⟩ => ⟨S1x16, .f32⟩
  | .hbm, ⟨13, _⟩ => ⟨S16x10240, .fp8e4m3⟩
  | .hbm, ⟨14, _⟩ => ⟨S1x16, .f32⟩
  | .local _ .vmem, ⟨0, _⟩ => ⟨S16x2560, .bf16⟩
  | .local _ .vmem, ⟨1, _⟩ => ⟨S2560x10240, .fp8e4m3⟩
  | .local _ .vmem, ⟨2, _⟩ => ⟨S1x10240, .f32⟩
  | .local _ .vmem, ⟨3, _⟩ => ⟨S1x10240, .f32⟩
  | .local _ .vmem, ⟨4, _⟩ => ⟨S10240x2560, .fp8e4m3⟩
  | .local _ .vmem, ⟨5, _⟩ => ⟨S1x2560, .f32⟩
  | .local _ .vmem, ⟨6, _⟩ => ⟨S16x2560, .bf16⟩
  | .local _ .vmem, ⟨7, _⟩ => ⟨S16x2560, .fp8e4m3⟩
  | .local _ .vmem, ⟨8, _⟩ => ⟨S1x16, .f32⟩
  | .local _ .vmem, ⟨9, _⟩ => ⟨S16x10240, .fp8e4m3⟩
  | .local _ .vmem, ⟨10, _⟩ => ⟨S1x16, .f32⟩
  | _, _ => ⟨S16x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10240x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x10240 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.RunIdeal.Names.lean ====
/-
  `KernelIdeal`: the names under which the hand proof speaks of the kernel's transfers.

  The kernel copies the up-projection weight in as ten column blocks (`srcU b` of the argument into slot `slotU b` of
  a ten-slot buffer, on cell `csmU b`) and the down-projection weight as twenty row blocks (`srcD b` into the rows
  `slotD b` of a buffer of the same shape, on cell `csmD b`); all thirty are started before the first is waited for.
  Each name has the equations (`@[sl_canon]`) by which a run recognises it: the literal offsets of the issues, and the
  loops' offsets at a symbolic trip, in closed form.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.RunIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline library's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-! ## The memrefs the body is called on -/

abbrev mX : Memref sig .tc .hbm S16x2560 .bf16 := Memref.whole main_v0
abbrev mWu : Memref sig .tc .hbm S2560x10240 .fp8e4m3 := Memref.whole main_arg1
abbrev mWus : Memref sig .tc .hbm S1x10240 .f32 := Memref.whole main_v1
abbrev mBu : Memref sig .tc .hbm S1x10240 .f32 := Memref.whole main_v2
abbrev mWd : Memref sig .tc .hbm S10240x2560 .fp8e4m3 := Memref.whole main_arg4
abbrev mWds : Memref sig .tc .hbm S2560 .f32 := Memref.whole main_arg5
abbrev mY : Memref sig .tc .hbm S16x2560 .bf16 := Memref.whole main_v3_0
abbrev mXc : Memref sig .tc .hbm S16x2560 .fp8e4m3 := Memref.whole main_v3_1
abbrev mXs : Memref sig .tc .hbm S1x16 .f32 := Memref.whole main_v3_2
abbrev mHc : Memref sig .tc .hbm S16x10240 .fp8e4m3 := Memref.whole main_v3_3
abbrev mHs : Memref sig .tc .hbm S1x16 .f32 := Memref.whole main_v3_4
abbrev vX : Memref sig .tc .vmem S16x2560 .bf16 := Memref.whole cc0_scratch0
abbrev vWu : Memref sig .tc .vmem S10x2560x1024 .fp8e4m3 := Memref.whole cc0_scratch1
abbrev vWus : Memref sig .tc .vmem S1x10240 .f32 := Memref.whole cc0_scratch2
abbrev vBu : Memref sig .tc .vmem S1x10240 .f32 := Memref.whole cc0_scratch3
abbrev vWd : Memref sig .tc .vmem S10240x2560 .fp8e4m3 := Memref.whole cc0_scratch4
abbrev vWds : Memref sig .tc .vmem S2560 .f32 := Memref.whole cc0_scratch5
abbrev vY : Memref sig .tc .vmem S16x2560 .bf16 := Memref.whole cc0_scratch6
abbrev vXc : Memref sig .tc .vmem S16x2560 .fp8e4m3 := Memref.whole cc0_scratch7
abbrev vXs : Memref sig .tc .vmem S1x16 .f32 := Memref.whole cc0_scratch8
abbrev vHc : Memref sig .tc .vmem S16x10240 .fp8e4m3 := Memref.whole cc0_scratch9
abbrev vHs : Memref sig .tc .vmem S1x16 .f32 := Memref.whole cc0_scratch10
abbrev vXq : Memref sig .tc .vmem S32x2560 .fp8e4m3 := Memref.whole cc0_scratch11
abbrev vH : Memref sig .tc .vmem S16x10240 .f32 := Memref.whole cc0_scratch12
abbrev vHq : Memref sig .tc .vmem S32x10240 .fp8e4m3 := Memref.whole cc0_scratch13
abbrev vAcc : Memref sig .tc .vmem S16x2560 .f32 := Memref.whole cc0_scratch14

/-! ## Offsets of the blocks -/

abbrev uColOff (b : Fin 10) : Fin 2 → Nat := ![0, 1024 * b.val]
theorem uColOff_inb (b : Fin 10) : ∀ a, uColOff b a + S2560x1024.size a ≤ S2560x10240.size a := by
  have := b.isLt; intro a; fin_cases a
  · show 0 + 2560 ≤ 2560; omega
  · show 1024 * b.val + 1024 ≤ 10240; omega
abbrev uSlotOff (b : Fin 10) : Fin 3 → Nat := ![b.val, 0, 0]
theorem uSlotOff_inb (b : Fin 10) : ∀ a, uSlotOff b a + S1x2560x1024.size a ≤ S10x2560x1024.size a := by
  have := b.isLt; intro a; fin_cases a
  · show b.val + 1 ≤ 10; omega
  · show 0 + 2560 ≤ 2560; omega
  · show 0 + 1024 ≤ 1024; omega
abbrev uSemOff (b : Fin 10) : Fin 1 → Nat := ![b.val]
theorem uSemOff_inb (b : Fin 10) : ∀ a, uSemOff b a + S1.size a ≤ S10.size a := by
  have := b.isLt; intro a; fin_cases a; show b.val + 1 ≤ 10; omega
abbrev dRowOff (b : Fin 20) : Fin 2 → Nat := ![512 * b.val, 0]
theorem dRowOff_inb (b : Fin 20) : ∀ a, dRowOff b a + S512x2560.size a ≤ S10240x2560.size a := by
  have := b.isLt; intro a; fin_cases a
  · show 512 * b.val + 512 ≤ 10240; omega
  · show 0 + 2560 ≤ 2560; omega
abbrev dSemOff (b : Fin 20) : Fin 1 → Nat := ![b.val]
theorem dSemOff_inb (b : Fin 20) : ∀ a, dSemOff b a + S1.size a ≤ S20.size a := by
  have := b.isLt; intro a; fin_cases a; show b.val + 1 ≤ 20; omega

/-- Column block `b` of the up-projection weight, as the body slices it. -/
def srcU (b : Fin 10) : Memref sig .tc .hbm S2560x1024 .fp8e4m3 :=
  mWu.slice (Rect.unit (s := S2560x10240) (uColOff b) S2560x1024.size (uColOff_inb b)) (fun _ => rfl)
/-- Slot `b` of the buffer it is copied into, as the body slices and squeezes it. -/
def slotU (b : Fin 10) : Memref sig .tc .vmem S2560x1024 .fp8e4m3 :=
  (vWu.slice (Rect.unit (s := S10x2560x1024) (uSlotOff b) S1x2560x1024.size (uSlotOff_inb b)) (fun _ => rfl)).squeeze S2560x1024 squeezes_S1x2560x1024_S2560x1024
/-- Its DMA semaphore. -/
def csmU (b : Fin 10) : DmaSems sig S_ := (cc0_scratch16.slice (Rect.unit (s := S10) (uSemOff b) S1.size (uSemOff_inb b))).squeeze S_ squeezes_S1_S_
/-- Row block `b` of the down-projection weight, as the body slices it. -/
def srcD (b : Fin 20) : Memref sig .tc .hbm S512x2560 .fp8e4m3 :=
  mWd.slice (Rect.unit (s := S10240x2560) (dRowOff b) S512x2560.size (dRowOff_inb b)) (fun _ => rfl)
/-- The rows of the buffer it is copied into. -/
def slotD (b : Fin 20) : Memref sig .tc .vmem S512x2560 .fp8e4m3 :=
  vWd.slice (Rect.unit (s := S10240x2560) (dRowOff b) S512x2560.size (dRowOff_inb b)) (fun _ => rfl)
/-- Its DMA semaphore. -/
def csmD (b : Fin 20) : DmaSems sig S_ := (cc0_scratch17.slice (Rect.unit (s := S20) (dSemOff b) S1.size (dSemOff_inb b))).squeeze S_ squeezes_S1_S_

abbrev sSemOff (b : Fin 4) : Fin 1 → Nat := ![b.val]
theorem sSemOff_inb (b : Fin 4) : ∀ a, sSemOff b a + S1.size a ≤ S4.size a := by
  have := b.isLt; intro a; fin_cases a; show b.val + 1 ≤ 4; omega
abbrev oSemOff (b : Fin 5) : Fin 1 → Nat := ![b.val]
theorem oSemOff_inb (b : Fin 5) : ∀ a, oSemOff b a + S1.size a ≤ S5.size a := by
  have := b.isLt; intro a; fin_cases a; show b.val + 1 ≤ 5; omega
/-- The semaphores of the four small arguments' copies, -/
def csmS (b : Fin 4) : DmaSems sig S_ := (cc0_scratch15.slice (Rect.unit (s := S4) (sSemOff b) S1.size (sSemOff_inb b))).squeeze S_ squeezes_S1_S_
/-- and of the five results'. -/
def csmO (b : Fin 5) : DmaSems sig S_ := (cc0_scratch18.slice (Rect.unit (s := S5) (oSemOff b) S1.size (oSemOff_inb b))).squeeze S_ squeezes_S1_S_

instance (b : Fin 10) : ClosedOff (uColOff b) := ⟨uColOff b, rfl⟩
instance (b : Fin 10) : ClosedOff (uSlotOff b) := ⟨uSlotOff b, rfl⟩
instance (b : Fin 20) : ClosedOff (dRowOff b) := ⟨dRowOff b, rfl⟩

/-! ## The loops' offsets in closed form -/

theorem trips1 : k0_t1_loop.trips = 10 := by decide
theorem trips2 : k0_t2_loop.trips = 20 := by decide
/-- Trip `k` of the up loop as a block number; -/
abbrev bU (k : Fin k0_t1_loop.trips) : Fin 10 := ⟨k.val, Nat.lt_of_lt_of_eq k.isLt trips1⟩
/-- of the down loop. -/
abbrev bD (k : Fin k0_t2_loop.trips) : Fin 20 := ⟨k.val, Nat.lt_of_lt_of_eq k.isLt trips2⟩

theorem off1_eq (k : Fin k0_t1_loop.trips) : k0_off1 k = uSemOff (bU k) := by revert k; decide
theorem off2_eq (k : Fin k0_t1_loop.trips) : k0_off2 k = uSlotOff (bU k) := by revert k; decide
theorem off3_eq (k : Fin k0_t1_loop.trips) : k0_off3 k = uColOff (bU k) := by revert k; decide
theorem off4_eq (k : Fin k0_t1_loop.trips) : k0_off4 k = uSlotOff (bU k) := by revert k; decide
theorem off5_eq (k : Fin k0_t1_loop.trips) : k0_off5 k = uColOff (bU k) := by revert k; decide
theorem off6_eq (k : Fin k0_t1_loop.trips) : k0_off6 k = uColOff (bU k) := by revert k; decide
theorem off7_eq (k : Fin k0_t2_loop.trips) : k0_off7 k = dSemOff (bD k) := by revert k; decide
theorem off8_eq (k : Fin k0_t2_loop.trips) : k0_off8 k = dRowOff (bD k) := by revert k; decide
theorem off9_eq (k : Fin k0_t2_loop.trips) : k0_off9 k = (![0, 512 * (bD k).val] : Fin 2 → Nat) := by revert k; decide
theorem off10_eq (k : Fin k0_t2_loop.trips) : k0_off10 k = dRowOff (bD k) := by revert k; decide

instance (k : Fin k0_t1_loop.trips) : ClosedOff (k0_off2 k) := ⟨uSlotOff (bU k), off2_eq k⟩
instance (k : Fin k0_t1_loop.trips) : ClosedOff (k0_off4 k) := ⟨uSlotOff (bU k), off4_eq k⟩
instance (k : Fin k0_t1_loop.trips) : ClosedOff (k0_off5 k) := ⟨uColOff (bU k), off5_eq k⟩
instance (k : Fin k0_t1_loop.trips) : ClosedOff (k0_off6 k) := ⟨uColOff (bU k), off6_eq k⟩
instance (k : Fin k0_t2_loop.trips) : ClosedOff (k0_off8 k) := ⟨dRowOff (bD k), off8_eq k⟩
instance (k : Fin k0_t2_loop.trips) : ClosedOff (k0_off9 k) := ⟨![0, 512 * (bD k).val], off9_eq k⟩
instance (k : Fin k0_t2_loop.trips) : ClosedOff (k0_off10 k) := ⟨dRowOff (bD k), off10_eq k⟩

/-! ## The equations by which a run recognises the names -/

private theorem csmU_congr {off : Fin 1 → Nat} {b : Fin 10} (e : off = uSemOff b) (hh) :
    (cc0_scratch16.slice (Rect.unit (s := S10) off S1.size hh)).squeeze S_ squeezes_S1_S_ = csmU b :=
  congrArg (fun A : DmaSems sig S1 => A.squeeze S_ squeezes_S1_S_) (SemArray.slice_unit_congr _ e _ _)
private theorem csmS_congr {off : Fin 1 → Nat} {b : Fin 4} (e : off = sSemOff b) (hh) :
    (cc0_scratch15.slice (Rect.unit (s := S4) off S1.size hh)).squeeze S_ squeezes_S1_S_ = csmS b :=
  congrArg (fun A : DmaSems sig S1 => A.squeeze S_ squeezes_S1_S_) (SemArray.slice_unit_congr _ e _ _)
private theorem csmO_congr {off : Fin 1 → Nat} {b : Fin 5} (e : off = oSemOff b) (hh) :
    (cc0_scratch18.slice (Rect.unit (s := S5) off S1.size hh)).squeeze S_ squeezes_S1_S_ = csmO b :=
  congrArg (fun A : DmaSems sig S1 => A.squeeze S_ squeezes_S1_S_) (SemArray.slice_unit_congr _ e _ _)
private theorem slotU_congr {off : Fin 3 → Nat} {b : Fin 10} (e : off = uSlotOff b) (hh hs) :
    (vWu.slice (Rect.unit (s := S10x2560x1024) off S1x2560x1024.size hh) hs).squeeze S2560x1024 squeezes_S1x2560x1024_S2560x1024 = slotU b :=
  congrArg (fun M : Memref sig .tc .vmem S1x2560x1024 .fp8e4m3 => M.squeeze S2560x1024 squeezes_S1x2560x1024_S2560x1024) (Memref.slice_unit_congr _ e _ _ _ _)
private theorem srcU_congr {off : Fin 2 → Nat} {b : Fin 10} (e : off = uColOff b) (hh hs) :
    (mWu.slice (Rect.unit (s := S2560x10240) off S2560x1024.size hh) hs) = srcU b :=
  Memref.slice_unit_congr _ e _ _ _ (fun _ => rfl)
private theorem csmD_congr {off : Fin 1 → Nat} {b : Fin 20} (e : off = dSemOff b) (hh) :
    (cc0_scratch17.slice (Rect.unit (s := S20) off S1.size hh)).squeeze S_ squeezes_S1_S_ = csmD b :=
  congrArg (fun A : DmaSems sig S1 => A.squeeze S_ squeezes_S1_S_) (SemArray.slice_unit_congr _ e _ _)
private theorem slotD_congr {off : Fin 2 → Nat} {b : Fin 20} (e : off = dRowOff b) (hh hs) :
    (vWd.slice (Rect.unit (s := S10240x2560) off S512x2560.size hh) hs) = slotD b :=
  Memref.slice_unit_congr _ e _ _ _ (fun _ => rfl)
private theorem srcD_congr {off : Fin 2 → Nat} {b : Fin 20} (e : off = dRowOff b) (hh hs) :
    (mWd.slice (Rect.unit (s := S10240x2560) off S512x2560.size hh) hs) = srcD b :=
  Memref.slice_unit_congr _ e _ _ _ (fun _ => rfl)

@[sl_canon] theorem csmS_0 (hh) : (cc0_scratch15.slice (Rect.unit (s := S4) ![0] S1.size hh)).squeeze S_ squeezes_S1_S_ = csmS 0 := csmS_congr (by decide) _
@[sl_canon] theorem csmS_1 (hh) : (cc0_scratch15.slice (Rect.unit (s := S4) ![1] S1.size hh)).squeeze S_ squeezes_S1_S_ = csmS 1 := csmS_congr (by decide) _
@[sl_canon] theorem csmS_2 (hh) : (cc0_scratch15.slice (Rect.unit (s := S4) ![2] S1.size hh)).squeeze S_ squeezes_S1_S_ = csmS 2 := csmS_congr (by decide) _
@[sl_canon] theorem csmS_3 (hh) : (cc0_scratch15.slice (Rect.unit (s := S4) ![3] S1.size hh)).squeeze S_ squeezes_S1_S_ = csmS 3 := csmS_congr (by decide) _
@[sl_canon] theorem csmO_0 (hh) : (cc0_scratch18.slice (Rect.unit (s := S5) ![0] S1.size hh)).squeeze S_ squeezes_S1_S_ = csmO 0 := csmO_congr (by decide) _
@[sl_canon] theorem csmO_1 (hh) : (cc0_scratch18.slice (Rect.unit (s := S5) ![1] S1.size hh)).squeeze S_ squeezes_S1_S_ = csmO 1 := csmO_congr (by decide) _
@[sl_canon] theorem csmO_2 (hh) : (cc0_scratch18.slice (Rect.unit (s := S5) ![2] S1.size hh)).squeeze S_ squeezes_S1_S_ = csmO 2 := csmO_congr (by decide) _
@[sl_canon] theorem csmO_3 (hh) : (cc0_scratch18.slice (Rect.unit (s := S5) ![3] S1.size hh)).squeeze S_ squeezes_S1_S_ = csmO 3 := csmO_congr (by decide) _
@[sl_canon] theorem csmO_4 (hh) : (cc0_scratch18.slice (Rect.unit (s := S5) ![4] S1.size hh)).squeeze S_ squeezes_S1_S_ = csmO 4 := csmO_congr (by decide) _
@[sl_canon] theorem csmU_0 (hh) : (cc0_scratch16.slice (Rect.unit (s := S10) ![0] S1.size hh)).squeeze S_ squeezes_S1_S_ = csmU 0 := csmU_congr (by decide) _
@[sl_canon] theorem slotU_0 (hh hs) : (vWu.slice (Rect.unit (s := S10x2560x1024) ![0, 0, 0] S1x2560x1024.size hh) hs).squeeze S2560x1024 squeezes_S1x2560x1024_S2560x1024 = slotU 0 := slotU_congr (by decide) _ _
@[sl_canon] theorem srcU_0 (hh hs) : (mWu.slice (Rect.unit (s := S2560x10240) ![0, 0] S2560x1024.size hh) hs) = srcU 0 := srcU_congr (by decide) _ _
@[sl_canon] theorem csmU_1 (hh) : (cc0_scratch16.slice (Rect.unit (s := S10) ![1] S1.size hh)).squeeze S_ squeezes_S1_S_ = csmU 1 := csmU_congr (by decide) _
@[sl_canon] theorem slotU_1 (hh hs) : (vWu.slice (Rect.unit (s := S10x2560x1024) ![1, 0, 0] S1x2560x1024.size hh) hs).squeeze S2560x1024 squeezes_S1x2560x1024_S2560x1024 = slotU 1 := slotU_congr (by decide) _ _
@[sl_canon] theorem srcU_1 (hh hs) : (mWu.slice (Rect.unit (s := S2560x10240) ![0, 1024] S2560x1024.size hh) hs) = srcU 1 := srcU_congr (by decide) _ _
@[sl_canon] theorem csmU_2 (hh) : (cc0_scratch16.slice (Rect.unit (s := S10) ![2] S1.size hh)).squeeze S_ squeezes_S1_S_ = csmU 2 := csmU_congr (by decide) _
@[sl_canon] theorem slotU_2 (hh hs) : (vWu.slice (Rect.unit (s := S10x2560x1024) ![2, 0, 0] S1x2560x1024.size hh) hs).squeeze S2560x1024 squeezes_S1x2560x1024_S2560x1024 = slotU 2 := slotU_congr (by decide) _ _
@[sl_canon] theorem srcU_2 (hh hs) : (mWu.slice (Rect.unit (s := S2560x10240) ![0, 2048] S2560x1024.size hh) hs) = srcU 2 := srcU_congr (by decide) _ _
@[sl_canon] theorem csmU_3 (hh) : (cc0_scratch16.slice (Rect.unit (s := S10) ![3] S1.size hh)).squeeze S_ squeezes_S1_S_ = csmU 3 := csmU_congr (by decide) _
@[sl_canon] theorem slotU_3 (hh hs) : (vWu.slice (Rect.unit (s := S10x2560x1024) ![3, 0, 0] S1x2560x1024.size hh) hs).squeeze S2560x1024 squeezes_S1x2560x1024_S2560x1024 = slotU 3 := slotU_congr (by decide) _ _
@[sl_canon] theorem srcU_3 (hh hs) : (mWu.slice (Rect.unit (s := S2560x10240) ![0, 3072] S2560x1024.size hh) hs) = srcU 3 := srcU_congr (by decide) _ _
@[sl_canon] theorem csmU_4 (hh) : (cc0_scratch16.slice (Rect.unit (s := S10) ![4] S1.size hh)).squeeze S_ squeezes_S1_S_ = csmU 4 := csmU_congr (by decide) _
@[sl_canon] theorem slotU_4 (hh hs) : (vWu.slice (Rect.unit (s := S10x2560x1024) ![4, 0, 0] S1x2560x1024.size hh) hs).squeeze S2560x1024 squeezes_S1x2560x1024_S2560x1024 = slotU 4 := slotU_congr (by decide) _ _
@[sl_canon] theorem srcU_4 (hh hs) : (mWu.slice (Rect.unit (s := S2560x10240) ![0, 4096] S2560x1024.size hh) hs) = srcU 4 := srcU_congr (by decide) _ _
@[sl_canon] theorem csmU_5 (hh) : (cc0_scratch16.slice (Rect.unit (s := S10) ![5] S1.size hh)).squeeze S_ squeezes_S1_S_ = csmU 5 := csmU_congr (by decide) _
@[sl_canon] theorem slotU_5 (hh hs) : (vWu.slice (Rect.unit (s := S10x2560x1024) ![5, 0, 0] S1x2560x1024.size hh) hs).squeeze S2560x1024 squeezes_S1x2560x1024_S2560x1024 = slotU 5 := slotU_congr (by decide) _ _
@[sl_canon] theorem srcU_5 (hh hs) : (mWu.slice (Rect.unit (s := S2560x10240) ![0, 5120] S2560x1024.size hh) hs) = srcU 5 := srcU_congr (by decide) _ _
@[sl_canon] theorem csmU_6 (hh) : (cc0_scratch16.slice (Rect.unit (s := S10) ![6] S1.size hh)).squeeze S_ squeezes_S1_S_ = csmU 6 := csmU_congr (by decide) _
@[sl_canon] theorem slotU_6 (hh hs) : (vWu.slice (Rect.unit (s := S10x2560x1024) ![6, 0, 0] S1x2560x1024.size hh) hs).squeeze S2560x1024 squeezes_S1x2560x1024_S2560x1024 = slotU 6 := slotU_congr (by decide) _ _
@[sl_canon] theorem srcU_6 (hh hs) : (mWu.slice (Rect.unit (s := S2560x10240) ![0, 6144] S2560x1024.size hh) hs) = srcU 6 := srcU_congr (by decide) _ _
@[sl_canon] theorem csmU_7 (hh) : (cc0_scratch16.slice (Rect.unit (s := S10) ![7] S1.size hh)).squeeze S_ squeezes_S1_S_ = csmU 7 := csmU_congr (by decide) _
@[sl_canon] theorem slotU_7 (hh hs) : (vWu.slice (Rect.unit (s := S10x2560x1024) ![7, 0, 0] S1x2560x1024.size hh) hs).squeeze S2560x1024 squeezes_S1x2560x1024_S2560x1024 = slotU 7 := slotU_congr (by decide) _ _
@[sl_canon] theorem srcU_7 (hh hs) : (mWu.slice (Rect.unit (s := S2560x10240) ![0, 7168] S2560x1024.size hh) hs) = srcU 7 := srcU_congr (by decide) _ _
@[sl_canon] theorem csmU_8 (hh) : (cc0_scratch16.slice (Rect.unit (s := S10) ![8] S1.size hh)).squeeze S_ squeezes_S1_S_ = csmU 8 := csmU_congr (by decide) _
@[sl_canon] theorem slotU_8 (hh hs) : (vWu.slice (Rect.unit (s := S10x2560x1024) ![8, 0, 0] S1x2560x1024.size hh) hs).squeeze S2560x1024 squeezes_S1x2560x1024_S2560x1024 = slotU 8 := slotU_congr (by decide) _ _
@[sl_canon] theorem srcU_8 (hh hs) : (mWu.slice (Rect.unit (s := S2560x10240) ![0, 8192] S2560x1024.size hh) hs) = srcU 8 := srcU_congr (by decide) _ _
@[sl_canon] theorem csmU_9 (hh) : (cc0_scratch16.slice (Rect.unit (s := S10) ![9] S1.size hh)).squeeze S_ squeezes_S1_S_ = csmU 9 := csmU_congr (by decide) _
@[sl_canon] theorem slotU_9 (hh hs) : (vWu.slice (Rect.unit (s := S10x2560x1024) ![9, 0, 0] S1x2560x1024.size hh) hs).squeeze S2560x1024 squeezes_S1x2560x1024_S2560x1024 = slotU 9 := slotU_congr (by decide) _ _
@[sl_canon] theorem srcU_9 (hh hs) : (mWu.slice (Rect.unit (s := S2560x10240) ![0, 9216] S2560x1024.size hh) hs) = srcU 9 := srcU_congr (by decide) _ _
@[sl_canon] theorem csmD_0 (hh) : (cc0_scratch17.slice (Rect.unit (s := S20) ![0] S1.size hh)).squeeze S_ squeezes_S1_S_ = csmD 0 := csmD_congr (by decide) _
@[sl_canon] theorem slotD_0 (hh hs) : (vWd.slice (Rect.unit (s := S10240x2560) ![0, 0] S512x2560.size hh) hs) = slotD 0 := slotD_congr (by decide) _ _
@[sl_canon] theorem srcD_0 (hh hs) : (mWd.slice (Rect.unit (s := S10240x2560) ![0, 0] S512x2560.size hh) hs) = srcD 0 := srcD_congr (by decide) _ _
@[sl_canon] theorem csmD_1 (hh) : (cc0_scratch17.slice (Rect.unit (s := S20) ![1] S1.size hh)).squeeze S_ squeezes_S1_S_ = csmD 1 := csmD_congr (by decide) _
@[sl_canon] theorem slotD_1 (hh hs) : (vWd.slice (Rect.unit (s := S10240x2560) ![512, 0] S512x2560.size hh) hs) = slotD 1 := slotD_congr (by decide) _ _
@[sl_canon] theorem srcD_1 (hh hs) : (mWd.slice (Rect.unit (s := S10240x2560) ![512, 0] S512x2560.size hh) hs) = srcD 1 := srcD_congr (by decide) _ _
@[sl_canon] theorem csmD_2 (hh) : (cc0_scratch17.slice (Rect.unit (s := S20) ![2] S1.size hh)).squeeze S_ squeezes_S1_S_ = csmD 2 := csmD_congr (by decide) _
@[sl_canon] theorem slotD_2 (hh hs) : (vWd.slice (Rect.unit (s := S10240x2560) ![1024, 0] S512x2560.size hh) hs) = slotD 2 := slotD_congr (by decide) _ _
@[sl_canon] theorem srcD_2 (hh hs) : (mWd.slice (Rect.unit (s := S10240x2560) ![1024, 0] S512x2560.size hh) hs) = srcD 2 := srcD_congr (by decide) _ _
@[sl_canon] theorem csmD_3 (hh) : (cc0_scratch17.slice (Rect.unit (s := S20) ![3] S1.size hh)).squeeze S_ squeezes_S1_S_ = csmD 3 := csmD_congr (by decide) _
@[sl_canon] theorem slotD_3 (hh hs) : (vWd.slice (Rect.unit (s := S10240x2560) ![1536, 0] S512x2560.size hh) hs) = slotD 3 := slotD_congr (by decide) _ _
@[sl_canon] theorem srcD_3 (hh hs) : (mWd.slice (Rect.unit (s := S10240x2560) ![1536, 0] S512x2560.size hh) hs) = srcD 3 := srcD_congr (by decide) _ _
@[sl_canon] theorem csmD_4 (hh) : (cc0_scratch17.slice (Rect.unit (s := S20) ![4] S1.size hh)).squeeze S_ squeezes_S1_S_ = csmD 4 := csmD_congr (by decide) _
@[sl_canon] theorem slotD_4 (hh hs) : (vWd.slice (Rect.unit (s := S10240x2560) ![2048, 0] S512x2560.size hh) hs) = slotD 4 := slotD_congr (by decide) _ _
@[sl_canon] theorem srcD_4 (hh hs) : (mWd.slice (Rect.unit (s := S10240x2560) ![2048, 0] S512x2560.size hh) hs) = srcD 4 := srcD_congr (by decide) _ _
@[sl_canon] theorem csmD_5 (hh) : (cc0_scratch17.slice (Rect.unit (s := S20) ![5] S1.size hh)).squeeze S_ squeezes_S1_S_ = csmD 5 := csmD_congr (by decide) _
@[sl_canon] theorem slotD_5 (hh hs) : (vWd.slice (Rect.unit (s := S10240x2560) ![2560, 0] S512x2560.size hh) hs) = slotD 5 := slotD_congr (by decide) _ _
@[sl_canon] theorem srcD_5 (hh hs) : (mWd.slice (Rect.unit (s := S10240x2560) ![2560, 0] S512x2560.size hh) hs) = srcD 5 := srcD_congr (by decide) _ _
@[sl_canon] theorem csmD_6 (hh) : (cc0_scratch17.slice (Rect.unit (s := S20) ![6] S1.size hh)).squeeze S_ squeezes_S1_S_ = csmD 6 := csmD_congr (by decide) _
@[sl_canon] theorem slotD_6 (hh hs) : (vWd.slice (Rect.unit (s := S10240x2560) ![3072, 0] S512x2560.size hh) hs) = slotD 6 := slotD_congr (by decide) _ _
@[sl_canon] theorem srcD_6 (hh hs) : (mWd.slice (Rect.unit (s := S10240x2560) ![3072, 0] S512x2560.size hh) hs) = srcD 6 := srcD_congr (by decide) _ _
@[sl_canon] theorem csmD_7 (hh) : (cc0_scratch17.slice (Rect.unit (s := S20) ![7] S1.size hh)).squeeze S_ squeezes_S1_S_ = csmD 7 := csmD_congr (by decide) _
@[sl_canon] theorem slotD_7 (hh hs) : (vWd.slice (Rect.unit (s := S10240x2560) ![3584, 0] S512x2560.size hh) hs) = slotD 7 := slotD_congr (by decide) _ _
@[sl_canon] theorem srcD_7 (hh hs) : (mWd.slice (Rect.unit (s := S10240x2560) ![3584, 0] S512x2560.size hh) hs) = srcD 7 := srcD_congr (by decide) _ _
@[sl_canon] theorem csmD_8 (hh) : (cc0_scratch17.slice (Rect.unit (s := S20) ![8] S1.size hh)).squeeze S_ squeezes_S1_S_ = csmD 8 := csmD_congr (by decide) _
@[sl_canon] theorem slotD_8 (hh hs) : (vWd.slice (Rect.unit (s := S10240x2560) ![4096, 0] S512x2560.size hh) hs) = slotD 8 := slotD_congr (by decide) _ _
@[sl_canon] theorem srcD_8 (hh hs) : (mWd.slice (Rect.unit (s := S10240x2560) ![4096, 0] S512x2560.size hh) hs) = srcD 8 := srcD_congr (by decide) _ _
@[sl_canon] theorem csmD_9 (hh) : (cc0_scratch17.slice (Rect.unit (s := S20) ![9] S1.size hh)).squeeze S_ squeezes_S1_S_ = csmD 9 := csmD_congr (by decide) _
@[sl_canon] theorem slotD_9 (hh hs) : (vWd.slice (Rect.unit (s := S10240x2560) ![4608, 0] S512x2560.size hh) hs) = slotD 9 := slotD_congr (by decide) _ _
@[sl_canon] theorem srcD_9 (hh hs) : (mWd.slice (Rect.unit (s := S10240x2560) ![4608, 0] S512x2560.size hh) hs) = srcD 9 := srcD_congr (by decide) _ _
@[sl_canon] theorem csmD_10 (hh) : (cc0_scratch17.slice (Rect.unit (s := S20) ![10] S1.size hh)).squeeze S_ squeezes_S1_S_ = csmD 10 := csmD_congr (by decide) _
@[sl_canon] theorem slotD_10 (hh hs) : (vWd.slice (Rect.unit (s := S10240x2560) ![5120, 0] S512x2560.size hh) hs) = slotD 10 := slotD_congr (by decide) _ _
@[sl_canon] theorem srcD_10 (hh hs) : (mWd.slice (Rect.unit (s := S10240x2560) ![5120, 0] S512x2560.size hh) hs) = srcD 10 := srcD_congr (by decide) _ _
@[sl_canon] theorem csmD_11 (hh) : (cc0_scratch17.slice (Rect.unit (s := S20) ![11] S1.size hh)).squeeze S_ squeezes_S1_S_ = csmD 11 := csmD_congr (by decide) _
@[sl_canon] theorem slotD_11 (hh hs) : (vWd.slice (Rect.unit (s := S10240x2560) ![5632, 0] S512x2560.size hh) hs) = slotD 11 := slotD_congr (by decide) _ _
@[sl_canon] theorem srcD_11 (hh hs) : (mWd.slice (Rect.unit (s := S10240x2560) ![5632, 0] S512x2560.size hh) hs) = srcD 11 := srcD_congr (by decide) _ _
@[sl_canon] theorem csmD_12 (hh) : (cc0_scratch17.slice (Rect.unit (s := S20) ![12] S1.size hh)).squeeze S_ squeezes_S1_S_ = csmD 12 := csmD_congr (by decide) _
@[sl_canon] theorem slotD_12 (hh hs) : (vWd.slice (Rect.unit (s := S10240x2560) ![6144, 0] S512x2560.size hh) hs) = slotD 12 := slotD_congr (by decide) _ _
@[sl_canon] theorem srcD_12 (hh hs) : (mWd.slice (Rect.unit (s := S10240x2560) ![6144, 0] S512x2560.size hh) hs) = srcD 12 := srcD_congr (by decide) _ _
@[sl_canon] theorem csmD_13 (hh) : (cc0_scratch17.slice (Rect.unit (s := S20) ![13] S1.size hh)).squeeze S_ squeezes_S1_S_ = csmD 13 := csmD_congr (by decide) _
@[sl_canon] theorem slotD_13 (hh hs) : (vWd.slice (Rect.unit (s := S10240x2560) ![6656, 0] S512x2560.size hh) hs) = slotD 13 := slotD_congr (by decide) _ _
@[sl_canon] theorem srcD_13 (hh hs) : (mWd.slice (Rect.unit (s := S10240x2560) ![6656, 0] S512x2560.size hh) hs) = srcD 13 := srcD_congr (by decide) _ _
@[sl_canon] theorem csmD_14 (hh) : (cc0_scratch17.slice (Rect.unit (s := S20) ![14] S1.size hh)).squeeze S_ squeezes_S1_S_ = csmD 14 := csmD_congr (by decide) _
@[sl_canon] theorem slotD_14 (hh hs) : (vWd.slice (Rect.unit (s := S10240x2560) ![7168, 0] S512x2560.size hh) hs) = slotD 14 := slotD_congr (by decide) _ _
@[sl_canon] theorem srcD_14 (hh hs) : (mWd.slice (Rect.unit (s := S10240x2560) ![7168, 0] S512x2560.size hh) hs) = srcD 14 := srcD_congr (by decide) _ _
@[sl_canon] theorem csmD_15 (hh) : (cc0_scratch17.slice (Rect.unit (s := S20) ![15] S1.size hh)).squeeze S_ squeezes_S1_S_ = csmD 15 := csmD_congr (by decide) _
@[sl_canon] theorem slotD_15 (hh hs) : (vWd.slice (Rect.unit (s := S10240x2560) ![7680, 0] S512x2560.size hh) hs) = slotD 15 := slotD_congr (by decide) _ _
@[sl_canon] theorem srcD_15 (hh hs) : (mWd.slice (Rect.unit (s := S10240x2560) ![7680, 0] S512x2560.size hh) hs) = srcD 15 := srcD_congr (by decide) _ _
@[sl_canon] theorem csmD_16 (hh) : (cc0_scratch17.slice (Rect.unit (s := S20) ![16] S1.size hh)).squeeze S_ squeezes_S1_S_ = csmD 16 := csmD_congr (by decide) _
@[sl_canon] theorem slotD_16 (hh hs) : (vWd.slice (Rect.unit (s := S10240x2560) ![8192, 0] S512x2560.size hh) hs) = slotD 16 := slotD_congr (by decide) _ _
@[sl_canon] theorem srcD_16 (hh hs) : (mWd.slice (Rect.unit (s := S10240x2560) ![8192, 0] S512x2560.size hh) hs) = srcD 16 := srcD_congr (by decide) _ _
@[sl_canon] theorem csmD_17 (hh) : (cc0_scratch17.slice (Rect.unit (s := S20) ![17] S1.size hh)).squeeze S_ squeezes_S1_S_ = csmD 17 := csmD_congr (by decide) _
@[sl_canon] theorem slotD_17 (hh hs) : (vWd.slice (Rect.unit (s := S10240x2560) ![8704, 0] S512x2560.size hh) hs) = slotD 17 := slotD_congr (by decide) _ _
@[sl_canon] theorem srcD_17 (hh hs) : (mWd.slice (Rect.unit (s := S10240x2560) ![8704, 0] S512x2560.size hh) hs) = srcD 17 := srcD_congr (by decide) _ _
@[sl_canon] theorem csmD_18 (hh) : (cc0_scratch17.slice (Rect.unit (s := S20) ![18] S1.size hh)).squeeze S_ squeezes_S1_S_ = csmD 18 := csmD_congr (by decide) _
@[sl_canon] theorem slotD_18 (hh hs) : (vWd.slice (Rect.unit (s := S10240x2560) ![9216, 0] S512x2560.size hh) hs) = slotD 18 := slotD_congr (by decide) _ _
@[sl_canon] theorem srcD_18 (hh hs) : (mWd.slice (Rect.unit (s := S10240x2560) ![9216, 0] S512x2560.size hh) hs) = srcD 18 := srcD_congr (by decide) _ _
@[sl_canon] theorem csmD_19 (hh) : (cc0_scratch17.slice (Rect.unit (s := S20) ![19] S1.size hh)).squeeze S_ squeezes_S1_S_ = csmD 19 := csmD_congr (by decide) _
@[sl_canon] theorem slotD_19 (hh hs) : (vWd.slice (Rect.unit (s := S10240x2560) ![9728, 0] S512x2560.size hh) hs) = slotD 19 := slotD_congr (by decide) _ _
@[sl_canon] theorem srcD_19 (hh hs) : (mWd.slice (Rect.unit (s := S10240x2560) ![9728, 0] S512x2560.size hh) hs) = srcD 19 := srcD_congr (by decide) _ _

@[sl_canon] theorem csmU_k (k : Fin k0_t1_loop.trips) (hh) : (cc0_scratch16.slice (Rect.unit (s := S10) (k0_off1 k) S1.size hh)).squeeze S_ squeezes_S1_S_ = csmU (bU k) := csmU_congr (off1_eq k) _
@[sl_canon] theorem slotU_k (k : Fin k0_t1_loop.trips) (hh hs) : (vWu.slice (Rect.unit (s := S10x2560x1024) (k0_off2 k) S1x2560x1024.size hh) hs).squeeze S2560x1024 squeezes_S1x2560x1024_S2560x1024 = slotU (bU k) := slotU_congr (off2_eq k) _ _
@[sl_canon] theorem srcU_k (k : Fin k0_t1_loop.trips) (hh hs) : (mWu.slice (Rect.unit (s := S2560x10240) (k0_off3 k) S2560x1024.size hh) hs) = srcU (bU k) := srcU_congr (off3_eq k) _ _
@[sl_canon] theorem csmD_k (k : Fin k0_t2_loop.trips) (hh) : (cc0_scratch17.slice (Rect.unit (s := S20) (k0_off7 k) S1.size hh)).squeeze S_ squeezes_S1_S_ = csmD (bD k) := csmD_congr (off7_eq k) _
@[sl_canon] theorem slotD_k (k : Fin k0_t2_loop.trips) (hh hs) : (vWd.slice (Rect.unit (s := S10240x2560) (k0_off8 k) S512x2560.size hh) hs) = slotD (bD k) := slotD_congr (off8_eq k) _ _
@[sl_canon] theorem srcD_k (k : Fin k0_t2_loop.trips) (hh hs) : (mWd.slice (Rect.unit (s := S10240x2560) (k0_off8 k) S512x2560.size hh) hs) = srcD (bD k) := srcD_congr (off8_eq k) _ _

/-! ## The pieces of the state -/

section Pieces
variable (c : Dev nD)

/-- What buffer `b` of core `c` holds. -/
abbrev BufAt {sp : Space} {S : Shape} {e : EltTy} (M : Memref sig .tc sp S e) : Type := Buf (Elt F) (M.view.loc (c : Thread nD τ))
/-- A memref held on its elements at contents `f`. -/
abbrev heldP {sp : Space} {S : Shape} {e : EltTy} (M : Memref sig .tc sp S e) (f : BufAt (F := F) c M) : sProp 𝕄 :=
  M.view.loc (c : Thread nD τ) ↦[M.view.set]{fullShare} f
/-- A DMA cell at zero. -/
abbrev cellP (s : DmaSems sig S_) : sProp 𝕄 := semVal ((c : Thread nD τ), SemLoc.dma s.sem) 0

/-- The block a slot of the up weight holds after its transfer, over prior contents `f`. -/
abbrev landedU (XU : BufAt (F := F) c mWu) (b : Fin 10) (f : BufAt (F := F) c (slotU b)) : BufAt (F := F) c (slotU b) :=
  (slotU b).view.writes (Elt F) f [⟨Rect.whole S2560x1024, ReadAs.same.apply ((srcU b).view.read (Elt F) XU)⟩]
/-- Slot `b` of the up weight IN FLIGHT, issued over `f`. -/
abbrev flightU (XU : BufAt (F := F) c mWu) (b : Fin 10) : sProp 𝕄 :=
  iprop(∃ f, Transfers.Flight countersEmb (c : Thread nD τ) (SemLoc.dma (csmU b).sem) () 81920
    iprop(heldP c (slotU b) (landedU c XU b f) ∗ heldP c (srcU b) XU))
/-- Slot `b` of the up weight at rest: the slot, the block back home, the cell at zero. -/
abbrev restU (XU : BufAt (F := F) c mWu) (b : Fin 10) : sProp 𝕄 :=
  iprop((∃ f, heldP c (slotU b) f) ∗ heldP c (srcU b) XU ∗ cellP c (csmU b))

abbrev landedD (XD : BufAt (F := F) c mWd) (b : Fin 20) (f : BufAt (F := F) c (slotD b)) : BufAt (F := F) c (slotD b) :=
  (slotD b).view.writes (Elt F) f [⟨Rect.whole S512x2560, ReadAs.same.apply ((srcD b).view.read (Elt F) XD)⟩]
/-- Row block `b` of the down weight in flight; -/
abbrev flightD (XD : BufAt (F := F) c mWd) (b : Fin 20) : sProp 𝕄 :=
  iprop(∃ f, Transfers.Flight countersEmb (c : Thread nD τ) (SemLoc.dma (csmD b).sem) () 40960
    iprop(heldP c (slotD b) (landedD c XD b f) ∗ heldP c (srcD b) XD))
/-- at rest. -/
abbrev restD (XD : BufAt (F := F) c mWd) (b : Fin 20) : sProp 𝕄 :=
  iprop((∃ f, heldP c (slotD b) f) ∗ heldP c (srcD b) XD ∗ cellP c (csmD b))

end Pieces

end Cert.Proof.RunIdeal

end
-- ==== Proof.RunIdeal.Up.lean ====
/-
  `KernelIdeal`: one trip of the up-projection loop, and the loop's invariant.

  Trip `k` waits for column block `k` of the weight, multiplies the quantised input by it, scales, adds the bias, takes
  the positive part, stores the block of the hidden row and folds the block's 128-lane chunks into the running maximum.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic
public import proofs.«01_k».proof.Proof.RunIdeal.Names

@[expose] public section

noncomputable section

namespace Cert.Proof.RunIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Up
variable (c : Dev nD) (XU : BufAt (F := F) c mWu) (v210 : Vec F S16x1 .f32)
  (fq : BufAt (F := F) c vXq) (fw : BufAt (F := F) c vWus) (fb : BufAt (F := F) c vBu)

/-- The loop's region on the kernel's buffers. -/
abbrev tripU : Fin k0_t1_loop.trips → Vec F S16x128 .f32 → Prog (TpuEff nD τ sig (Elt F) Λ₀ .tc) (Vec F S16x128 .f32) :=
  k0_t1_body (F := F) mX (Memref.isWhole_whole _) mWu (Memref.isWhole_whole _) mWus (Memref.isWhole_whole _) mBu (Memref.isWhole_whole _) mWd (Memref.isWhole_whole _) mWds (Memref.isWhole_whole _) mY (Memref.isWhole_whole _) mXc (Memref.isWhole_whole _) mXs (Memref.isWhole_whole _) mHc (Memref.isWhole_whole _) mHs (Memref.isWhole_whole _) vX (Memref.isWhole_whole _) vWu (Memref.isWhole_whole _) vWus (Memref.isWhole_whole _) vBu (Memref.isWhole_whole _) vWd (Memref.isWhole_whole _) vWds (Memref.isWhole_whole _) vY (Memref.isWhole_whole _) vXc (Memref.isWhole_whole _) vXs (Memref.isWhole_whole _) vHc (Memref.isWhole_whole _) vHs (Memref.isWhole_whole _) vXq (Memref.isWhole_whole _) vH (Memref.isWhole_whole _) vHq (Memref.isWhole_whole _) vAcc (Memref.isWhole_whole _) cc0_scratch15 cc0_scratch16 cc0_scratch17 cc0_scratch18 v210

/-- The quantised (padded) input as the loop loads it. -/
abbrev xqV : Vec F S32x2560 .fp8e4m3 := vXq.view.readAt (Elt F) (Rect.unit (s := S32x2560) ![0, 0] S32x2560.size inb_S32x2560_S32x2560_0_0).toLoadRect fq
/-- Block `k` of the weight as trip `k` loads it. -/
def wuV (k : Fin k0_t1_loop.trips) : Vec F S1x2560x1024 .fp8e4m3 :=
  vWu.view.readAt (Elt F) (Rect.unit (s := S10x2560x1024) (k0_off4 k) S1x2560x1024.size (k0_off4_inb k)).toLoadRect (landedU c XU (bU k) (slotU (bU k)).view.junk)
/-- Block `k` of the weight's column scales, -/
abbrev wusV (k : Fin k0_t1_loop.trips) : Vec F S1x1024 .f32 := vWus.view.readAt (Elt F) (Rect.unit (s := S1x10240) (k0_off5 k) S1x1024.size (k0_off5_inb k)).toLoadRect fw
/-- and of the bias. -/
abbrev buV (k : Fin k0_t1_loop.trips) : Vec F S1x1024 .f32 := vBu.view.readAt (Elt F) (Rect.unit (s := S1x10240) (k0_off5 k) S1x1024.size (k0_off5_inb k)).toLoadRect fb
/-- Block `k` of the hidden row. -/
abbrev hBlk (k : Fin k0_t1_loop.trips) : Vec F S16x1024 .f32 := k0_pay3 v210 (xqV c fq) (wuV c XU k) (wusV c fw k) (buV c fb k)
/-- The running maximum after trip `k`, from the one before it. -/
abbrev maxNext (k : Fin k0_t1_loop.trips) (acc : Vec F S16x128 .f32) : Vec F S16x128 .f32 :=
  k0_pay18 (k0_pay2 v210 (xqV c fq) (wuV c XU k) (wusV c fw k) (buV c fb k)) (k0_pay4 v210 acc (xqV c fq) (wuV c XU k) (wusV c fw k) (buV c fb k))

/-- The hidden row's buffer after `k` trips over contents `g0`. -/
def hAcc (g0 : BufAt (F := F) c vH) : ℕ → BufAt (F := F) c vH
  | 0 => g0
  | k + 1 => if h : k < k0_t1_loop.trips then
      vH.view.writes (Elt F) (hAcc g0 k) [⟨Rect.unit (s := S16x10240) (k0_off6 ⟨k, h⟩) S16x1024.size (k0_off6_inb ⟨k, h⟩), hBlk c XU v210 fq fw fb ⟨k, h⟩⟩]
    else hAcc g0 k
/-- The running maximum after `k` trips. -/
def mAcc : ℕ → Vec F S16x128 .f32
  | 0 => k0_pay17 (F := F)
  | k + 1 => if h : k < k0_t1_loop.trips then maxNext c XU v210 fq fw fb ⟨k, h⟩ (mAcc k) else mAcc k

set_option maxHeartbeats 0 in
set_option backward.proofsInPublic true in
/-- ONE TRIP: block `k` in flight before it, at rest after it; the hidden row's block stored, the maximum folded. -/
theorem tripRun1 (k : Fin k0_t1_loop.trips) (g : BufAt (F := F) c vH) (acc : Vec F S16x128 .f32) :
    iprop(heldP c vXq fq ∗ heldP c vWus fw ∗ heldP c vBu fb ∗ heldP c vH g ∗ flightU c XU (bU k) ∗ ∃ W, owes (c : Thread nD τ) 0 W) ⊢
      wp frame (wpE (defs₀ (F := F)) 𝒱₀ (c : Thread nD τ) none) Set.univ (tripU v210 k acc)
        (fun r => iprop(⌜r = maxNext c XU v210 fq fw fb k acc⌝ ∗ heldP c vXq fq ∗ heldP c vWus fw ∗ heldP c vBu fb
          ∗ heldP c vH (vH.view.writes (Elt F) g [⟨Rect.unit (s := S16x10240) (k0_off6 k) S16x1024.size (k0_off6_inb k), hBlk c XU v210 fq fw fb k⟩])
          ∗ restU c XU (bU k) ∗ ∃ W, owes (c : Thread nD τ) 0 W)) := by
  iintro ⟨HQ, HW, HB, HH, ⟨%f, HF⟩, ⟨%W, Howes⟩⟩
  unfold tripU
  sl_unfold [k0_t1_body]
  sl_exec
  sl_step
  isplitr; · ipureintro; rfl
  isplitl [HQ]; · iexact HQ
  isplitl [HW]; · iexact HW
  isplitl [HB]; · iexact HB
  isplitl [HH]; · iexact HH
  isplitl [HF_dst HF_src HF]
  · isplitl [HF_dst]; · iexists _; iexact HF_dst
    isplitl [HF_src]; · iexact HF_src
    iexact HF
  iexists _; iexact Howes

/-- The state before trip `k`: blocks before `k` at rest, the others in flight. -/
def invU (g0 : BufAt (F := F) c vH) (k : ℕ) (acc : Vec F S16x128 .f32) : sProp 𝕄 :=
  iprop(⌜acc = mAcc c XU v210 fq fw fb k⌝ ∗ heldP c vXq fq ∗ heldP c vWus fw ∗ heldP c vBu fb ∗ heldP c vH (hAcc c XU v210 fq fw fb g0 k)
    ∗ bigSep (Ring.rangeSet 10 k 10) (flightU c XU) ∗ bigSep (Ring.rangeSet 10 0 k) (restU c XU) ∗ ∃ W, owes (c : Thread nD τ) 0 W)

theorem invU_step (g0 : BufAt (F := F) c vH) (k : Fin k0_t1_loop.trips) (acc : Vec F S16x128 .f32) :
    invU c XU v210 fq fw fb g0 k.val acc ⊢ wp frame (wpE (defs₀ (F := F)) 𝒱₀ (c : Thread nD τ) none) Set.univ (tripU v210 k acc)
      (fun r => invU c XU v210 fq fw fb g0 (k.val + 1) r) := by
  have h10 : k.val < 10 := Nat.lt_of_lt_of_eq k.isLt trips1
  have e1 : hAcc c XU v210 fq fw fb g0 (k.val + 1) = vH.view.writes (Elt F) (hAcc c XU v210 fq fw fb g0 k.val) [⟨Rect.unit (s := S16x10240) (k0_off6 k) S16x1024.size (k0_off6_inb k), hBlk c XU v210 fq fw fb k⟩] := by
    rw [hAcc, dif_pos k.isLt]
  have e2 : mAcc c XU v210 fq fw fb (k.val + 1) = maxNext c XU v210 fq fw fb k (mAcc c XU v210 fq fw fb k.val) := by
    rw [mAcc, dif_pos k.isLt]
  unfold invU
  rw [e1, e2, Ring.bigSep_rangeSet_head h10 h10, Ring.bigSep_rangeSet_last (lo := 0) (hi := k.val + 1) (Nat.succ_pos _) h10]
  iintro ⟨%ha, HQ, HW, HB, HH, ⟨HF, HFs⟩, Hr, Ho⟩
  subst ha
  iapply (wp_wand_r Idealize.ShloMosaic.frame (wpE (defs₀ (F := F)) 𝒱₀ (c : Thread nD τ) none) Set.univ)
  isplitl [HQ HW HB HH HF Ho]
  · iapply (tripRun1 c XU v210 fq fw fb k _ _)
    isplitl [HQ]; · iexact HQ
    isplitl [HW]; · iexact HW
    isplitl [HB]; · iexact HB
    isplitl [HH]; · iexact HH
    isplitl [HF]; · iexact HF
    iexact Ho
  iintro %r ⟨%hr, HQ, HW, HB, HH, HR, Ho⟩
  isplitr; · ipureintro; exact hr
  isplitl [HQ]; · iexact HQ
  isplitl [HW]; · iexact HW
  isplitl [HB]; · iexact HB
  isplitl [HH]; · iexact HH
  isplitl [HFs]; · iexact HFs
  isplitl [HR Hr]
  · isplitl [HR]; · iexact HR
    iexact Hr
  iexact Ho

set_option warn.classDefReducibility false in
/-- THE UP LOOP'S INVARIANT, instanced. -/
@[sl_loop] def loopInvU (g0 : BufAt (F := F) c vH) :
    LoopInvTy_k0_t1 (F := F) Unit ℕ (UU nD τ) ℕ 𝒱₀ c none Set.univ mX (Memref.isWhole_whole _) mWu (Memref.isWhole_whole _) mWus (Memref.isWhole_whole _) mBu (Memref.isWhole_whole _) mWd (Memref.isWhole_whole _) mWds (Memref.isWhole_whole _) mY (Memref.isWhole_whole _) mXc (Memref.isWhole_whole _) mXs (Memref.isWhole_whole _) mHc (Memref.isWhole_whole _) mHs (Memref.isWhole_whole _) vX (Memref.isWhole_whole _) vWu (Memref.isWhole_whole _) vWus (Memref.isWhole_whole _) vBu (Memref.isWhole_whole _) vWd (Memref.isWhole_whole _) vWds (Memref.isWhole_whole _) vY (Memref.isWhole_whole _) vXc (Memref.isWhole_whole _) vXs (Memref.isWhole_whole _) vHc (Memref.isWhole_whole _) vHs (Memref.isWhole_whole _) vXq (Memref.isWhole_whole _) vH (Memref.isWhole_whole _) vHq (Memref.isWhole_whole _) vAcc (Memref.isWhole_whole _) cc0_scratch15 cc0_scratch16 cc0_scratch17 cc0_scratch18 v210 (k0_pay17 (F := F)) where
  inv k acc := invU c XU v210 fq fw fb g0 k acc
  step k acc := invU_step c XU v210 fq fw fb g0 k acc

end Up

end Cert.Proof.RunIdeal

end
-- ==== Proof.RunIdeal.Down.lean ====
/-
  `KernelIdeal`: one trip of the down-projection loop, and the loop's invariant.

  Trip `k` waits for row block `k` of the weight and adds to the accumulator the product of the hidden codes' column
  block `k` with it.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic
public import proofs.«01_k».proof.Proof.RunIdeal.Names

@[expose] public section

noncomputable section

namespace Cert.Proof.RunIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Down
variable (c : Dev nD) (XD : BufAt (F := F) c mWd) (v300 : FVec F S16x1 .f32) (v479 : Vec F S16x1024 .f32) (v480 : FVec F S16x1024 .f32)
  (fq : BufAt (F := F) c vHq)

/-- The loop's region on the kernel's buffers. -/
abbrev tripD : Fin k0_t2_loop.trips → Unit → Prog (TpuEff nD τ sig (Elt F) Λ₀ .tc) Unit :=
  k0_t2_body (F := F) mX (Memref.isWhole_whole _) mWu (Memref.isWhole_whole _) mWus (Memref.isWhole_whole _) mBu (Memref.isWhole_whole _) mWd (Memref.isWhole_whole _) mWds (Memref.isWhole_whole _) mY (Memref.isWhole_whole _) mXc (Memref.isWhole_whole _) mXs (Memref.isWhole_whole _) mHc (Memref.isWhole_whole _) mHs (Memref.isWhole_whole _) vX (Memref.isWhole_whole _) vWu (Memref.isWhole_whole _) vWus (Memref.isWhole_whole _) vBu (Memref.isWhole_whole _) vWd (Memref.isWhole_whole _) vWds (Memref.isWhole_whole _) vY (Memref.isWhole_whole _) vXc (Memref.isWhole_whole _) vXs (Memref.isWhole_whole _) vHc (Memref.isWhole_whole _) vHs (Memref.isWhole_whole _) vXq (Memref.isWhole_whole _) vH (Memref.isWhole_whole _) vHq (Memref.isWhole_whole _) vAcc (Memref.isWhole_whole _) cc0_scratch15 cc0_scratch16 cc0_scratch17 cc0_scratch18 v300 v479 v480

/-- Column block `k` of the hidden codes as trip `k` loads it, -/
abbrev hqV (k : Fin k0_t2_loop.trips) : Vec F S32x512 .fp8e4m3 := vHq.view.readAt (Elt F) (Rect.unit (s := S32x10240) (k0_off9 k) S32x512.size (k0_off9_inb k)).toLoadRect fq
/-- row block `k` of the weight, -/
def wdV (k : Fin k0_t2_loop.trips) : Vec F S512x2560 .fp8e4m3 :=
  vWd.view.readAt (Elt F) (Rect.unit (s := S10240x2560) (k0_off10 k) S512x2560.size (k0_off10_inb k)).toLoadRect (landedD c XD (bD k) (slotD (bD k)).view.junk)
/-- and the accumulator. -/
abbrev accV (g : BufAt (F := F) c vAcc) : Vec F S16x2560 .f32 := vAcc.view.readAt (Elt F) (Rect.unit (s := S16x2560) ![0, 0] S16x2560.size inb_S16x2560_S16x2560_0_0).toLoadRect g

/-- The accumulator's buffer after trip `k`, from the one before it. -/
abbrev accNext (k : Fin k0_t2_loop.trips) (g : BufAt (F := F) c vAcc) : BufAt (F := F) c vAcc :=
  vAcc.view.writes (Elt F) g [⟨Rect.unit (s := S16x2560) ![0, 0] S16x2560.size inb_S16x2560_S16x2560_0_0, k0_pay61 (hqV c fq k) (wdV c XD k) (accV c g)⟩]
/-- The accumulator's buffer after `k` trips over contents `g0`. -/
def dAcc (g0 : BufAt (F := F) c vAcc) : ℕ → BufAt (F := F) c vAcc
  | 0 => g0
  | k + 1 => if h : k < k0_t2_loop.trips then accNext c XD fq ⟨k, h⟩ (dAcc g0 k) else dAcc g0 k

set_option maxHeartbeats 0 in
set_option backward.proofsInPublic true in
/-- ONE TRIP: block `k` in flight before it, at rest after it; its product added. -/
theorem tripRun2 (k : Fin k0_t2_loop.trips) (g : BufAt (F := F) c vAcc) (u : Unit) :
    iprop(heldP c vHq fq ∗ heldP c vAcc g ∗ flightD c XD (bD k) ∗ ∃ W, owes (c : Thread nD τ) 0 W) ⊢
      wp frame (wpE (defs₀ (F := F)) 𝒱₀ (c : Thread nD τ) none) Set.univ (tripD v300 v479 v480 k u)
        (fun _ => iprop(heldP c vHq fq ∗ heldP c vAcc (accNext c XD fq k g) ∗ restD c XD (bD k) ∗ ∃ W, owes (c : Thread nD τ) 0 W)) := by
  iintro ⟨HQ, HH, ⟨%f, HF⟩, ⟨%W, Howes⟩⟩
  unfold tripD
  sl_unfold [k0_t2_body]
  sl_exec
  sl_step
  isplitl [HQ]; · iexact HQ
  isplitl [HH]; · iexact HH
  isplitl [HF_dst HF_src HF]
  · isplitl [HF_dst]; · iexists _; iexact HF_dst
    isplitl [HF_src]; · iexact HF_src
    iexact HF
  iexists _; iexact Howes

/-- The state before trip `k`: blocks before `k` at rest, the others in flight. -/
def invD (g0 : BufAt (F := F) c vAcc) (k : ℕ) : sProp 𝕄 :=
  iprop(heldP c vHq fq ∗ heldP c vAcc (dAcc c XD fq g0 k)
    ∗ bigSep (Ring.rangeSet 20 k 20) (flightD c XD) ∗ bigSep (Ring.rangeSet 20 0 k) (restD c XD) ∗ ∃ W, owes (c : Thread nD τ) 0 W)

theorem invD_step (g0 : BufAt (F := F) c vAcc) (k : Fin k0_t2_loop.trips) (u : Unit) :
    invD c XD fq g0 k.val ⊢ wp frame (wpE (defs₀ (F := F)) 𝒱₀ (c : Thread nD τ) none) Set.univ (tripD v300 v479 v480 k u)
      (fun _ => invD c XD fq g0 (k.val + 1)) := by
  have h20 : k.val < 20 := Nat.lt_of_lt_of_eq k.isLt trips2
  have e1 : dAcc c XD fq g0 (k.val + 1) = accNext c XD fq k (dAcc c XD fq g0 k.val) := by
    rw [dAcc, dif_pos k.isLt]
  unfold invD
  rw [e1, Ring.bigSep_rangeSet_head h20 h20, Ring.bigSep_rangeSet_last (lo := 0) (hi := k.val + 1) (Nat.succ_pos _) h20]
  iintro ⟨HQ, HH, ⟨HF, HFs⟩, Hr, Ho⟩
  iapply (wp_wand_r Idealize.ShloMosaic.frame (wpE (defs₀ (F := F)) 𝒱₀ (c : Thread nD τ) none) Set.univ)
  isplitl [HQ HH HF Ho]
  · iapply (tripRun2 c XD v300 v479 v480 fq k _ _)
    isplitl [HQ]; · iexact HQ
    isplitl [HH]; · iexact HH
    isplitl [HF]; · iexact HF
    iexact Ho
  iintro %r ⟨HQ, HH, HR, Ho⟩
  isplitl [HQ]; · iexact HQ
  isplitl [HH]; · iexact HH
  isplitl [HFs]; · iexact HFs
  isplitl [HR Hr]
  · isplitl [HR]; · iexact HR
    iexact Hr
  iexact Ho

set_option warn.classDefReducibility false in
/-- THE DOWN LOOP'S INVARIANT, instanced. -/
@[sl_loop] def loopInvD (g0 : BufAt (F := F) c vAcc) :
    LoopInvTy_k0_t2 (F := F) Unit ℕ (UU nD τ) ℕ 𝒱₀ c none Set.univ mX (Memref.isWhole_whole _) mWu (Memref.isWhole_whole _) mWus (Memref.isWhole_whole _) mBu (Memref.isWhole_whole _) mWd (Memref.isWhole_whole _) mWds (Memref.isWhole_whole _) mY (Memref.isWhole_whole _) mXc (Memref.isWhole_whole _) mXs (Memref.isWhole_whole _) mHc (Memref.isWhole_whole _) mHs (Memref.isWhole_whole _) vX (Memref.isWhole_whole _) vWu (Memref.isWhole_whole _) vWus (Memref.isWhole_whole _) vBu (Memref.isWhole_whole _) vWd (Memref.isWhole_whole _) vWds (Memref.isWhole_whole _) vY (Memref.isWhole_whole _) vXc (Memref.isWhole_whole _) vXs (Memref.isWhole_whole _) vHc (Memref.isWhole_whole _) vHs (Memref.isWhole_whole _) vXq (Memref.isWhole_whole _) vH (Memref.isWhole_whole _) vHq (Memref.isWhole_whole _) vAcc (Memref.isWhole_whole _) cc0_scratch15 cc0_scratch16 cc0_scratch17 cc0_scratch18 v300 v479 v480 where
  inv k _ := invD c XD fq g0 k
  step k u := invD_step c XD v300 v479 v480 fq g0 k u

end Down

end Cert.Proof.RunIdeal

end
-- ==== Proof.RunIdeal.Vals.lean ====
/-
  `KernelIdeal`: what the kernel's body computes, step by step, from the contents of the argument buffers.

  Every definition is the value one step of the body stores or carries; `gX`, `gU`, … are the argument buffers'
  contents, `f…` what a scratch buffer held before (the results do not depend on it, as the value modules show).
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic
public import proofs.«01_k».proof.Proof.RunIdeal.Up
public import proofs.«01_k».proof.Proof.RunIdeal.Down

@[expose] public section

noncomputable section

namespace Cert.Proof.RunIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Vals
variable (c : Dev nD) (gX : BufAt (F := F) c mX) (gU : BufAt (F := F) c mWu) (gWus : BufAt (F := F) c mWus) (gBu : BufAt (F := F) c mBu)
  (gD : BufAt (F := F) c mWd) (gWds : BufAt (F := F) c mWds)
  (fH : BufAt (F := F) c vH)

/-- The input, copied in and loaded. -/
def xV : Vec F S16x2560 .bf16 := vX.view.readAt (Elt F) (Rect.unit (s := S16x2560) ![0, 0] S16x2560.size inb_S16x2560_S16x2560_0_0).toLoadRect
  (vX.view.writes (Elt F) vX.view.junk [⟨Rect.whole S16x2560, ReadAs.same.apply (mX.view.read (Elt F) gX)⟩])
/-- Its rows' scales. -/
def xsC : FVec F S16x1 .f32 := k0_pay9 (k0_pay6 (xV c gX)) (k0_pay7 (F := F))
/-- Its codes, -/
def xcB : FVec F S16x2560 .fp8e4m3 := k0_pay14 (k0_pay5 (xV c gX)) (k0_pay10 (k0_pay6 (xV c gX)) (k0_pay7 (F := F))) (k0_pay11 (k0_pay6 (xV c gX)) (k0_pay7 (F := F))) k0_pay12
/-- the codes over sixteen rows of zeros, -/
def xqB : FVec F S32x2560 .fp8e4m3 := k0_pay15 (k0_pay5 (xV c gX)) (k0_pay10 (k0_pay6 (xV c gX)) (k0_pay7 (F := F))) (k0_pay11 (k0_pay6 (xV c gX)) (k0_pay7 (F := F))) k0_pay12
/-- and the buffer they are kept in. -/
def bXq : BufAt (F := F) c vXq := vXq.view.writes (Elt F) vXq.view.junk [⟨Rect.unit (s := S32x2560) ![0, 0] S32x2560.size inb_S32x2560_S32x2560_0_0, xqB c gX⟩]
/-- The column scales' buffer, -/
def bWus : BufAt (F := F) c vWus := vWus.view.writes (Elt F) vWus.view.junk [⟨Rect.whole S1x10240, ReadAs.same.apply (mWus.view.read (Elt F) gWus)⟩]
/-- the bias's, -/
def bBu : BufAt (F := F) c vBu := vBu.view.writes (Elt F) vBu.view.junk [⟨Rect.whole S1x10240, ReadAs.same.apply (mBu.view.read (Elt F) gBu)⟩]
/-- the hidden rows' after the up loop, -/
def bH : BufAt (F := F) c vH := hAcc c gU (xsC c gX) (bXq c gX) (bWus c gWus) (bBu c gBu) fH k0_t1_loop.trips
/-- and the running maximum after it. -/
def mxV : Vec F S16x128 .f32 := mAcc c gU (xsC c gX) (bXq c gX) (bWus c gWus) (bBu c gBu) k0_t1_loop.trips
/-- The hidden rows' scales, -/
def hsC : FVec F S16x1 .f32 := k0_pay23 (k0_pay20 (mxV c gX gU gWus gBu)) (k0_pay21 (mxV c gX gU gWus gBu)) k0_pay22
/-- the scales' inverses, -/
def hiC : FVec F S16x1 .f32 := k0_pay24 (k0_pay19 (mxV c gX gU gWus gBu))
/-- the scales as a row. -/
def hsR : FVec F S1x16 .f32 := k0_pay25 (k0_pay20 (mxV c gX gU gWus gBu)) (k0_pay21 (mxV c gX gU gWus gBu)) k0_pay22
/-- Column block at `off` of the hidden rows. -/
def hL (off : Fin 2 → ℕ) (h : ∀ a, off a + S16x1024.size a ≤ S16x10240.size a) : Vec F S16x1024 .f32 :=
  vH.view.readAt (Elt F) (Rect.unit (s := S16x10240) off S16x1024.size h).toLoadRect (bH c gX gU gWus gBu fH)
/-- The hidden codes' blocks as they are stored, last first, -/
def hcP : List (View.Piece (Elt F) S16x10240 .fp8e4m3) :=
  [⟨Rect.unit (s := S16x10240) ![0, 9216] S16x1024.size inb_S16x10240_S16x1024_0_9216, k0_pay58 (hL c gX gU gWus gBu fH ![0, 9216] inb_S16x10240_S16x1024_0_9216) (k0_pay56 (hiC c gX gU gWus gBu))⟩,
   ⟨Rect.unit (s := S16x10240) ![0, 8192] S16x1024.size inb_S16x10240_S16x1024_0_8192, k0_pay54 (hiC c gX gU gWus gBu) (hL c gX gU gWus gBu fH ![0, 8192] inb_S16x10240_S16x1024_0_8192)⟩,
   ⟨Rect.unit (s := S16x10240) ![0, 7168] S16x1024.size inb_S16x10240_S16x1024_0_7168, k0_pay51 (hiC c gX gU gWus gBu) (hL c gX gU gWus gBu fH ![0, 7168] inb_S16x10240_S16x1024_0_7168)⟩,
   ⟨Rect.unit (s := S16x10240) ![0, 6144] S16x1024.size inb_S16x10240_S16x1024_0_6144, k0_pay48 (hiC c gX gU gWus gBu) (hL c gX gU gWus gBu fH ![0, 6144] inb_S16x10240_S16x1024_0_6144)⟩,
   ⟨Rect.unit (s := S16x10240) ![0, 5120] S16x1024.size inb_S16x10240_S16x1024_0_5120, k0_pay45 (hiC c gX gU gWus gBu) (hL c gX gU gWus gBu fH ![0, 5120] inb_S16x10240_S16x1024_0_5120)⟩,
   ⟨Rect.unit (s := S16x10240) ![0, 4096] S16x1024.size inb_S16x10240_S16x1024_0_4096, k0_pay41 (hiC c gX gU gWus gBu) (hL c gX gU gWus gBu fH ![0, 4096] inb_S16x10240_S16x1024_0_4096)⟩,
   ⟨Rect.unit (s := S16x10240) ![0, 3072] S16x1024.size inb_S16x10240_S16x1024_0_3072, k0_pay38 (hiC c gX gU gWus gBu) (hL c gX gU gWus gBu fH ![0, 3072] inb_S16x10240_S16x1024_0_3072)⟩,
   ⟨Rect.unit (s := S16x10240) ![0, 2048] S16x1024.size inb_S16x10240_S16x1024_0_2048, k0_pay34 (hiC c gX gU gWus gBu) (hL c gX gU gWus gBu fH ![0, 2048] inb_S16x10240_S16x1024_0_2048)⟩,
   ⟨Rect.unit (s := S16x10240) ![0, 1024] S16x1024.size inb_S16x10240_S16x1024_0_1024, k0_pay31 (hiC c gX gU gWus gBu) (hL c gX gU gWus gBu fH ![0, 1024] inb_S16x10240_S16x1024_0_1024)⟩,
   ⟨Rect.unit (s := S16x10240) ![0, 0] S16x1024.size inb_S16x10240_S16x1024_0_0, k0_pay28 (k0_pay27 (k0_pay19 (mxV c gX gU gWus gBu)) (hL c gX gU gWus gBu fH ![0, 0] inb_S16x10240_S16x1024_0_0))⟩]
/-- and the padded ones for the second product. -/
def hqP : List (View.Piece (Elt F) S32x10240 .fp8e4m3) :=
  [⟨Rect.unit (s := S32x10240) ![0, 9216] S32x1024.size inb_S32x10240_S32x1024_0_9216, k0_pay59 (hL c gX gU gWus gBu fH ![0, 9216] inb_S16x10240_S16x1024_0_9216) (k0_pay56 (hiC c gX gU gWus gBu))⟩,
   ⟨Rect.unit (s := S32x10240) ![0, 8192] S32x1024.size inb_S32x10240_S32x1024_0_8192, k0_pay55 (hiC c gX gU gWus gBu) (hL c gX gU gWus gBu fH ![0, 8192] inb_S16x10240_S16x1024_0_8192)⟩,
   ⟨Rect.unit (s := S32x10240) ![0, 7168] S32x1024.size inb_S32x10240_S32x1024_0_7168, k0_pay52 (hiC c gX gU gWus gBu) (hL c gX gU gWus gBu fH ![0, 7168] inb_S16x10240_S16x1024_0_7168)⟩,
   ⟨Rect.unit (s := S32x10240) ![0, 6144] S32x1024.size inb_S32x10240_S32x1024_0_6144, k0_pay49 (hiC c gX gU gWus gBu) (hL c gX gU gWus gBu fH ![0, 6144] inb_S16x10240_S16x1024_0_6144)⟩,
   ⟨Rect.unit (s := S32x10240) ![0, 5120] S32x1024.size inb_S32x10240_S32x1024_0_5120, k0_pay46 (hiC c gX gU gWus gBu) (hL c gX gU gWus gBu fH ![0, 5120] inb_S16x10240_S16x1024_0_5120)⟩,
   ⟨Rect.unit (s := S32x10240) ![0, 4096] S32x1024.size inb_S32x10240_S32x1024_0_4096, k0_pay43 (k0_pay42 (hiC c gX gU gWus gBu) (hL c gX gU gWus gBu fH ![0, 4096] inb_S16x10240_S16x1024_0_4096))⟩,
   ⟨Rect.unit (s := S32x10240) ![0, 3072] S32x1024.size inb_S32x10240_S32x1024_0_3072, k0_pay39 (hiC c gX gU gWus gBu) (hL c gX gU gWus gBu fH ![0, 3072] inb_S16x10240_S16x1024_0_3072)⟩,
   ⟨Rect.unit (s := S32x10240) ![0, 2048] S32x1024.size inb_S32x10240_S32x1024_0_2048, k0_pay36 (k0_pay33 (hiC c gX gU gWus gBu) (hL c gX gU gWus gBu fH ![0, 2048] inb_S16x10240_S16x1024_0_2048)) (k0_pay35 (F := F))⟩,
   ⟨Rect.unit (s := S32x10240) ![0, 1024] S32x1024.size inb_S32x10240_S32x1024_0_1024, k0_pay32 (hiC c gX gU gWus gBu) (hL c gX gU gWus gBu fH ![0, 1024] inb_S16x10240_S16x1024_0_1024)⟩,
   ⟨Rect.unit (s := S32x10240) ![0, 0] S32x1024.size inb_S32x10240_S32x1024_0_0, k0_pay29 (k0_pay26 (k0_pay19 (mxV c gX gU gWus gBu)) (hL c gX gU gWus gBu fH ![0, 0] inb_S16x10240_S16x1024_0_0))⟩]
/-- The padded codes' buffer. -/
def bHq : BufAt (F := F) c vHq := vHq.view.writes (Elt F) vHq.view.junk (hqP c gX gU gWus gBu fH)
/-- The accumulator's, zeroed, -/
def bAcc0 : BufAt (F := F) c vAcc := vAcc.view.writes (Elt F) vAcc.view.junk [⟨Rect.unit (s := S16x2560) ![0, 0] S16x2560.size inb_S16x2560_S16x2560_0_0, k0_pay60 (F := F)⟩]
/-- and after the down loop. -/
def bAcc : BufAt (F := F) c vAcc := dAcc c gD (bHq c gX gU gWus gBu fH) (bAcc0 c) k0_t2_loop.trips
/-- The down projection's column scales, copied in and loaded. -/
def wdsV : Vec F S2560 .f32 := vWds.view.readAt (Elt F) (Rect.unit (s := S2560) ![0] S2560.size inb_S2560_S2560_0).toLoadRect
  (vWds.view.writes (Elt F) vWds.view.junk [⟨Rect.whole S2560, ReadAs.same.apply (mWds.view.read (Elt F) gWds)⟩])
/-- The output in bf16. -/
def yB : FVec F S16x2560 .bf16 := k0_pay1 (k0_pay62 (hsC c gX gU gWus gBu) (wdsV c gWds) (accV c (bAcc c gX gU gWus gBu gD fH)))

/-! ## The results' buffers: what was stored in VMEM, copied out -/

def outY (fY : BufAt (F := F) c vY) (oY : BufAt (F := F) c mY) : BufAt (F := F) c mY :=
  mY.view.writes (Elt F) oY [⟨Rect.whole S16x2560, ReadAs.same.apply (vY.view.read (Elt F) (vY.view.writes (Elt F) fY [⟨Rect.unit (s := S16x2560) ![0, 0] S16x2560.size inb_S16x2560_S16x2560_0_0, yB c gX gU gWus gBu gD gWds fH⟩]))⟩]
def outXc (fXc : BufAt (F := F) c vXc) (oXc : BufAt (F := F) c mXc) : BufAt (F := F) c mXc :=
  mXc.view.writes (Elt F) oXc [⟨Rect.whole S16x2560, ReadAs.same.apply (vXc.view.read (Elt F) (vXc.view.writes (Elt F) fXc [⟨Rect.unit (s := S16x2560) ![0, 0] S16x2560.size inb_S16x2560_S16x2560_0_0, xcB c gX⟩]))⟩]
def outXs (fXs : BufAt (F := F) c vXs) (oXs : BufAt (F := F) c mXs) : BufAt (F := F) c mXs :=
  mXs.view.writes (Elt F) oXs [⟨Rect.whole S1x16, ReadAs.same.apply (vXs.view.read (Elt F) (vXs.view.writes (Elt F) fXs [⟨Rect.unit (s := S1x16) ![0, 0] S1x16.size inb_S1x16_S1x16_0_0, k0_pay16 (xsC c gX)⟩]))⟩]
def outHc (fHc : BufAt (F := F) c vHc) (oHc : BufAt (F := F) c mHc) : BufAt (F := F) c mHc :=
  mHc.view.writes (Elt F) oHc [⟨Rect.whole S16x10240, ReadAs.same.apply (vHc.view.read (Elt F) (vHc.view.writes (Elt F) fHc (hcP c gX gU gWus gBu fH)))⟩]
def outHs (fHs : BufAt (F := F) c vHs) (oHs : BufAt (F := F) c mHs) : BufAt (F := F) c mHs :=
  mHs.view.writes (Elt F) oHs [⟨Rect.whole S1x16, ReadAs.same.apply (vHs.view.read (Elt F) (vHs.view.writes (Elt F) fHs [⟨Rect.unit (s := S1x16) ![0, 0] S1x16.size inb_S1x16_S1x16_0_0, hsR c gX gU gWus gBu⟩]))⟩]

end Vals

end Cert.Proof.RunIdeal

end
-- ==== Proof.RunIdeal.Body.lean ====
/-
  `KernelIdeal`: the kernel body's run, at any contents of its buffers.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic
public import proofs.«01_k».proof.Proof.RunIdeal.Vals

@[expose] public section

noncomputable section

namespace Cert.Proof.RunIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

section Body
variable (c : Dev nD) (gX : BufAt (F := F) c mX) (gU : BufAt (F := F) c mWu) (gWus : BufAt (F := F) c mWus) (gBu : BufAt (F := F) c mBu)
  (gD : BufAt (F := F) c mWd) (gWds : BufAt (F := F) c mWds)
  (oY : BufAt (F := F) c mY) (oXc : BufAt (F := F) c mXc) (oXs : BufAt (F := F) c mXs) (oHc : BufAt (F := F) c mHc) (oHs : BufAt (F := F) c mHs)
  (fX : BufAt (F := F) c vX) (fWus : BufAt (F := F) c vWus) (fBu : BufAt (F := F) c vBu) (fWds : BufAt (F := F) c vWds) (fY : BufAt (F := F) c vY) (fXc : BufAt (F := F) c vXc) (fXs : BufAt (F := F) c vXs) (fHc : BufAt (F := F) c vHc) (fHs : BufAt (F := F) c vHs) (fXq : BufAt (F := F) c vXq) (fH : BufAt (F := F) c vH) (fHq : BufAt (F := F) c vHq) (fAcc : BufAt (F := F) c vAcc) (W : Waits sig Unit)

/-- The kernel's body on its buffers. -/
abbrev bodyK : Prog (TpuEff nD τ sig (Elt F) Λ₀ .tc) PUnit :=
  cc0_relu_mlp_fp8 mX (Memref.isWhole_whole _) mWu (Memref.isWhole_whole _) mWus (Memref.isWhole_whole _) mBu (Memref.isWhole_whole _) mWd (Memref.isWhole_whole _) mWds (Memref.isWhole_whole _) mY (Memref.isWhole_whole _) mXc (Memref.isWhole_whole _) mXs (Memref.isWhole_whole _) mHc (Memref.isWhole_whole _) mHs (Memref.isWhole_whole _) vX (Memref.isWhole_whole _) vWu (Memref.isWhole_whole _) vWus (Memref.isWhole_whole _) vBu (Memref.isWhole_whole _) vWd (Memref.isWhole_whole _) vWds (Memref.isWhole_whole _) vY (Memref.isWhole_whole _) vXc (Memref.isWhole_whole _) vXs (Memref.isWhole_whole _) vHc (Memref.isWhole_whole _) vHs (Memref.isWhole_whole _) vXq (Memref.isWhole_whole _) vH (Memref.isWhole_whole _) vHq (Memref.isWhole_whole _) vAcc (Memref.isWhole_whole _) cc0_scratch15 cc0_scratch16 cc0_scratch17 cc0_scratch18

/-- What the body needs. -/
abbrev PRE : sProp 𝕄 :=
  iprop(bigSep Finset.univ (restU c gU) ∗ bigSep Finset.univ (restD c gD) ∗ heldP c mX gX ∗ heldP c mWus gWus ∗ heldP c mBu gBu ∗ heldP c mWds gWds ∗ heldP c mY oY ∗ heldP c mXc oXc ∗ heldP c mXs oXs ∗ heldP c mHc oHc ∗ heldP c mHs oHs ∗ heldP c vX fX ∗ heldP c vWus fWus ∗ heldP c vBu fBu ∗ heldP c vWds fWds ∗ heldP c vY fY ∗ heldP c vXc fXc ∗ heldP c vXs fXs ∗ heldP c vHc fHc ∗ heldP c vHs fHs ∗ heldP c vXq fXq ∗ heldP c vH fH ∗ heldP c vHq fHq ∗ heldP c vAcc fAcc ∗ cellP c (csmS 0) ∗ cellP c (csmS 1) ∗ cellP c (csmS 2) ∗ cellP c (csmS 3) ∗ cellP c (csmO 0) ∗ cellP c (csmO 1) ∗ cellP c (csmO 2) ∗ cellP c (csmO 3) ∗ cellP c (csmO 4) ∗ owes (c : Thread nD τ) 0 W)

/-- What it hands back. -/
abbrev POST : sProp 𝕄 :=
  iprop(bigSep Finset.univ (restU c gU) ∗ bigSep Finset.univ (restD c gD) ∗ heldP c mX gX ∗ heldP c mWus gWus ∗ heldP c mBu gBu ∗ heldP c mWds gWds ∗ heldP c mY (outY c gX gU gWus gBu gD gWds fH fY oY) ∗ heldP c mXc (outXc c gX fXc oXc) ∗ heldP c mXs (outXs c gX fXs oXs) ∗ heldP c mHc (outHc c gX gU gWus gBu fH fHc oHc) ∗ heldP c mHs (outHs c gX gU gWus gBu fHs oHs) ∗ (∃ f, heldP c vX f) ∗ (∃ f, heldP c vWus f) ∗ (∃ f, heldP c vBu f) ∗ (∃ f, heldP c vWds f) ∗ (∃ f, heldP c vY f) ∗ (∃ f, heldP c vXc f) ∗ (∃ f, heldP c vXs f) ∗ (∃ f, heldP c vHc f) ∗ (∃ f, heldP c vHs f) ∗ (∃ f, heldP c vXq f) ∗ (∃ f, heldP c vH f) ∗ (∃ f, heldP c vHq f) ∗ (∃ f, heldP c vAcc f) ∗ cellP c (csmS 0) ∗ cellP c (csmS 1) ∗ cellP c (csmS 2) ∗ cellP c (csmS 3) ∗ cellP c (csmO 0) ∗ cellP c (csmO 1) ∗ cellP c (csmO 2) ∗ cellP c (csmO 3) ∗ cellP c (csmO 4) ∗ (∃ W, owes (c : Thread nD τ) 0 W))

set_option maxHeartbeats 0
set_option backward.proofsInPublic true in
theorem bodyRun (Q : PUnit → sProp 𝕄) :
    iprop(PRE c gX gU gWus gBu gD gWds oY oXc oXs oHc oHs fX fWus fBu fWds fY fXc fXs fHc fHs fXq fH fHq fAcc W ∗ (POST c gX gU gWus gBu gD gWds oY oXc oXs oHc oHs fY fXc fXs fHc fHs fH -∗ Q ⟨⟩))
      ⊢ wp frame (wpE (defs₀ (F := F)) 𝒱₀ (c : Thread nD τ) none) Set.univ (bodyK (F := F)) Q := by
  unfold PRE
  rw [bigSep_fin10, bigSep_fin20]
  iintro ⟨⟨⟨⟨⟨%fU0, HdU0⟩, HgU0, HcU0⟩, ⟨⟨%fU1, HdU1⟩, HgU1, HcU1⟩, ⟨⟨%fU2, HdU2⟩, HgU2, HcU2⟩, ⟨⟨%fU3, HdU3⟩, HgU3, HcU3⟩, ⟨⟨%fU4, HdU4⟩, HgU4, HcU4⟩, ⟨⟨%fU5, HdU5⟩, HgU5, HcU5⟩, ⟨⟨%fU6, HdU6⟩, HgU6, HcU6⟩, ⟨⟨%fU7, HdU7⟩, HgU7, HcU7⟩, ⟨⟨%fU8, HdU8⟩, HgU8, HcU8⟩, ⟨⟨%fU9, HdU9⟩, HgU9, HcU9⟩⟩, ⟨⟨⟨%fD0, HdD0⟩, HgD0, HcD0⟩, ⟨⟨%fD1, HdD1⟩, HgD1, HcD1⟩, ⟨⟨%fD2, HdD2⟩, HgD2, HcD2⟩, ⟨⟨%fD3, HdD3⟩, HgD3, HcD3⟩, ⟨⟨%fD4, HdD4⟩, HgD4, HcD4⟩, ⟨⟨%fD5, HdD5⟩, HgD5, HcD5⟩, ⟨⟨%fD6, HdD6⟩, HgD6, HcD6⟩, ⟨⟨%fD7, HdD7⟩, HgD7, HcD7⟩, ⟨⟨%fD8, HdD8⟩, HgD8, HcD8⟩, ⟨⟨%fD9, HdD9⟩, HgD9, HcD9⟩, ⟨⟨%fD10, HdD10⟩, HgD10, HcD10⟩, ⟨⟨%fD11, HdD11⟩, HgD11, HcD11⟩, ⟨⟨%fD12, HdD12⟩, HgD12, HcD12⟩, ⟨⟨%fD13, HdD13⟩, HgD13, HcD13⟩, ⟨⟨%fD14, HdD14⟩, HgD14, HcD14⟩, ⟨⟨%fD15, HdD15⟩, HgD15, HcD15⟩, ⟨⟨%fD16, HdD16⟩, HgD16, HcD16⟩, ⟨⟨%fD17, HdD17⟩, HgD17, HcD17⟩, ⟨⟨%fD18, HdD18⟩, HgD18, HcD18⟩, ⟨⟨%fD19, HdD19⟩, HgD19, HcD19⟩⟩, HmX, HmWus, HmBu, HmWds, HmY, HmXc, HmXs, HmHc, HmHs, HvX, HvWus, HvBu, HvWds, HvY, HvXc, HvXs, HvHc, HvHs, HvXq, HvH, HvHq, HvAcc, Hs0, Hs1, Hs2, Hs3, Ho0, Ho1, Ho2, Ho3, Ho4, HW⟩, Hk⟩
  set_option sl_exec.stopBefore "k0_part10" in sl_exec
  ihave HFU : bigSep (Ring.rangeSet 10 0 10) (flightU c gU) $$ [HcU0 HcU1 HcU2 HcU3 HcU4 HcU5 HcU6 HcU7 HcU8 HcU9]
  · rw [Ring.rangeSet_univ, bigSep_fin10]
    isplitl [HcU0]; · iexists _; iexact HcU0
    isplitl [HcU1]; · iexists _; iexact HcU1
    isplitl [HcU2]; · iexists _; iexact HcU2
    isplitl [HcU3]; · iexists _; iexact HcU3
    isplitl [HcU4]; · iexists _; iexact HcU4
    isplitl [HcU5]; · iexists _; iexact HcU5
    isplitl [HcU6]; · iexists _; iexact HcU6
    isplitl [HcU7]; · iexists _; iexact HcU7
    isplitl [HcU8]; · iexists _; iexact HcU8
    iexists _; iexact HcU9
  ihave HRU : bigSep (Ring.rangeSet 10 0 0) (restU c gU) $$ []
  · rw [Ring.bigSep_rangeSet_empty le_rfl]; iempintro
  ihave HFD : bigSep (Ring.rangeSet 20 0 20) (flightD c gD) $$ [HcD0 HcD1 HcD2 HcD3 HcD4 HcD5 HcD6 HcD7 HcD8 HcD9 HcD10 HcD11 HcD12 HcD13 HcD14 HcD15 HcD16 HcD17 HcD18 HcD19]
  · rw [Ring.rangeSet_univ, bigSep_fin20]
    isplitl [HcD0]; · iexists _; iexact HcD0
    isplitl [HcD1]; · iexists _; iexact HcD1
    isplitl [HcD2]; · iexists _; iexact HcD2
    isplitl [HcD3]; · iexists _; iexact HcD3
    isplitl [HcD4]; · iexists _; iexact HcD4
    isplitl [HcD5]; · iexists _; iexact HcD5
    isplitl [HcD6]; · iexists _; iexact HcD6
    isplitl [HcD7]; · iexists _; iexact HcD7
    isplitl [HcD8]; · iexists _; iexact HcD8
    isplitl [HcD9]; · iexists _; iexact HcD9
    isplitl [HcD10]; · iexists _; iexact HcD10
    isplitl [HcD11]; · iexists _; iexact HcD11
    isplitl [HcD12]; · iexists _; iexact HcD12
    isplitl [HcD13]; · iexists _; iexact HcD13
    isplitl [HcD14]; · iexists _; iexact HcD14
    isplitl [HcD15]; · iexists _; iexact HcD15
    isplitl [HcD16]; · iexists _; iexact HcD16
    isplitl [HcD17]; · iexists _; iexact HcD17
    isplitl [HcD18]; · iexists _; iexact HcD18
    iexists _; iexact HcD19
  ihave HRD : bigSep (Ring.rangeSet 20 0 0) (restD c gD) $$ []
  · rw [Ring.bigSep_rangeSet_empty le_rfl]; iempintro
  set_option sl_exec.resultNames true in sl_exec
  sl_step
  iapply Hk
  unfold POST
  isplitl [HRU]
  · rw [← Ring.rangeSet_univ]; iexact HRU
  isplitl [HRD]
  · rw [← Ring.rangeSet_univ]; iexact HRD
  isplitl [HmX]; · iexact HmX
  isplitl [HmWus]; · iexact HmWus
  isplitl [HmBu]; · iexact HmBu
  isplitl [HmWds]; · iexact HmWds
  isplitl [HmY]; · iexact HmY
  isplitl [HmXc]; · iexact HmXc
  isplitl [HmXs]; · iexact HmXs
  isplitl [HmHc]; · iexact HmHc
  isplitl [HmHs]; · iexact HmHs
  isplitl [HvX]; · iexists _; iexact HvX
  isplitl [HvWus]; · iexists _; iexact HvWus
  isplitl [HvBu]; · iexists _; iexact HvBu
  isplitl [HvWds]; · iexists _; iexact HvWds
  isplitl [HvY]; · iexists _; iexact HvY
  isplitl [HvXc]; · iexists _; iexact HvXc
  isplitl [HvXs]; · iexists _; iexact HvXs
  isplitl [HvHc]; · iexists _; iexact HvHc
  isplitl [HvHs]; · iexists _; iexact HvHs
  isplitl [HvXq]; · iexists _; iexact HvXq
  isplitl [HvH]; · iexists _; iexact HvH
  isplitl [HvHq]; · iexists _; iexact HvHq
  isplitl [HvAcc]; · iexists _; iexact HvAcc
  isplitl [Hs0]; · iexact Hs0
  isplitl [Hs1]; · iexact Hs1
  isplitl [Hs2]; · iexact Hs2
  isplitl [Hs3]; · iexact Hs3
  isplitl [Ho0]; · iexact Ho0
  isplitl [Ho1]; · iexact Ho1
  isplitl [Ho2]; · iexact Ho2
  isplitl [Ho3]; · iexact Ho3
  isplitl [Ho4]; · iexact Ho4
  iexists _; iexact HW

end Body

end Cert.Proof.RunIdeal

end
-- ==== Proof.RunIdeal.Launch.lean ====
/-
  `KernelIdeal`: the launch — from the body's run to the run of the whole program, every buffer's final contents named.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic
public import proofs.«01_k».proof.Proof.RunIdeal.Body

@[expose] public section

noncomputable section

namespace Cert.Proof.RunIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

abbrev EP : Emb (UR sig nD τ) (MT nD τ sig Unit (Elt F) ℕ (UU nD τ) ℕ) := embL

/-! ## The kernel's own semaphores -/

abbrev osem : Fin 39 → SemLoc sig := fun i => .dma ⟨i.val, i.isLt⟩
theorem ownSemFacts : Pipeline.OwnSemFacts cfg0.spec osem := by decide

/-! ## Element sets -/

abbrev IU (b : Fin 10) : Finset S2560x10240.Idx := (Rect.unit (s := S2560x10240) (uColOff b) S2560x1024.size (uColOff_inb b)).set
abbrev JU (b : Fin 10) : Finset S10x2560x1024.Idx := (Rect.unit (s := S10x2560x1024) (uSlotOff b) S1x2560x1024.size (uSlotOff_inb b)).set
abbrev ID (b : Fin 20) : Finset S10240x2560.Idx := (Rect.unit (s := S10240x2560) (dRowOff b) S512x2560.size (dRowOff_inb b)).set

omit [FloatOps F] in
theorem srcU_set (b : Fin 10) : (srcU b).view.set = IU b := View.set_slice_whole _ _
omit [FloatOps F] in
theorem slotU_set (b : Fin 10) : (slotU b).view.set = JU b := (View.set_reshape _ _).trans (View.set_slice_whole _ _)
omit [FloatOps F] in
theorem srcD_set (b : Fin 20) : (srcD b).view.set = ID b := View.set_slice_whole _ _
omit [FloatOps F] in
theorem slotD_set (b : Fin 20) : (slotD b).view.set = ID b := View.set_slice_whole _ _

theorem mem_IU (b : Fin 10) (y : S2560x10240.Idx) : y ∈ IU b ↔ 1024 * b.val ≤ (y 1).val ∧ (y 1).val < 1024 * b.val + 1024 := by
  rw [Rect.mem_set_unit]
  have h0 : (y 0).val < 2560 := (y 0).isLt
  constructor
  · intro H; exact H 1
  · intro H i; fin_cases i
    · show 0 ≤ (y 0).val ∧ (y 0).val < 0 + 2560; omega
    · exact H
theorem mem_JU (b : Fin 10) (y : S10x2560x1024.Idx) : y ∈ JU b ↔ (y 0).val = b.val := by
  rw [Rect.mem_set_unit]
  have h1 : (y 1).val < 2560 := (y 1).isLt
  have h2 : (y 2).val < 1024 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 2560; omega
    · show 0 ≤ (y 2).val ∧ (y 2).val < 0 + 1024; omega
theorem mem_ID (b : Fin 20) (y : S10240x2560.Idx) : y ∈ ID b ↔ 512 * b.val ≤ (y 0).val ∧ (y 0).val < 512 * b.val + 512 := by
  rw [Rect.mem_set_unit]
  have h1 : (y 1).val < 2560 := (y 1).isLt
  constructor
  · intro H; exact H 0
  · intro H i; fin_cases i
    · exact H
    · show 0 ≤ (y 1).val ∧ (y 1).val < 0 + 2560; omega

theorem IU_disjoint : ∀ b b' : Fin 10, b ≠ b' → Disjoint (IU b) (IU b') := by
  intro b b' hne; rw [Finset.disjoint_left]; intro y hy hy'; rw [mem_IU] at hy hy'; exact hne (Fin.ext (by omega))
theorem IU_cover : (Finset.univ : Finset (Fin 10)).biUnion IU = Finset.univ := by
  ext y; simp only [Finset.mem_biUnion, Finset.mem_univ, true_and, iff_true]
  have h : (y 1).val < 10240 := (y 1).isLt
  exact ⟨⟨(y 1).val / 1024, by omega⟩, by rw [mem_IU]; dsimp only; omega⟩
theorem JU_disjoint : ∀ b b' : Fin 10, b ≠ b' → Disjoint (JU b) (JU b') := by
  intro b b' hne; rw [Finset.disjoint_left]; intro y hy hy'; rw [mem_JU] at hy hy'; exact hne (Fin.ext (by omega))
theorem JU_cover : (Finset.univ : Finset (Fin 10)).biUnion JU = Finset.univ := by
  ext y; simp only [Finset.mem_biUnion, Finset.mem_univ, true_and, iff_true]
  have h : (y 0).val < 10 := (y 0).isLt
  exact ⟨⟨(y 0).val, h⟩, by rw [mem_JU]⟩
theorem ID_disjoint : ∀ b b' : Fin 20, b ≠ b' → Disjoint (ID b) (ID b') := by
  intro b b' hne; rw [Finset.disjoint_left]; intro y hy hy'; rw [mem_ID] at hy hy'; exact hne (Fin.ext (by omega))
theorem ID_cover : (Finset.univ : Finset (Fin 20)).biUnion ID = Finset.univ := by
  ext y; simp only [Finset.mem_biUnion, Finset.mem_univ, true_and, iff_true]
  have h : (y 0).val < 10240 := (y 0).isLt
  exact ⟨⟨(y 0).val / 512, by omega⟩, by rw [mem_ID]; dsimp only; omega⟩

/-! ## Whole buffers and their blocks -/

theorem eqE {P Q : sProp 𝕄} (h : P = Q) : P ⊢ Q := h ▸ .rfl

theorem heldP_whole (c : Dev nD) (b : Ref sig .tc) (f : Buf (Elt F) ((c : Thread nD τ).loc b)) :
    heldP c (Memref.whole b) f = (((c : Thread nD τ).loc b) ↦{fullShare} f : sProp 𝕄) :=
  congrArg (fun S => (((c : Thread nD τ).loc b) ↦[S]{fullShare} f : sProp 𝕄)) (View.set_whole b)

theorem toH (c : Dev nD) (b : Ref sig .tc) (f : Buf (Elt F) ((c : Thread nD τ).loc b)) :
    (((c : Thread nD τ).loc b) ↦{fullShare} f : sProp 𝕄) ⊢ heldP c (Memref.whole b) f := eqE (heldP_whole c b f).symm
theorem ofH (c : Dev nD) (b : Ref sig .tc) (f : Buf (Elt F) ((c : Thread nD τ).loc b)) :
    heldP c (Memref.whole b) f ⊢ (((c : Thread nD τ).loc b) ↦{fullShare} f : sProp 𝕄) := eqE (heldP_whole c b f)

/-- The up weight whole is its ten column blocks; -/
theorem wu_eq (c : Dev nD) (f : Buf (Elt F) ((c : Thread nD τ).loc main_arg1)) :
    (((c : Thread nD τ).loc main_arg1) ↦{fullShare} f : sProp 𝕄) = bigSep Finset.univ (fun b => heldP c (srcU b) f) := by
  rw [Ring.pointsTo_blocks (ℓ := (c : Thread nD τ).loc main_arg1) IU IU_disjoint IU_cover]
  exact bigSep_congr fun b _ => congrArg (fun S => (((c : Thread nD τ).loc main_arg1) ↦[S]{fullShare} f : sProp 𝕄)) (srcU_set b).symm
/-- the down weight whole is its twenty row blocks. -/
theorem wd_eq (c : Dev nD) (f : Buf (Elt F) ((c : Thread nD τ).loc main_arg4)) :
    (((c : Thread nD τ).loc main_arg4) ↦{fullShare} f : sProp 𝕄) = bigSep Finset.univ (fun b => heldP c (srcD b) f) := by
  rw [Ring.pointsTo_blocks (ℓ := (c : Thread nD τ).loc main_arg4) ID ID_disjoint ID_cover]
  exact bigSep_congr fun b _ => congrArg (fun S => (((c : Thread nD τ).loc main_arg4) ↦[S]{fullShare} f : sProp 𝕄)) (srcD_set b).symm

theorem slotU_eq (c : Dev nD) : (fun b => iprop(∃ f, heldP (F := F) c (slotU b) f) : Fin 10 → sProp 𝕄)
    = fun b => iprop(∃ f : Buf (Elt F) ((c : Thread nD τ).loc cc0_scratch1), ((c : Thread nD τ).loc cc0_scratch1) ↦[JU b]{fullShare} f) :=
  funext fun b => congrArg (fun S => iprop(∃ f : Buf (Elt F) ((c : Thread nD τ).loc cc0_scratch1), ((c : Thread nD τ).loc cc0_scratch1) ↦[S]{fullShare} f)) (slotU_set b)
theorem slotD_eq (c : Dev nD) : (fun b => iprop(∃ f, heldP (F := F) c (slotD b) f) : Fin 20 → sProp 𝕄)
    = fun b => iprop(∃ f : Buf (Elt F) ((c : Thread nD τ).loc cc0_scratch4), ((c : Thread nD τ).loc cc0_scratch4) ↦[ID b]{fullShare} f) :=
  funext fun b => congrArg (fun S => iprop(∃ f : Buf (Elt F) ((c : Thread nD τ).loc cc0_scratch4), ((c : Thread nD τ).loc cc0_scratch4) ↦[S]{fullShare} f)) (slotD_set b)

/-- A buffer whole at some contents is its blocks, each at some contents, -/
theorem bufU_split (c : Dev nD) : iprop(∃ f : Buf (Elt F) ((c : Thread nD τ).loc cc0_scratch1), ((c : Thread nD τ).loc cc0_scratch1) ↦{fullShare} f)
    ⊢ (bigSep Finset.univ (fun b => iprop(∃ f, heldP (F := F) c (slotU b) f)) : sProp 𝕄) := by
  rw [slotU_eq]
  iintro ⟨%f, H⟩
  ihave H2 := (eqE (Ring.pointsTo_blocks (Ix := Unit) (Name := ℕ) (U := UU nD τ) (Lvl := ℕ) (q := fullShare) (ℓ := (c : Thread nD τ).loc cc0_scratch1) JU JU_disjoint JU_cover f)) $$ H
  have hm : (bigSep Finset.univ (fun b : Fin 10 => (((c : Thread nD τ).loc cc0_scratch1) ↦[JU b]{fullShare} f : sProp 𝕄)) : sProp 𝕄)
      ⊢ bigSep Finset.univ (fun b => iprop(∃ f : Buf (Elt F) ((c : Thread nD τ).loc cc0_scratch1), ((c : Thread nD τ).loc cc0_scratch1) ↦[JU b]{fullShare} f)) :=
    BI.bigSep_mono fun b _ => (sProp.exists_intro f)
  iapply hm
  iexact H2
/-- and back. -/
theorem bufU_join (c : Dev nD) : (bigSep Finset.univ (fun b => iprop(∃ f, heldP (F := F) c (slotU b) f)) : sProp 𝕄)
    ⊢ iprop(∃ f : Buf (Elt F) ((c : Thread nD τ).loc cc0_scratch1), ((c : Thread nD τ).loc cc0_scratch1) ↦{fullShare} f) := by
  rw [slotU_eq]
  exact Ring.pointsTo_blocks_join_exists (ℓ := (c : Thread nD τ).loc cc0_scratch1) JU JU_disjoint JU_cover (vWu.view.junk (Val := Elt F))
theorem bufD_split (c : Dev nD) : iprop(∃ f : Buf (Elt F) ((c : Thread nD τ).loc cc0_scratch4), ((c : Thread nD τ).loc cc0_scratch4) ↦{fullShare} f)
    ⊢ (bigSep Finset.univ (fun b => iprop(∃ f, heldP (F := F) c (slotD b) f)) : sProp 𝕄) := by
  rw [slotD_eq]
  iintro ⟨%f, H⟩
  ihave H2 := (eqE (Ring.pointsTo_blocks (Ix := Unit) (Name := ℕ) (U := UU nD τ) (Lvl := ℕ) (q := fullShare) (ℓ := (c : Thread nD τ).loc cc0_scratch4) ID ID_disjoint ID_cover f)) $$ H
  have hm : (bigSep Finset.univ (fun b : Fin 20 => (((c : Thread nD τ).loc cc0_scratch4) ↦[ID b]{fullShare} f : sProp 𝕄)) : sProp 𝕄)
      ⊢ bigSep Finset.univ (fun b => iprop(∃ f : Buf (Elt F) ((c : Thread nD τ).loc cc0_scratch4), ((c : Thread nD τ).loc cc0_scratch4) ↦[ID b]{fullShare} f)) :=
    BI.bigSep_mono fun b _ => (sProp.exists_intro f)
  iapply hm
  iexact H2
theorem bufD_join (c : Dev nD) : (bigSep Finset.univ (fun b => iprop(∃ f, heldP (F := F) c (slotD b) f)) : sProp 𝕄)
    ⊢ iprop(∃ f : Buf (Elt F) ((c : Thread nD τ).loc cc0_scratch4), ((c : Thread nD τ).loc cc0_scratch4) ↦{fullShare} f) := by
  rw [slotD_eq]
  exact Ring.pointsTo_blocks_join_exists (ℓ := (c : Thread nD τ).loc cc0_scratch4) ID ID_disjoint ID_cover (vWd.view.junk (Val := Elt F))

/-- The blocks at rest are the slots, the blocks home and the cells, family by family. -/
theorem restU_eq (c : Dev nD) (f : BufAt (F := F) c mWu) : (bigSep Finset.univ (restU c f) : sProp 𝕄)
    = iprop(bigSep Finset.univ (fun b => iprop(∃ f, heldP (F := F) c (slotU b) f)) ∗ bigSep Finset.univ (fun b => heldP c (srcU b) f) ∗ bigSep Finset.univ (fun b => cellP c (csmU b))) := by
  show bigSep Finset.univ (fun b => iprop((∃ f, heldP (F := F) c (slotU b) f) ∗ heldP c (srcU b) f ∗ cellP c (csmU b))) = _
  erw [BI.bigSep_sep, BI.bigSep_sep]; rfl
theorem restD_eq (c : Dev nD) (f : BufAt (F := F) c mWd) : (bigSep Finset.univ (restD c f) : sProp 𝕄)
    = iprop(bigSep Finset.univ (fun b => iprop(∃ f, heldP (F := F) c (slotD b) f)) ∗ bigSep Finset.univ (fun b => heldP c (srcD b) f) ∗ bigSep Finset.univ (fun b => cellP c (csmD b))) := by
  show bigSep Finset.univ (fun b => iprop((∃ f, heldP (F := F) c (slotD b) f) ∗ heldP c (srcD b) f ∗ cellP c (csmD b))) = _
  erw [BI.bigSep_sep, BI.bigSep_sep]; rfl

/-- The kernel's own cells at zero, listed. -/
theorem ownSems0_eq (c : Dev nD) : (Pipeline.ownSems0 (Ix := Unit) (Name := ℕ) (U := UU nD τ) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0 ∗ semVal ((c : Thread nD τ), osem 24) 0 ∗ semVal ((c : Thread nD τ), osem 25) 0 ∗ semVal ((c : Thread nD τ), osem 26) 0 ∗ semVal ((c : Thread nD τ), osem 27) 0 ∗ semVal ((c : Thread nD τ), osem 28) 0 ∗ semVal ((c : Thread nD τ), osem 29) 0 ∗ semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0 ∗ semVal ((c : Thread nD τ), osem 36) 0 ∗ semVal ((c : Thread nD τ), osem 37) 0 ∗ semVal ((c : Thread nD τ), osem 38) 0) :=
  Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38] (by decide) (by decide)

theorem cells_split (c : Dev nD) : (Pipeline.ownSems0 (Ix := Unit) (Name := ℕ) (U := UU nD τ) (Lvl := ℕ) (Val := Elt F) (τ := τ) osem c : sProp 𝕄)
    ⊢ iprop(cellP c (csmS 0) ∗ cellP c (csmS 1) ∗ cellP c (csmS 2) ∗ cellP c (csmS 3) ∗ bigSep Finset.univ (fun b => cellP c (csmU b)) ∗ bigSep Finset.univ (fun b => cellP c (csmD b)) ∗ cellP c (csmO 0) ∗ cellP c (csmO 1) ∗ cellP c (csmO 2) ∗ cellP c (csmO 3) ∗ cellP c (csmO 4)) := by
  rw [ownSems0_eq, bigSep_fin10, bigSep_fin20]
  iintro ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38⟩
  isplitl [Q0]; · iexact Q0
  isplitl [Q1]; · iexact Q1
  isplitl [Q2]; · iexact Q2
  isplitl [Q3]; · iexact Q3
  isplitl [Q4 Q5 Q6 Q7 Q8 Q9 Q10 Q11 Q12 Q13]
  · isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    iexact Q13
  isplitl [Q14 Q15 Q16 Q17 Q18 Q19 Q20 Q21 Q22 Q23 Q24 Q25 Q26 Q27 Q28 Q29 Q30 Q31 Q32 Q33]
  · isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    iexact Q33
  isplitl [Q34]; · iexact Q34
  isplitl [Q35]; · iexact Q35
  isplitl [Q36]; · iexact Q36
  isplitl [Q37]; · iexact Q37
  iexact Q38
theorem cells_join (c : Dev nD) : iprop(cellP c (csmS 0) ∗ cellP c (csmS 1) ∗ cellP c (csmS 2) ∗ cellP c (csmS 3) ∗ bigSep Finset.univ (fun b => cellP c (csmU b)) ∗ bigSep Finset.univ (fun b => cellP c (csmD b)) ∗ cellP c (csmO 0) ∗ cellP c (csmO 1) ∗ cellP c (csmO 2) ∗ cellP c (csmO 3) ∗ cellP c (csmO 4))
    ⊢ (Pipeline.ownSems0 (Ix := Unit) (Name := ℕ) (U := UU nD τ) (Lvl := ℕ) (Val := Elt F) (τ := τ) osem c : sProp 𝕄) := by
  rw [ownSems0_eq, bigSep_fin10, bigSep_fin20]
  iintro ⟨Q0, Q1, Q2, Q3, ⟨Q4, Q5, Q6, Q7, Q8, Q9, Q10, Q11, Q12, Q13⟩, ⟨Q14, Q15, Q16, Q17, Q18, Q19, Q20, Q21, Q22, Q23, Q24, Q25, Q26, Q27, Q28, Q29, Q30, Q31, Q32, Q33⟩, Q34, Q35, Q36, Q37, Q38⟩
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  iexact Q38

/-! ## The region's proof data -/

/-- Before the body: the arguments and the results' buffers as the region finds them, everything else at rest. -/
def PhiIn (c : Dev nD) : sProp 𝕄 := iprop((((c : Thread nD τ).loc main_arg0) ↦{fullShare} V m c main_arg0) ∗ (((c : Thread nD τ).loc main_arg2) ↦{fullShare} V m c main_arg2) ∗ (((c : Thread nD τ).loc main_arg3) ↦{fullShare} V m c main_arg3) ∗ bigSep Finset.univ (restU c (V m c main_arg1)) ∗ bigSep Finset.univ (restD c (V m c main_arg4)) ∗ heldP c mX (V m c main_v0) ∗ heldP c mWus (V m c main_v1) ∗ heldP c mBu (V m c main_v2) ∗ heldP c mWds (V m c main_arg5) ∗ heldP c mY (V m c main_v3_0) ∗ heldP c mXc (V m c main_v3_1) ∗ heldP c mXs (V m c main_v3_2) ∗ heldP c mHc (V m c main_v3_3) ∗ heldP c mHs (V m c main_v3_4) ∗ (∃ f, heldP c vX f) ∗ (∃ f, heldP c vWus f) ∗ (∃ f, heldP c vBu f) ∗ (∃ f, heldP c vWds f) ∗ (∃ f, heldP c vY f) ∗ (∃ f, heldP c vXc f) ∗ (∃ f, heldP c vXs f) ∗ (∃ f, heldP c vHc f) ∗ (∃ f, heldP c vHs f) ∗ (∃ f, heldP c vXq f) ∗ (∃ f, heldP c vH f) ∗ (∃ f, heldP c vHq f) ∗ (∃ f, heldP c vAcc f) ∗ cellP c (csmS 0) ∗ cellP c (csmS 1) ∗ cellP c (csmS 2) ∗ cellP c (csmS 3) ∗ cellP c (csmO 0) ∗ cellP c (csmO 1) ∗ cellP c (csmO 2) ∗ cellP c (csmO 3) ∗ cellP c (csmO 4))
/-- After it: the same, the results' buffers at what the body computes. -/
def PhiOut (c : Dev nD) : sProp 𝕄 := iprop((((c : Thread nD τ).loc main_arg0) ↦{fullShare} V m c main_arg0) ∗ (((c : Thread nD τ).loc main_arg2) ↦{fullShare} V m c main_arg2) ∗ (((c : Thread nD τ).loc main_arg3) ↦{fullShare} V m c main_arg3) ∗ bigSep Finset.univ (restU c (V m c main_arg1)) ∗ bigSep Finset.univ (restD c (V m c main_arg4)) ∗ heldP c mX (V m c main_v0) ∗ heldP c mWus (V m c main_v1) ∗ heldP c mBu (V m c main_v2) ∗ heldP c mWds (V m c main_arg5) ∗ (∃ fH : BufAt (F := F) c vH, ∃ fY : BufAt (F := F) c vY, heldP c mY (outY c (V m c main_v0) (V m c main_arg1) (V m c main_v1) (V m c main_v2) (V m c main_arg4) (V m c main_arg5) fH fY (V m c main_v3_0))) ∗ (∃ fXc : BufAt (F := F) c vXc, heldP c mXc (outXc c (V m c main_v0) fXc (V m c main_v3_1))) ∗ (∃ fXs : BufAt (F := F) c vXs, heldP c mXs (outXs c (V m c main_v0) fXs (V m c main_v3_2))) ∗ (∃ fH : BufAt (F := F) c vH, ∃ fHc : BufAt (F := F) c vHc, heldP c mHc (outHc c (V m c main_v0) (V m c main_arg1) (V m c main_v1) (V m c main_v2) fH fHc (V m c main_v3_3))) ∗ (∃ fHs : BufAt (F := F) c vHs, heldP c mHs (outHs c (V m c main_v0) (V m c main_arg1) (V m c main_v1) (V m c main_v2) fHs (V m c main_v3_4))) ∗ (∃ f, heldP c vX f) ∗ (∃ f, heldP c vWus f) ∗ (∃ f, heldP c vBu f) ∗ (∃ f, heldP c vWds f) ∗ (∃ f, heldP c vY f) ∗ (∃ f, heldP c vXc f) ∗ (∃ f, heldP c vXs f) ∗ (∃ f, heldP c vHc f) ∗ (∃ f, heldP c vHs f) ∗ (∃ f, heldP c vXq f) ∗ (∃ f, heldP c vH f) ∗ (∃ f, heldP c vHq f) ∗ (∃ f, heldP c vAcc f) ∗ cellP c (csmS 0) ∗ cellP c (csmS 1) ∗ cellP c (csmS 2) ∗ cellP c (csmS 3) ∗ cellP c (csmO 0) ∗ cellP c (csmO 1) ∗ cellP c (csmO 2) ∗ cellP c (csmO 3) ∗ cellP c (csmO 4))

def dats (_ : Fin 1) (c : Dev nD) : Dat τ (Elt F) Unit ℕ (UU nD τ) ℕ cfg0 c where
  A w := w.elim0
  after w _ := w.elim0
  Φ t := if t.val = 0 then PhiIn m c else PhiOut m c
  q _ := fullShare
  owed _ := 0

theorem defs_tc : (defs₀ (F := F)) .tc cfg0.body = fun _ => bodyK (F := F) := rfl
theorem prog_eq (t : Fin cfg0.N) : (defs₀ (F := F)) .tc cfg0.body (cfg0.bodyArgs t (cfg0.slots t)) = bodyK (F := F) :=
  (congrFun defs_tc _).trans rfl

theorem bigSep_W0 (Φ : Fin cfg0.W → sProp 𝕄) : bigSep Finset.univ Φ = (BI.emp : sProp 𝕄) := by
  rw [show (Finset.univ : Finset (Fin cfg0.W)) = ∅ from rfl, bigSep_empty]

theorem Phi_cast (c : Dev nD) (t : Fin cfg0.N) : (dats m 0 c).Φ t.castSucc = PhiIn m c := by
  obtain rfl := fin_N0 t; rfl
theorem Phi_succ (c : Dev nD) (t : Fin cfg0.N) : (dats m 0 c).Φ t.succ = PhiOut m c := by
  obtain rfl := fin_N0 t; rfl

set_option maxHeartbeats 0 in
set_option backward.isDefEq.respectTransparency.types false in
theorem body_obligation (c : Dev nD) : BodyObligation (dats (F := F) m 0 c) (defs₀ (F := F)) 𝒱₀ () Set.univ := fun t => by
  rw [bigSep_W0, bigSep_W0, Phi_cast, Phi_succ]
  unfold Dat.owesAt Pipeline.owesWithin
  rw [show (dats m 0 c).owed t.castSucc = 0 from rfl, show (dats m 0 c).owed t.succ = 0 from rfl]
  unfold PhiIn PhiOut
  iintro ⟨⟨R0, R2, R3, HU, HD, HmX, HmWus, HmBu, HmWds, HmY, HmXc, HmXs, HmHc, HmHs, ⟨%fX, HvX⟩, ⟨%fWus, HvWus⟩, ⟨%fBu, HvBu⟩, ⟨%fWds, HvWds⟩, ⟨%fY, HvY⟩, ⟨%fXc, HvXc⟩, ⟨%fXs, HvXs⟩, ⟨%fHc, HvHc⟩, ⟨%fHs, HvHs⟩, ⟨%fXq, HvXq⟩, ⟨%fH, HvH⟩, ⟨%fHq, HvHq⟩, ⟨%fAcc, HvAcc⟩, Hs0, Hs1, Hs2, Hs3, Ho0, Ho1, Ho2, Ho3, Ho4⟩, ⟨%W, -, HW⟩, -⟩
  sl_rw [prog_eq t]
  iapply (bodyRun c (V m c main_v0) (V m c main_arg1) (V m c main_v1) (V m c main_v2) (V m c main_arg4) (V m c main_arg5) (V m c main_v3_0) (V m c main_v3_1) (V m c main_v3_2) (V m c main_v3_3) (V m c main_v3_4) fX fWus fBu fWds fY fXc fXs fHc fHs fXq fH fHq fAcc W)
  isplitl [HU HD HmX HmWus HmBu HmWds HmY HmXc HmXs HmHc HmHs HvX HvWus HvBu HvWds HvY HvXc HvXs HvHc HvHs HvXq HvH HvHq HvAcc Hs0 Hs1 Hs2 Hs3 Ho0 Ho1 Ho2 Ho3 Ho4 HW]
  · unfold PRE
    isplitl [HU]; · iexact HU
    isplitl [HD]; · iexact HD
    isplitl [HmX]; · iexact HmX
    isplitl [HmWus]; · iexact HmWus
    isplitl [HmBu]; · iexact HmBu
    isplitl [HmWds]; · iexact HmWds
    isplitl [HmY]; · iexact HmY
    isplitl [HmXc]; · iexact HmXc
    isplitl [HmXs]; · iexact HmXs
    isplitl [HmHc]; · iexact HmHc
    isplitl [HmHs]; · iexact HmHs
    isplitl [HvX]; · iexact HvX
    isplitl [HvWus]; · iexact HvWus
    isplitl [HvBu]; · iexact HvBu
    isplitl [HvWds]; · iexact HvWds
    isplitl [HvY]; · iexact HvY
    isplitl [HvXc]; · iexact HvXc
    isplitl [HvXs]; · iexact HvXs
    isplitl [HvHc]; · iexact HvHc
    isplitl [HvHs]; · iexact HvHs
    isplitl [HvXq]; · iexact HvXq
    isplitl [HvH]; · iexact HvH
    isplitl [HvHq]; · iexact HvHq
    isplitl [HvAcc]; · iexact HvAcc
    isplitl [Hs0]; · iexact Hs0
    isplitl [Hs1]; · iexact Hs1
    isplitl [Hs2]; · iexact Hs2
    isplitl [Hs3]; · iexact Hs3
    isplitl [Ho0]; · iexact Ho0
    isplitl [Ho1]; · iexact Ho1
    isplitl [Ho2]; · iexact Ho2
    isplitl [Ho3]; · iexact Ho3
    isplitl [Ho4]; · iexact Ho4
    iexact HW
  · unfold POST
    iintro ⟨HU, HD, HmX, HmWus, HmBu, HmWds, HmY, HmXc, HmXs, HmHc, HmHs, HvX, HvWus, HvBu, HvWds, HvY, HvXc, HvXs, HvHc, HvHs, HvXq, HvH, HvHq, HvAcc, Hs0, Hs1, Hs2, Hs3, Ho0, Ho1, Ho2, Ho3, Ho4, ⟨%W2, HW⟩⟩
    isplitl [R0 R2 R3 HU HD HmX HmWus HmBu HmWds HmY HmXc HmXs HmHc HmHs HvX HvWus HvBu HvWds HvY HvXc HvXs HvHc HvHs HvXq HvH HvHq HvAcc Hs0 Hs1 Hs2 Hs3 Ho0 Ho1 Ho2 Ho3 Ho4]
    · isplitl [R0]; · iexact R0
      isplitl [R2]; · iexact R2
      isplitl [R3]; · iexact R3
      isplitl [HU]; · iexact HU
      isplitl [HD]; · iexact HD
      isplitl [HmX]; · iexact HmX
      isplitl [HmWus]; · iexact HmWus
      isplitl [HmBu]; · iexact HmBu
      isplitl [HmWds]; · iexact HmWds
      isplitl [HmY]; · iexists fH; iexists fY; iexact HmY
      isplitl [HmXc]; · iexists fXc; iexact HmXc
      isplitl [HmXs]; · iexists fXs; iexact HmXs
      isplitl [HmHc]; · iexists fH; iexists fHc; iexact HmHc
      isplitl [HmHs]; · iexists fHs; iexact HmHs
      isplitl [HvX]; · iexact HvX
      isplitl [HvWus]; · iexact HvWus
      isplitl [HvBu]; · iexact HvBu
      isplitl [HvWds]; · iexact HvWds
      isplitl [HvY]; · iexact HvY
      isplitl [HvXc]; · iexact HvXc
      isplitl [HvXs]; · iexact HvXs
      isplitl [HvHc]; · iexact HvHc
      isplitl [HvHs]; · iexact HvHs
      isplitl [HvXq]; · iexact HvXq
      isplitl [HvH]; · iexact HvH
      isplitl [HvHq]; · iexact HvHq
      isplitl [HvAcc]; · iexact HvAcc
      isplitl [Hs0]; · iexact Hs0
      isplitl [Hs1]; · iexact Hs1
      isplitl [Hs2]; · iexact Hs2
      isplitl [Hs3]; · iexact Hs3
      isplitl [Ho0]; · iexact Ho0
      isplitl [Ho1]; · iexact Ho1
      isplitl [Ho2]; · iexact Ho2
      isplitl [Ho3]; · iexact Ho3
      iexact Ho4
    isplitl [HW]
    · iexists W2; isplitr; · ipureintro; exact fun _ _ => Or.inl trivial
      iexact HW
    iempintro

/-! ## The run -/

/-- What a final state holds on core `c`: the arguments unchanged, each result at what the body computes (the scratch
    buffers' earlier contents named by some `f`s). -/
def QY (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ (∃ fH : BufAt (F := F) c vH, ∃ fY : BufAt (F := F) c vY, s.mem ((c : Thread nD τ).loc main_v3_0) = outY c (V m c main_v0) (V m c main_arg1) (V m c main_v1) (V m c main_v2) (V m c main_arg4) (V m c main_arg5) fH fY (V m c main_v3_0))
  ∧ (∃ fXc : BufAt (F := F) c vXc, s.mem ((c : Thread nD τ).loc main_v3_1) = outXc c (V m c main_v0) fXc (V m c main_v3_1))
  ∧ (∃ fXs : BufAt (F := F) c vXs, s.mem ((c : Thread nD τ).loc main_v3_2) = outXs c (V m c main_v0) fXs (V m c main_v3_2))
  ∧ (∃ fH : BufAt (F := F) c vH, ∃ fHc : BufAt (F := F) c vHc, s.mem ((c : Thread nD τ).loc main_v3_3) = outHc c (V m c main_v0) (V m c main_arg1) (V m c main_v1) (V m c main_v2) fH fHc (V m c main_v3_3))
  ∧ (∃ fHs : BufAt (F := F) c vHs, s.mem ((c : Thread nD τ).loc main_v3_4) = outHs c (V m c main_v0) (V m c main_arg1) (V m c main_v1) (V m c main_v2) fHs (V m c main_v3_4))

def outOfΦ (c : Dev nD) : sProp 𝕄 := iprop((((c : Thread nD τ).loc main_arg0) ↦{fullShare} m ((c : Thread nD τ).loc main_arg0)) ∗ (((c : Thread nD τ).loc main_arg1) ↦{fullShare} m ((c : Thread nD τ).loc main_arg1)) ∗ (((c : Thread nD τ).loc main_arg2) ↦{fullShare} m ((c : Thread nD τ).loc main_arg2)) ∗ (((c : Thread nD τ).loc main_arg3) ↦{fullShare} m ((c : Thread nD τ).loc main_arg3)) ∗ (((c : Thread nD τ).loc main_arg4) ↦{fullShare} m ((c : Thread nD τ).loc main_arg4)) ∗ (((c : Thread nD τ).loc main_arg5) ↦{fullShare} m ((c : Thread nD τ).loc main_arg5)) ∗ (∃ fH : BufAt (F := F) c vH, ∃ fY : BufAt (F := F) c vY, heldP c mY (outY c (V m c main_v0) (V m c main_arg1) (V m c main_v1) (V m c main_v2) (V m c main_arg4) (V m c main_arg5) fH fY (V m c main_v3_0))) ∗ (∃ fXc : BufAt (F := F) c vXc, heldP c mXc (outXc c (V m c main_v0) fXc (V m c main_v3_1))) ∗ (∃ fXs : BufAt (F := F) c vXs, heldP c mXs (outXs c (V m c main_v0) fXs (V m c main_v3_2))) ∗ (∃ fH : BufAt (F := F) c vH, ∃ fHc : BufAt (F := F) c vHc, heldP c mHc (outHc c (V m c main_v0) (V m c main_arg1) (V m c main_v1) (V m c main_v2) fH fHc (V m c main_v3_3))) ∗ (∃ fHs : BufAt (F := F) c vHs, heldP c mHs (outHs c (V m c main_v0) (V m c main_arg1) (V m c main_v1) (V m c main_v2) fHs (V m c main_v3_4))))
def intoΦ (c : Dev nD) : sProp 𝕄 := iprop(Pipeline.unscopedRest cfg0.spec c (V m c) ∗ Pipeline.ownSems0 osem c)
def u₀ : UU nD τ := (initOf (Pipeline.cells cfgs cellOf_inj) (Pipeline.launchToks cfgs cellOf_inj), 1)

set_option maxHeartbeats 800000 in
theorem hmainUU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 0 in
theorem phi_in (c : Dev nD) : iprop(intoΦ m c ∗ Pipeline.scopedRest cfg0.spec c) ⊢ PhiIn m c := by
  unfold intoΦ PhiIn
  rw [unscopedRest0_eq, scopedRest0_eq, restU_eq, restD_eq]
  iintro ⟨⟨⟨R0, HhU, R2, R3, HhD, HmWds, HmX, HmWus, HmBu, HmY, HmXc, HmXs, HmHc, HmHs⟩, HQ⟩, HvX, HBU, HvWus, HvBu, HBD, HvWds, HvY, HvXc, HvXs, HvHc, HvHs, HvXq, HvH, HvHq, HvAcc⟩
  ihave HQ2 := (cells_split c) $$ HQ
  icases HQ2 with ⟨Hs0, Hs1, Hs2, Hs3, HcU, HcD, Ho0, Ho1, Ho2, Ho3, Ho4⟩
  ihave HsU := (bufU_split c) $$ HBU
  ihave HsD := (bufD_split c) $$ HBD
  isplitl [R0]; · iexact R0
  isplitl [R2]; · iexact R2
  isplitl [R3]; · iexact R3
  isplitl [HsU HhU HcU]
  · isplitl [HsU]; · iexact HsU
    isplitl [HhU]; · iapply (eqE (wu_eq c _)); iexact HhU
    iexact HcU
  isplitl [HsD HhD HcD]
  · isplitl [HsD]; · iexact HsD
    isplitl [HhD]; · iapply (eqE (wd_eq c _)); iexact HhD
    iexact HcD
  isplitl [HmX]; · iapply (toH c main_v0 _); iexact HmX
  isplitl [HmWus]; · iapply (toH c main_v1 _); iexact HmWus
  isplitl [HmBu]; · iapply (toH c main_v2 _); iexact HmBu
  isplitl [HmWds]; · iapply (toH c main_arg5 _); iexact HmWds
  isplitl [HmY]; · iapply (toH c main_v3_0 _); iexact HmY
  isplitl [HmXc]; · iapply (toH c main_v3_1 _); iexact HmXc
  isplitl [HmXs]; · iapply (toH c main_v3_2 _); iexact HmXs
  isplitl [HmHc]; · iapply (toH c main_v3_3 _); iexact HmHc
  isplitl [HmHs]; · iapply (toH c main_v3_4 _); iexact HmHs
  isplitl [HvX]; · icases HvX with ⟨%f, HvX⟩; iexists f; iapply (toH c cc0_scratch0 _); iexact HvX
  isplitl [HvWus]; · icases HvWus with ⟨%f, HvWus⟩; iexists f; iapply (toH c cc0_scratch2 _); iexact HvWus
  isplitl [HvBu]; · icases HvBu with ⟨%f, HvBu⟩; iexists f; iapply (toH c cc0_scratch3 _); iexact HvBu
  isplitl [HvWds]; · icases HvWds with ⟨%f, HvWds⟩; iexists f; iapply (toH c cc0_scratch5 _); iexact HvWds
  isplitl [HvY]; · icases HvY with ⟨%f, HvY⟩; iexists f; iapply (toH c cc0_scratch6 _); iexact HvY
  isplitl [HvXc]; · icases HvXc with ⟨%f, HvXc⟩; iexists f; iapply (toH c cc0_scratch7 _); iexact HvXc
  isplitl [HvXs]; · icases HvXs with ⟨%f, HvXs⟩; iexists f; iapply (toH c cc0_scratch8 _); iexact HvXs
  isplitl [HvHc]; · icases HvHc with ⟨%f, HvHc⟩; iexists f; iapply (toH c cc0_scratch9 _); iexact HvHc
  isplitl [HvHs]; · icases HvHs with ⟨%f, HvHs⟩; iexists f; iapply (toH c cc0_scratch10 _); iexact HvHs
  isplitl [HvXq]; · icases HvXq with ⟨%f, HvXq⟩; iexists f; iapply (toH c cc0_scratch11 _); iexact HvXq
  isplitl [HvH]; · icases HvH with ⟨%f, HvH⟩; iexists f; iapply (toH c cc0_scratch12 _); iexact HvH
  isplitl [HvHq]; · icases HvHq with ⟨%f, HvHq⟩; iexists f; iapply (toH c cc0_scratch13 _); iexact HvHq
  isplitl [HvAcc]; · icases HvAcc with ⟨%f, HvAcc⟩; iexists f; iapply (toH c cc0_scratch14 _); iexact HvAcc
  isplitl [Hs0]; · iexact Hs0
  isplitl [Hs1]; · iexact Hs1
  isplitl [Hs2]; · iexact Hs2
  isplitl [Hs3]; · iexact Hs3
  isplitl [Ho0]; · iexact Ho0
  isplitl [Ho1]; · iexact Ho1
  isplitl [Ho2]; · iexact Ho2
  isplitl [Ho3]; · iexact Ho3
  iexact Ho4

set_option maxHeartbeats 0 in
theorem phi_out (c : Dev nD) : PhiOut m c ⊢ iprop(outOfΦ m c ∗ Pipeline.ownSems0 osem c ∗ Pipeline.scopedRest cfg0.spec c) := by
  unfold outOfΦ PhiOut
  rw [scopedRest0_eq, restU_eq, restD_eq, V_main_arg0, V_main_arg2, V_main_arg3]
  iintro ⟨R0, R2, R3, ⟨HsU, HhU, HcU⟩, ⟨HsD, HhD, HcD⟩, HmX, HmWus, HmBu, HmWds, HmY, HmXc, HmXs, HmHc, HmHs, HvX, HvWus, HvBu, HvWds, HvY, HvXc, HvXs, HvHc, HvHs, HvXq, HvH, HvHq, HvAcc, Hs0, Hs1, Hs2, Hs3, Ho0, Ho1, Ho2, Ho3, Ho4⟩
  isplitl [R0 HhU R2 R3 HhD HmWds HmY HmXc HmXs HmHc HmHs]
  · isplitl [R0]; · iexact R0
    isplitl [HhU]; · iapply (eqE ((wu_eq c _).symm.trans (congrArg (fun f => ((((c : Thread nD τ).loc main_arg1) ↦{fullShare} f : sProp 𝕄))) (V_main_arg1 m c)))); iexact HhU
    isplitl [R2]; · iexact R2
    isplitl [R3]; · iexact R3
    isplitl [HhD]; · iapply (eqE ((wd_eq c _).symm.trans (congrArg (fun f => ((((c : Thread nD τ).loc main_arg4) ↦{fullShare} f : sProp 𝕄))) (V_main_arg4 m c)))); iexact HhD
    isplitl [HmWds]; · iapply (eqE ((heldP_whole c main_arg5 _).trans (congrArg (fun f => ((((c : Thread nD τ).loc main_arg5) ↦{fullShare} f : sProp 𝕄))) (V_main_arg5 m c)))); iexact HmWds
    isplitl [HmY]; · iexact HmY
    isplitl [HmXc]; · iexact HmXc
    isplitl [HmXs]; · iexact HmXs
    isplitl [HmHc]; · iexact HmHc
    iexact HmHs
  isplitl [HcU HcD Hs0 Hs1 Hs2 Hs3 Ho0 Ho1 Ho2 Ho3 Ho4]
  · iapply (cells_join c)
    isplitl [Hs0]; · iexact Hs0
    isplitl [Hs1]; · iexact Hs1
    isplitl [Hs2]; · iexact Hs2
    isplitl [Hs3]; · iexact Hs3
    isplitl [HcU]; · iexact HcU
    isplitl [HcD]; · iexact HcD
    isplitl [Ho0]; · iexact Ho0
    isplitl [Ho1]; · iexact Ho1
    isplitl [Ho2]; · iexact Ho2
    isplitl [Ho3]; · iexact Ho3
    iexact Ho4
  isplitl [HvX]; · icases HvX with ⟨%f, HvX⟩; iexists f; iapply (ofH c cc0_scratch0 _); iexact HvX
  isplitl [HsU]; · iapply (bufU_join c); iexact HsU
  isplitl [HvWus]; · icases HvWus with ⟨%f, HvWus⟩; iexists f; iapply (ofH c cc0_scratch2 _); iexact HvWus
  isplitl [HvBu]; · icases HvBu with ⟨%f, HvBu⟩; iexists f; iapply (ofH c cc0_scratch3 _); iexact HvBu
  isplitl [HsD]; · iapply (bufD_join c); iexact HsD
  isplitl [HvWds]; · icases HvWds with ⟨%f, HvWds⟩; iexists f; iapply (ofH c cc0_scratch5 _); iexact HvWds
  isplitl [HvY]; · icases HvY with ⟨%f, HvY⟩; iexists f; iapply (ofH c cc0_scratch6 _); iexact HvY
  isplitl [HvXc]; · icases HvXc with ⟨%f, HvXc⟩; iexists f; iapply (ofH c cc0_scratch7 _); iexact HvXc
  isplitl [HvXs]; · icases HvXs with ⟨%f, HvXs⟩; iexists f; iapply (ofH c cc0_scratch8 _); iexact HvXs
  isplitl [HvHc]; · icases HvHc with ⟨%f, HvHc⟩; iexists f; iapply (ofH c cc0_scratch9 _); iexact HvHc
  isplitl [HvHs]; · icases HvHs with ⟨%f, HvHs⟩; iexists f; iapply (ofH c cc0_scratch10 _); iexact HvHs
  isplitl [HvXq]; · icases HvXq with ⟨%f, HvXq⟩; iexists f; iapply (ofH c cc0_scratch11 _); iexact HvXq
  isplitl [HvH]; · icases HvH with ⟨%f, HvH⟩; iexists f; iapply (ofH c cc0_scratch12 _); iexact HvH
  isplitl [HvHq]; · icases HvHq with ⟨%f, HvHq⟩; iexists f; iapply (ofH c cc0_scratch13 _); iexact HvHq
  icases HvAcc with ⟨%f, HvAcc⟩; iexists f; iapply (ofH c cc0_scratch14 _); iexact HvAcc

set_option maxHeartbeats 0 in
theorem fin_out (c : Dev nD) (s' : Phys nD τ sig (Elt F)) :
    iprop(outOfΦ m c ∗ emp ∗ SI s') ⊢ |={Set.univ}=> iprop(⌜QY m c s'.mem⌝ ∗ SI s' : sProp 𝕄) := by
  unfold outOfΦ
  iintro ⟨⟨A0, A1, A2, A3, A4, A5, ⟨%fHY, %fYY, OY⟩, ⟨%fXcXc, OXc⟩, ⟨%fXsXs, OXs⟩, ⟨%fHHc, %fHcHc, OHc⟩, ⟨%fHsHs, OHs⟩⟩, -, HSI⟩
  ihave OY := (ofH c main_v3_0 _) $$ OY
  ihave OXc := (ofH c main_v3_1 _) $$ OXc
  ihave OXs := (ofH c main_v3_2 _) $$ OXs
  ihave OHc := (ofH c main_v3_3 _) $$ OHc
  ihave OHs := (ofH c main_v3_4 _) $$ OHs
  icombine HSI A0 gives %hA0
  icombine HSI A1 gives %hA1
  icombine HSI A2 gives %hA2
  icombine HSI A3 gives %hA3
  icombine HSI A4 gives %hA4
  icombine HSI A5 gives %hA5
  icombine HSI OY gives %hOY
  icombine HSI OXc gives %hOXc
  icombine HSI OXs gives %hOXs
  icombine HSI OHc gives %hOHc
  icombine HSI OHs gives %hOHs
  imodintro
  isplitr
  · ipureintro
    exact ⟨Buf.eq_of_forall_mem_univ hA0, Buf.eq_of_forall_mem_univ hA1, Buf.eq_of_forall_mem_univ hA2, Buf.eq_of_forall_mem_univ hA3, Buf.eq_of_forall_mem_univ hA4, Buf.eq_of_forall_mem_univ hA5, ⟨fHY, fYY, Buf.eq_of_forall_mem_univ hOY⟩, ⟨fXcXc, Buf.eq_of_forall_mem_univ hOXc⟩, ⟨fXsXs, Buf.eq_of_forall_mem_univ hOXs⟩, ⟨fHHc, fHcHc, Buf.eq_of_forall_mem_univ hOHc⟩, ⟨fHsHs, Buf.eq_of_forall_mem_univ hOHs⟩⟩
  iexact HSI

set_option backward.isDefEq.respectTransparency.types false in
/-- At the compiled mesh, for any float values, from any memory with zero counters: every weakly fair execution of
    @main on the TensorCores terminates, and every final state is as `QY` says on every core, with every semaphore
    counter at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainUU m)
    (hA := fun _ w => w.elim0)
    (X := intoΦ m) (Y := outOfΦ m) (Z := fun _ => iprop(emp))
    (hX := fun c => by
      unfold intoΦ
      iintro ⟨H0, HS, -, -, -⟩; imodintro
      isplitl [H0 HS]
      · isplitl [H0]; · iexact H0
        iexact HS
      iempintro)
    (hin := fun c => phi_in m c)
    (hout := fun c => phi_out m c)
    (QY := QY m)
    (hY := fun c s' => fin_out m c s')
    (hQ := fun s h hz => ⟨fun c => (h c).2, hz⟩)

end Cert.Proof.RunIdeal

end
-- ==== Proof.RunPrinted.Names.lean ====
/-
  `Kernel`: the names under which the hand proof speaks of the kernel's transfers.

  The kernel copies the up-projection weight in as ten column blocks (`srcU b` of the argument into slot `slotU b` of
  a ten-slot buffer, on cell `csmU b`) and the down-projection weight as twenty row blocks (`srcD b` into the rows
  `slotD b` of a buffer of the same shape, on cell `csmD b`); all thirty are started before the first is waited for.
  Each name has the equations (`@[sl_canon]`) by which a run recognises it: the literal offsets of the issues, and the
  loops' offsets at a symbolic trip, in closed form.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.RunPrinted

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user algebra: the pipeline library's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-! ## The memrefs the body is called on -/

abbrev mX : Memref sig .tc .hbm S16x2560 .bf16 := Memref.whole main_v0
abbrev mWu : Memref sig .tc .hbm S2560x10240 .fp8e4m3 := Memref.whole main_arg1
abbrev mWus : Memref sig .tc .hbm S1x10240 .f32 := Memref.whole main_v1
abbrev mBu : Memref sig .tc .hbm S1x10240 .f32 := Memref.whole main_v2
abbrev mWd : Memref sig .tc .hbm S10240x2560 .fp8e4m3 := Memref.whole main_arg4
abbrev mWds : Memref sig .tc .hbm S2560 .f32 := Memref.whole main_arg5
abbrev mY : Memref sig .tc .hbm S16x2560 .bf16 := Memref.whole main_v3_0
abbrev mXc : Memref sig .tc .hbm S16x2560 .fp8e4m3 := Memref.whole main_v3_1
abbrev mXs : Memref sig .tc .hbm S1x16 .f32 := Memref.whole main_v3_2
abbrev mHc : Memref sig .tc .hbm S16x10240 .fp8e4m3 := Memref.whole main_v3_3
abbrev mHs : Memref sig .tc .hbm S1x16 .f32 := Memref.whole main_v3_4
abbrev vX : Memref sig .tc .vmem S16x2560 .bf16 := Memref.whole cc0_scratch0
abbrev vWu : Memref sig .tc .vmem S10x2560x1024 .fp8e4m3 := Memref.whole cc0_scratch1
abbrev vWus : Memref sig .tc .vmem S1x10240 .f32 := Memref.whole cc0_scratch2
abbrev vBu : Memref sig .tc .vmem S1x10240 .f32 := Memref.whole cc0_scratch3
abbrev vWd : Memref sig .tc .vmem S10240x2560 .fp8e4m3 := Memref.whole cc0_scratch4
abbrev vWds : Memref sig .tc .vmem S2560 .f32 := Memref.whole cc0_scratch5
abbrev vY : Memref sig .tc .vmem S16x2560 .bf16 := Memref.whole cc0_scratch6
abbrev vXc : Memref sig .tc .vmem S16x2560 .fp8e4m3 := Memref.whole cc0_scratch7
abbrev vXs : Memref sig .tc .vmem S1x16 .f32 := Memref.whole cc0_scratch8
abbrev vHc : Memref sig .tc .vmem S16x10240 .fp8e4m3 := Memref.whole cc0_scratch9
abbrev vHs : Memref sig .tc .vmem S1x16 .f32 := Memref.whole cc0_scratch10
abbrev vXq : Memref sig .tc .vmem S32x2560 .fp8e4m3 := Memref.whole cc0_scratch11
abbrev vH : Memref sig .tc .vmem S16x10240 .f32 := Memref.whole cc0_scratch12
abbrev vHq : Memref sig .tc .vmem S32x10240 .fp8e4m3 := Memref.whole cc0_scratch13
abbrev vAcc : Memref sig .tc .vmem S16x2560 .f32 := Memref.whole cc0_scratch14

/-! ## Offsets of the blocks -/

abbrev uColOff (b : Fin 10) : Fin 2 → Nat := ![0, 1024 * b.val]
theorem uColOff_inb (b : Fin 10) : ∀ a, uColOff b a + S2560x1024.size a ≤ S2560x10240.size a := by
  have := b.isLt; intro a; fin_cases a
  · show 0 + 2560 ≤ 2560; omega
  · show 1024 * b.val + 1024 ≤ 10240; omega
abbrev uSlotOff (b : Fin 10) : Fin 3 → Nat := ![b.val, 0, 0]
theorem uSlotOff_inb (b : Fin 10) : ∀ a, uSlotOff b a + S1x2560x1024.size a ≤ S10x2560x1024.size a := by
  have := b.isLt; intro a; fin_cases a
  · show b.val + 1 ≤ 10; omega
  · show 0 + 2560 ≤ 2560; omega
  · show 0 + 1024 ≤ 1024; omega
abbrev uSemOff (b : Fin 10) : Fin 1 → Nat := ![b.val]
theorem uSemOff_inb (b : Fin 10) : ∀ a, uSemOff b a + S1.size a ≤ S10.size a := by
  have := b.isLt; intro a; fin_cases a; show b.val + 1 ≤ 10; omega
abbrev dRowOff (b : Fin 20) : Fin 2 → Nat := ![512 * b.val, 0]
theorem dRowOff_inb (b : Fin 20) : ∀ a, dRowOff b a + S512x2560.size a ≤ S10240x2560.size a := by
  have := b.isLt; intro a; fin_cases a
  · show 512 * b.val + 512 ≤ 10240; omega
  · show 0 + 2560 ≤ 2560; omega
abbrev dSemOff (b : Fin 20) : Fin 1 → Nat := ![b.val]
theorem dSemOff_inb (b : Fin 20) : ∀ a, dSemOff b a + S1.size a ≤ S20.size a := by
  have := b.isLt; intro a; fin_cases a; show b.val + 1 ≤ 20; omega

/-- Column block `b` of the up-projection weight, as the body slices it. -/
def srcU (b : Fin 10) : Memref sig .tc .hbm S2560x1024 .fp8e4m3 :=
  mWu.slice (Rect.unit (s := S2560x10240) (uColOff b) S2560x1024.size (uColOff_inb b)) (fun _ => rfl)
/-- Slot `b` of the buffer it is copied into, as the body slices and squeezes it. -/
def slotU (b : Fin 10) : Memref sig .tc .vmem S2560x1024 .fp8e4m3 :=
  (vWu.slice (Rect.unit (s := S10x2560x1024) (uSlotOff b) S1x2560x1024.size (uSlotOff_inb b)) (fun _ => rfl)).squeeze S2560x1024 squeezes_S1x2560x1024_S2560x1024
/-- Its DMA semaphore. -/
def csmU (b : Fin 10) : DmaSems sig S_ := (cc0_scratch16.slice (Rect.unit (s := S10) (uSemOff b) S1.size (uSemOff_inb b))).squeeze S_ squeezes_S1_S_
/-- Row block `b` of the down-projection weight, as the body slices it. -/
def srcD (b : Fin 20) : Memref sig .tc .hbm S512x2560 .fp8e4m3 :=
  mWd.slice (Rect.unit (s := S10240x2560) (dRowOff b) S512x2560.size (dRowOff_inb b)) (fun _ => rfl)
/-- The rows of the buffer it is copied into. -/
def slotD (b : Fin 20) : Memref sig .tc .vmem S512x2560 .fp8e4m3 :=
  vWd.slice (Rect.unit (s := S10240x2560) (dRowOff b) S512x2560.size (dRowOff_inb b)) (fun _ => rfl)
/-- Its DMA semaphore. -/
def csmD (b : Fin 20) : DmaSems sig S_ := (cc0_scratch17.slice (Rect.unit (s := S20) (dSemOff b) S1.size (dSemOff_inb b))).squeeze S_ squeezes_S1_S_

abbrev sSemOff (b : Fin 4) : Fin 1 → Nat := ![b.val]
theorem sSemOff_inb (b : Fin 4) : ∀ a, sSemOff b a + S1.size a ≤ S4.size a := by
  have := b.isLt; intro a; fin_cases a; show b.val + 1 ≤ 4; omega
abbrev oSemOff (b : Fin 5) : Fin 1 → Nat := ![b.val]
theorem oSemOff_inb (b : Fin 5) : ∀ a, oSemOff b a + S1.size a ≤ S5.size a := by
  have := b.isLt; intro a; fin_cases a; show b.val + 1 ≤ 5; omega
/-- The semaphores of the four small arguments' copies, -/
def csmS (b : Fin 4) : DmaSems sig S_ := (cc0_scratch15.slice (Rect.unit (s := S4) (sSemOff b) S1.size (sSemOff_inb b))).squeeze S_ squeezes_S1_S_
/-- and of the five results'. -/
def csmO (b : Fin 5) : DmaSems sig S_ := (cc0_scratch18.slice (Rect.unit (s := S5) (oSemOff b) S1.size (oSemOff_inb b))).squeeze S_ squeezes_S1_S_

instance (b : Fin 10) : ClosedOff (uColOff b) := ⟨uColOff b, rfl⟩
instance (b : Fin 10) : ClosedOff (uSlotOff b) := ⟨uSlotOff b, rfl⟩
instance (b : Fin 20) : ClosedOff (dRowOff b) := ⟨dRowOff b, rfl⟩

/-! ## The loops' offsets in closed form -/

theorem trips1 : k0_t1_loop.trips = 10 := by decide
theorem trips2 : k0_t2_loop.trips = 20 := by decide
/-- Trip `k` of the up loop as a block number; -/
abbrev bU (k : Fin k0_t1_loop.trips) : Fin 10 := ⟨k.val, Nat.lt_of_lt_of_eq k.isLt trips1⟩
/-- of the down loop. -/
abbrev bD (k : Fin k0_t2_loop.trips) : Fin 20 := ⟨k.val, Nat.lt_of_lt_of_eq k.isLt trips2⟩

theorem off1_eq (k : Fin k0_t1_loop.trips) : k0_off1 k = uSemOff (bU k) := by revert k; decide
theorem off2_eq (k : Fin k0_t1_loop.trips) : k0_off2 k = uSlotOff (bU k) := by revert k; decide
theorem off3_eq (k : Fin k0_t1_loop.trips) : k0_off3 k = uColOff (bU k) := by revert k; decide
theorem off4_eq (k : Fin k0_t1_loop.trips) : k0_off4 k = uSlotOff (bU k) := by revert k; decide
theorem off5_eq (k : Fin k0_t1_loop.trips) : k0_off5 k = uColOff (bU k) := by revert k; decide
theorem off6_eq (k : Fin k0_t1_loop.trips) : k0_off6 k = uColOff (bU k) := by revert k; decide
theorem off7_eq (k : Fin k0_t2_loop.trips) : k0_off7 k = dSemOff (bD k) := by revert k; decide
theorem off8_eq (k : Fin k0_t2_loop.trips) : k0_off8 k = dRowOff (bD k) := by revert k; decide
theorem off9_eq (k : Fin k0_t2_loop.trips) : k0_off9 k = (![0, 512 * (bD k).val] : Fin 2 → Nat) := by revert k; decide
theorem off10_eq (k : Fin k0_t2_loop.trips) : k0_off10 k = dRowOff (bD k) := by revert k; decide

instance (k : Fin k0_t1_loop.trips) : ClosedOff (k0_off2 k) := ⟨uSlotOff (bU k), off2_eq k⟩
instance (k : Fin k0_t1_loop.trips) : ClosedOff (k0_off4 k) := ⟨uSlotOff (bU k), off4_eq k⟩
instance (k : Fin k0_t1_loop.trips) : ClosedOff (k0_off5 k) := ⟨uColOff (bU k), off5_eq k⟩
instance (k : Fin k0_t1_loop.trips) : ClosedOff (k0_off6 k) := ⟨uColOff (bU k), off6_eq k⟩
instance (k : Fin k0_t2_loop.trips) : ClosedOff (k0_off8 k) := ⟨dRowOff (bD k), off8_eq k⟩
instance (k : Fin k0_t2_loop.trips) : ClosedOff (k0_off9 k) := ⟨![0, 512 * (bD k).val], off9_eq k⟩
instance (k : Fin k0_t2_loop.trips) : ClosedOff (k0_off10 k) := ⟨dRowOff (bD k), off10_eq k⟩

/-! ## The equations by which a run recognises the names -/

private theorem csmU_congr {off : Fin 1 → Nat} {b : Fin 10} (e : off = uSemOff b) (hh) :
    (cc0_scratch16.slice (Rect.unit (s := S10) off S1.size hh)).squeeze S_ squeezes_S1_S_ = csmU b :=
  congrArg (fun A : DmaSems sig S1 => A.squeeze S_ squeezes_S1_S_) (SemArray.slice_unit_congr _ e _ _)
private theorem csmS_congr {off : Fin 1 → Nat} {b : Fin 4} (e : off = sSemOff b) (hh) :
    (cc0_scratch15.slice (Rect.unit (s := S4) off S1.size hh)).squeeze S_ squeezes_S1_S_ = csmS b :=
  congrArg (fun A : DmaSems sig S1 => A.squeeze S_ squeezes_S1_S_) (SemArray.slice_unit_congr _ e _ _)
private theorem csmO_congr {off : Fin 1 → Nat} {b : Fin 5} (e : off = oSemOff b) (hh) :
    (cc0_scratch18.slice (Rect.unit (s := S5) off S1.size hh)).squeeze S_ squeezes_S1_S_ = csmO b :=
  congrArg (fun A : DmaSems sig S1 => A.squeeze S_ squeezes_S1_S_) (SemArray.slice_unit_congr _ e _ _)
private theorem slotU_congr {off : Fin 3 → Nat} {b : Fin 10} (e : off = uSlotOff b) (hh hs) :
    (vWu.slice (Rect.unit (s := S10x2560x1024) off S1x2560x1024.size hh) hs).squeeze S2560x1024 squeezes_S1x2560x1024_S2560x1024 = slotU b :=
  congrArg (fun M : Memref sig .tc .vmem S1x2560x1024 .fp8e4m3 => M.squeeze S2560x1024 squeezes_S1x2560x1024_S2560x1024) (Memref.slice_unit_congr _ e _ _ _ _)
private theorem srcU_congr {off : Fin 2 → Nat} {b : Fin 10} (e : off = uColOff b) (hh hs) :
    (mWu.slice (Rect.unit (s := S2560x10240) off S2560x1024.size hh) hs) = srcU b :=
  Memref.slice_unit_congr _ e _ _ _ (fun _ => rfl)
private theorem csmD_congr {off : Fin 1 → Nat} {b : Fin 20} (e : off = dSemOff b) (hh) :
    (cc0_scratch17.slice (Rect.unit (s := S20) off S1.size hh)).squeeze S_ squeezes_S1_S_ = csmD b :=
  congrArg (fun A : DmaSems sig S1 => A.squeeze S_ squeezes_S1_S_) (SemArray.slice_unit_congr _ e _ _)
private theorem slotD_congr {off : Fin 2 → Nat} {b : Fin 20} (e : off = dRowOff b) (hh hs) :
    (vWd.slice (Rect.unit (s := S10240x2560) off S512x2560.size hh) hs) = slotD b :=
  Memref.slice_unit_congr _ e _ _ _ (fun _ => rfl)
private theorem srcD_congr {off : Fin 2 → Nat} {b : Fin 20} (e : off = dRowOff b) (hh hs) :
    (mWd.slice (Rect.unit (s := S10240x2560) off S512x2560.size hh) hs) = srcD b :=
  Memref.slice_unit_congr _ e _ _ _ (fun _ => rfl)

@[sl_canon] theorem csmS_0 (hh) : (cc0_scratch15.slice (Rect.unit (s := S4) ![0] S1.size hh)).squeeze S_ squeezes_S1_S_ = csmS 0 := csmS_congr (by decide) _
@[sl_canon] theorem csmS_1 (hh) : (cc0_scratch15.slice (Rect.unit (s := S4) ![1] S1.size hh)).squeeze S_ squeezes_S1_S_ = csmS 1 := csmS_congr (by decide) _
@[sl_canon] theorem csmS_2 (hh) : (cc0_scratch15.slice (Rect.unit (s := S4) ![2] S1.size hh)).squeeze S_ squeezes_S1_S_ = csmS 2 := csmS_congr (by decide) _
@[sl_canon] theorem csmS_3 (hh) : (cc0_scratch15.slice (Rect.unit (s := S4) ![3] S1.size hh)).squeeze S_ squeezes_S1_S_ = csmS 3 := csmS_congr (by decide) _
@[sl_canon] theorem csmO_0 (hh) : (cc0_scratch18.slice (Rect.unit (s := S5) ![0] S1.size hh)).squeeze S_ squeezes_S1_S_ = csmO 0 := csmO_congr (by decide) _
@[sl_canon] theorem csmO_1 (hh) : (cc0_scratch18.slice (Rect.unit (s := S5) ![1] S1.size hh)).squeeze S_ squeezes_S1_S_ = csmO 1 := csmO_congr (by decide) _
@[sl_canon] theorem csmO_2 (hh) : (cc0_scratch18.slice (Rect.unit (s := S5) ![2] S1.size hh)).squeeze S_ squeezes_S1_S_ = csmO 2 := csmO_congr (by decide) _
@[sl_canon] theorem csmO_3 (hh) : (cc0_scratch18.slice (Rect.unit (s := S5) ![3] S1.size hh)).squeeze S_ squeezes_S1_S_ = csmO 3 := csmO_congr (by decide) _
@[sl_canon] theorem csmO_4 (hh) : (cc0_scratch18.slice (Rect.unit (s := S5) ![4] S1.size hh)).squeeze S_ squeezes_S1_S_ = csmO 4 := csmO_congr (by decide) _
@[sl_canon] theorem csmU_0 (hh) : (cc0_scratch16.slice (Rect.unit (s := S10) ![0] S1.size hh)).squeeze S_ squeezes_S1_S_ = csmU 0 := csmU_congr (by decide) _
@[sl_canon] theorem slotU_0 (hh hs) : (vWu.slice (Rect.unit (s := S10x2560x1024) ![0, 0, 0] S1x2560x1024.size hh) hs).squeeze S2560x1024 squeezes_S1x2560x1024_S2560x1024 = slotU 0 := slotU_congr (by decide) _ _
@[sl_canon] theorem srcU_0 (hh hs) : (mWu.slice (Rect.unit (s := S2560x10240) ![0, 0] S2560x1024.size hh) hs) = srcU 0 := srcU_congr (by decide) _ _
@[sl_canon] theorem csmU_1 (hh) : (cc0_scratch16.slice (Rect.unit (s := S10) ![1] S1.size hh)).squeeze S_ squeezes_S1_S_ = csmU 1 := csmU_congr (by decide) _
@[sl_canon] theorem slotU_1 (hh hs) : (vWu.slice (Rect.unit (s := S10x2560x1024) ![1, 0, 0] S1x2560x1024.size hh) hs).squeeze S2560x1024 squeezes_S1x2560x1024_S2560x1024 = slotU 1 := slotU_congr (by decide) _ _
@[sl_canon] theorem srcU_1 (hh hs) : (mWu.slice (Rect.unit (s := S2560x10240) ![0, 1024] S2560x1024.size hh) hs) = srcU 1 := srcU_congr (by decide) _ _
@[sl_canon] theorem csmU_2 (hh) : (cc0_scratch16.slice (Rect.unit (s := S10) ![2] S1.size hh)).squeeze S_ squeezes_S1_S_ = csmU 2 := csmU_congr (by decide) _
@[sl_canon] theorem slotU_2 (hh hs) : (vWu.slice (Rect.unit (s := S10x2560x1024) ![2, 0, 0] S1x2560x1024.size hh) hs).squeeze S2560x1024 squeezes_S1x2560x1024_S2560x1024 = slotU 2 := slotU_congr (by decide) _ _
@[sl_canon] theorem srcU_2 (hh hs) : (mWu.slice (Rect.unit (s := S2560x10240) ![0, 2048] S2560x1024.size hh) hs) = srcU 2 := srcU_congr (by decide) _ _
@[sl_canon] theorem csmU_3 (hh) : (cc0_scratch16.slice (Rect.unit (s := S10) ![3] S1.size hh)).squeeze S_ squeezes_S1_S_ = csmU 3 := csmU_congr (by decide) _
@[sl_canon] theorem slotU_3 (hh hs) : (vWu.slice (Rect.unit (s := S10x2560x1024) ![3, 0, 0] S1x2560x1024.size hh) hs).squeeze S2560x1024 squeezes_S1x2560x1024_S2560x1024 = slotU 3 := slotU_congr (by decide) _ _
@[sl_canon] theorem srcU_3 (hh hs) : (mWu.slice (Rect.unit (s := S2560x10240) ![0, 3072] S2560x1024.size hh) hs) = srcU 3 := srcU_congr (by decide) _ _
@[sl_canon] theorem csmU_4 (hh) : (cc0_scratch16.slice (Rect.unit (s := S10) ![4] S1.size hh)).squeeze S_ squeezes_S1_S_ = csmU 4 := csmU_congr (by decide) _
@[sl_canon] theorem slotU_4 (hh hs) : (vWu.slice (Rect.unit (s := S10x2560x1024) ![4, 0, 0] S1x2560x1024.size hh) hs).squeeze S2560x1024 squeezes_S1x2560x1024_S2560x1024 = slotU 4 := slotU_congr (by decide) _ _
@[sl_canon] theorem srcU_4 (hh hs) : (mWu.slice (Rect.unit (s := S2560x10240) ![0, 4096] S2560x1024.size hh) hs) = srcU 4 := srcU_congr (by decide) _ _
@[sl_canon] theorem csmU_5 (hh) : (cc0_scratch16.slice (Rect.unit (s := S10) ![5] S1.size hh)).squeeze S_ squeezes_S1_S_ = csmU 5 := csmU_congr (by decide) _
@[sl_canon] theorem slotU_5 (hh hs) : (vWu.slice (Rect.unit (s := S10x2560x1024) ![5, 0, 0] S1x2560x1024.size hh) hs).squeeze S2560x1024 squeezes_S1x2560x1024_S2560x1024 = slotU 5 := slotU_congr (by decide) _ _
@[sl_canon] theorem srcU_5 (hh hs) : (mWu.slice (Rect.unit (s := S2560x10240) ![0, 5120] S2560x1024.size hh) hs) = srcU 5 := srcU_congr (by decide) _ _
@[sl_canon] theorem csmU_6 (hh) : (cc0_scratch16.slice (Rect.unit (s := S10) ![6] S1.size hh)).squeeze S_ squeezes_S1_S_ = csmU 6 := csmU_congr (by decide) _
@[sl_canon] theorem slotU_6 (hh hs) : (vWu.slice (Rect.unit (s := S10x2560x1024) ![6, 0, 0] S1x2560x1024.size hh) hs).squeeze S2560x1024 squeezes_S1x2560x1024_S2560x1024 = slotU 6 := slotU_congr (by decide) _ _
@[sl_canon] theorem srcU_6 (hh hs) : (mWu.slice (Rect.unit (s := S2560x10240) ![0, 6144] S2560x1024.size hh) hs) = srcU 6 := srcU_congr (by decide) _ _
@[sl_canon] theorem csmU_7 (hh) : (cc0_scratch16.slice (Rect.unit (s := S10) ![7] S1.size hh)).squeeze S_ squeezes_S1_S_ = csmU 7 := csmU_congr (by decide) _
@[sl_canon] theorem slotU_7 (hh hs) : (vWu.slice (Rect.unit (s := S10x2560x1024) ![7, 0, 0] S1x2560x1024.size hh) hs).squeeze S2560x1024 squeezes_S1x2560x1024_S2560x1024 = slotU 7 := slotU_congr (by decide) _ _
@[sl_canon] theorem srcU_7 (hh hs) : (mWu.slice (Rect.unit (s := S2560x10240) ![0, 7168] S2560x1024.size hh) hs) = srcU 7 := srcU_congr (by decide) _ _
@[sl_canon] theorem csmU_8 (hh) : (cc0_scratch16.slice (Rect.unit (s := S10) ![8] S1.size hh)).squeeze S_ squeezes_S1_S_ = csmU 8 := csmU_congr (by decide) _
@[sl_canon] theorem slotU_8 (hh hs) : (vWu.slice (Rect.unit (s := S10x2560x1024) ![8, 0, 0] S1x2560x1024.size hh) hs).squeeze S2560x1024 squeezes_S1x2560x1024_S2560x1024 = slotU 8 := slotU_congr (by decide) _ _
@[sl_canon] theorem srcU_8 (hh hs) : (mWu.slice (Rect.unit (s := S2560x10240) ![0, 8192] S2560x1024.size hh) hs) = srcU 8 := srcU_congr (by decide) _ _
@[sl_canon] theorem csmU_9 (hh) : (cc0_scratch16.slice (Rect.unit (s := S10) ![9] S1.size hh)).squeeze S_ squeezes_S1_S_ = csmU 9 := csmU_congr (by decide) _
@[sl_canon] theorem slotU_9 (hh hs) : (vWu.slice (Rect.unit (s := S10x2560x1024) ![9, 0, 0] S1x2560x1024.size hh) hs).squeeze S2560x1024 squeezes_S1x2560x1024_S2560x1024 = slotU 9 := slotU_congr (by decide) _ _
@[sl_canon] theorem srcU_9 (hh hs) : (mWu.slice (Rect.unit (s := S2560x10240) ![0, 9216] S2560x1024.size hh) hs) = srcU 9 := srcU_congr (by decide) _ _
@[sl_canon] theorem csmD_0 (hh) : (cc0_scratch17.slice (Rect.unit (s := S20) ![0] S1.size hh)).squeeze S_ squeezes_S1_S_ = csmD 0 := csmD_congr (by decide) _
@[sl_canon] theorem slotD_0 (hh hs) : (vWd.slice (Rect.unit (s := S10240x2560) ![0, 0] S512x2560.size hh) hs) = slotD 0 := slotD_congr (by decide) _ _
@[sl_canon] theorem srcD_0 (hh hs) : (mWd.slice (Rect.unit (s := S10240x2560) ![0, 0] S512x2560.size hh) hs) = srcD 0 := srcD_congr (by decide) _ _
@[sl_canon] theorem csmD_1 (hh) : (cc0_scratch17.slice (Rect.unit (s := S20) ![1] S1.size hh)).squeeze S_ squeezes_S1_S_ = csmD 1 := csmD_congr (by decide) _
@[sl_canon] theorem slotD_1 (hh hs) : (vWd.slice (Rect.unit (s := S10240x2560) ![512, 0] S512x2560.size hh) hs) = slotD 1 := slotD_congr (by decide) _ _
@[sl_canon] theorem srcD_1 (hh hs) : (mWd.slice (Rect.unit (s := S10240x2560) ![512, 0] S512x2560.size hh) hs) = srcD 1 := srcD_congr (by decide) _ _
@[sl_canon] theorem csmD_2 (hh) : (cc0_scratch17.slice (Rect.unit (s := S20) ![2] S1.size hh)).squeeze S_ squeezes_S1_S_ = csmD 2 := csmD_congr (by decide) _
@[sl_canon] theorem slotD_2 (hh hs) : (vWd.slice (Rect.unit (s := S10240x2560) ![1024, 0] S512x2560.size hh) hs) = slotD 2 := slotD_congr (by decide) _ _
@[sl_canon] theorem srcD_2 (hh hs) : (mWd.slice (Rect.unit (s := S10240x2560) ![1024, 0] S512x2560.size hh) hs) = srcD 2 := srcD_congr (by decide) _ _
@[sl_canon] theorem csmD_3 (hh) : (cc0_scratch17.slice (Rect.unit (s := S20) ![3] S1.size hh)).squeeze S_ squeezes_S1_S_ = csmD 3 := csmD_congr (by decide) _
@[sl_canon] theorem slotD_3 (hh hs) : (vWd.slice (Rect.unit (s := S10240x2560) ![1536, 0] S512x2560.size hh) hs) = slotD 3 := slotD_congr (by decide) _ _
@[sl_canon] theorem srcD_3 (hh hs) : (mWd.slice (Rect.unit (s := S10240x2560) ![1536, 0] S512x2560.size hh) hs) = srcD 3 := srcD_congr (by decide) _ _
@[sl_canon] theorem csmD_4 (hh) : (cc0_scratch17.slice (Rect.unit (s := S20) ![4] S1.size hh)).squeeze S_ squeezes_S1_S_ = csmD 4 := csmD_congr (by decide) _
@[sl_canon] theorem slotD_4 (hh hs) : (vWd.slice (Rect.unit (s := S10240x2560) ![2048, 0] S512x2560.size hh) hs) = slotD 4 := slotD_congr (by decide) _ _
@[sl_canon] theorem srcD_4 (hh hs) : (mWd.slice (Rect.unit (s := S10240x2560) ![2048, 0] S512x2560.size hh) hs) = srcD 4 := srcD_congr (by decide) _ _
@[sl_canon] theorem csmD_5 (hh) : (cc0_scratch17.slice (Rect.unit (s := S20) ![5] S1.size hh)).squeeze S_ squeezes_S1_S_ = csmD 5 := csmD_congr (by decide) _
@[sl_canon] theorem slotD_5 (hh hs) : (vWd.slice (Rect.unit (s := S10240x2560) ![2560, 0] S512x2560.size hh) hs) = slotD 5 := slotD_congr (by decide) _ _
@[sl_canon] theorem srcD_5 (hh hs) : (mWd.slice (Rect.unit (s := S10240x2560) ![2560, 0] S512x2560.size hh) hs) = srcD 5 := srcD_congr (by decide) _ _
@[sl_canon] theorem csmD_6 (hh) : (cc0_scratch17.slice (Rect.unit (s := S20) ![6] S1.size hh)).squeeze S_ squeezes_S1_S_ = csmD 6 := csmD_congr (by decide) _
@[sl_canon] theorem slotD_6 (hh hs) : (vWd.slice (Rect.unit (s := S10240x2560) ![3072, 0] S512x2560.size hh) hs) = slotD 6 := slotD_congr (by decide) _ _
@[sl_canon] theorem srcD_6 (hh hs) : (mWd.slice (Rect.unit (s := S10240x2560) ![3072, 0] S512x2560.size hh) hs) = srcD 6 := srcD_congr (by decide) _ _
@[sl_canon] theorem csmD_7 (hh) : (cc0_scratch17.slice (Rect.unit (s := S20) ![7] S1.size hh)).squeeze S_ squeezes_S1_S_ = csmD 7 := csmD_congr (by decide) _
@[sl_canon] theorem slotD_7 (hh hs) : (vWd.slice (Rect.unit (s := S10240x2560) ![3584, 0] S512x2560.size hh) hs) = slotD 7 := slotD_congr (by decide) _ _
@[sl_canon] theorem srcD_7 (hh hs) : (mWd.slice (Rect.unit (s := S10240x2560) ![3584, 0] S512x2560.size hh) hs) = srcD 7 := srcD_congr (by decide) _ _
@[sl_canon] theorem csmD_8 (hh) : (cc0_scratch17.slice (Rect.unit (s := S20) ![8] S1.size hh)).squeeze S_ squeezes_S1_S_ = csmD 8 := csmD_congr (by decide) _
@[sl_canon] theorem slotD_8 (hh hs) : (vWd.slice (Rect.unit (s := S10240x2560) ![4096, 0] S512x2560.size hh) hs) = slotD 8 := slotD_congr (by decide) _ _
@[sl_canon] theorem srcD_8 (hh hs) : (mWd.slice (Rect.unit (s := S10240x2560) ![4096, 0] S512x2560.size hh) hs) = srcD 8 := srcD_congr (by decide) _ _
@[sl_canon] theorem csmD_9 (hh) : (cc0_scratch17.slice (Rect.unit (s := S20) ![9] S1.size hh)).squeeze S_ squeezes_S1_S_ = csmD 9 := csmD_congr (by decide) _
@[sl_canon] theorem slotD_9 (hh hs) : (vWd.slice (Rect.unit (s := S10240x2560) ![4608, 0] S512x2560.size hh) hs) = slotD 9 := slotD_congr (by decide) _ _
@[sl_canon] theorem srcD_9 (hh hs) : (mWd.slice (Rect.unit (s := S10240x2560) ![4608, 0] S512x2560.size hh) hs) = srcD 9 := srcD_congr (by decide) _ _
@[sl_canon] theorem csmD_10 (hh) : (cc0_scratch17.slice (Rect.unit (s := S20) ![10] S1.size hh)).squeeze S_ squeezes_S1_S_ = csmD 10 := csmD_congr (by decide) _
@[sl_canon] theorem slotD_10 (hh hs) : (vWd.slice (Rect.unit (s := S10240x2560) ![5120, 0] S512x2560.size hh) hs) = slotD 10 := slotD_congr (by decide) _ _
@[sl_canon] theorem srcD_10 (hh hs) : (mWd.slice (Rect.unit (s := S10240x2560) ![5120, 0] S512x2560.size hh) hs) = srcD 10 := srcD_congr (by decide) _ _
@[sl_canon] theorem csmD_11 (hh) : (cc0_scratch17.slice (Rect.unit (s := S20) ![11] S1.size hh)).squeeze S_ squeezes_S1_S_ = csmD 11 := csmD_congr (by decide) _
@[sl_canon] theorem slotD_11 (hh hs) : (vWd.slice (Rect.unit (s := S10240x2560) ![5632, 0] S512x2560.size hh) hs) = slotD 11 := slotD_congr (by decide) _ _
@[sl_canon] theorem srcD_11 (hh hs) : (mWd.slice (Rect.unit (s := S10240x2560) ![5632, 0] S512x2560.size hh) hs) = srcD 11 := srcD_congr (by decide) _ _
@[sl_canon] theorem csmD_12 (hh) : (cc0_scratch17.slice (Rect.unit (s := S20) ![12] S1.size hh)).squeeze S_ squeezes_S1_S_ = csmD 12 := csmD_congr (by decide) _
@[sl_canon] theorem slotD_12 (hh hs) : (vWd.slice (Rect.unit (s := S10240x2560) ![6144, 0] S512x2560.size hh) hs) = slotD 12 := slotD_congr (by decide) _ _
@[sl_canon] theorem srcD_12 (hh hs) : (mWd.slice (Rect.unit (s := S10240x2560) ![6144, 0] S512x2560.size hh) hs) = srcD 12 := srcD_congr (by decide) _ _
@[sl_canon] theorem csmD_13 (hh) : (cc0_scratch17.slice (Rect.unit (s := S20) ![13] S1.size hh)).squeeze S_ squeezes_S1_S_ = csmD 13 := csmD_congr (by decide) _
@[sl_canon] theorem slotD_13 (hh hs) : (vWd.slice (Rect.unit (s := S10240x2560) ![6656, 0] S512x2560.size hh) hs) = slotD 13 := slotD_congr (by decide) _ _
@[sl_canon] theorem srcD_13 (hh hs) : (mWd.slice (Rect.unit (s := S10240x2560) ![6656, 0] S512x2560.size hh) hs) = srcD 13 := srcD_congr (by decide) _ _
@[sl_canon] theorem csmD_14 (hh) : (cc0_scratch17.slice (Rect.unit (s := S20) ![14] S1.size hh)).squeeze S_ squeezes_S1_S_ = csmD 14 := csmD_congr (by decide) _
@[sl_canon] theorem slotD_14 (hh hs) : (vWd.slice (Rect.unit (s := S10240x2560) ![7168, 0] S512x2560.size hh) hs) = slotD 14 := slotD_congr (by decide) _ _
@[sl_canon] theorem srcD_14 (hh hs) : (mWd.slice (Rect.unit (s := S10240x2560) ![7168, 0] S512x2560.size hh) hs) = srcD 14 := srcD_congr (by decide) _ _
@[sl_canon] theorem csmD_15 (hh) : (cc0_scratch17.slice (Rect.unit (s := S20) ![15] S1.size hh)).squeeze S_ squeezes_S1_S_ = csmD 15 := csmD_congr (by decide) _
@[sl_canon] theorem slotD_15 (hh hs) : (vWd.slice (Rect.unit (s := S10240x2560) ![7680, 0] S512x2560.size hh) hs) = slotD 15 := slotD_congr (by decide) _ _
@[sl_canon] theorem srcD_15 (hh hs) : (mWd.slice (Rect.unit (s := S10240x2560) ![7680, 0] S512x2560.size hh) hs) = srcD 15 := srcD_congr (by decide) _ _
@[sl_canon] theorem csmD_16 (hh) : (cc0_scratch17.slice (Rect.unit (s := S20) ![16] S1.size hh)).squeeze S_ squeezes_S1_S_ = csmD 16 := csmD_congr (by decide) _
@[sl_canon] theorem slotD_16 (hh hs) : (vWd.slice (Rect.unit (s := S10240x2560) ![8192, 0] S512x2560.size hh) hs) = slotD 16 := slotD_congr (by decide) _ _
@[sl_canon] theorem srcD_16 (hh hs) : (mWd.slice (Rect.unit (s := S10240x2560) ![8192, 0] S512x2560.size hh) hs) = srcD 16 := srcD_congr (by decide) _ _
@[sl_canon] theorem csmD_17 (hh) : (cc0_scratch17.slice (Rect.unit (s := S20) ![17] S1.size hh)).squeeze S_ squeezes_S1_S_ = csmD 17 := csmD_congr (by decide) _
@[sl_canon] theorem slotD_17 (hh hs) : (vWd.slice (Rect.unit (s := S10240x2560) ![8704, 0] S512x2560.size hh) hs) = slotD 17 := slotD_congr (by decide) _ _
@[sl_canon] theorem srcD_17 (hh hs) : (mWd.slice (Rect.unit (s := S10240x2560) ![8704, 0] S512x2560.size hh) hs) = srcD 17 := srcD_congr (by decide) _ _
@[sl_canon] theorem csmD_18 (hh) : (cc0_scratch17.slice (Rect.unit (s := S20) ![18] S1.size hh)).squeeze S_ squeezes_S1_S_ = csmD 18 := csmD_congr (by decide) _
@[sl_canon] theorem slotD_18 (hh hs) : (vWd.slice (Rect.unit (s := S10240x2560) ![9216, 0] S512x2560.size hh) hs) = slotD 18 := slotD_congr (by decide) _ _
@[sl_canon] theorem srcD_18 (hh hs) : (mWd.slice (Rect.unit (s := S10240x2560) ![9216, 0] S512x2560.size hh) hs) = srcD 18 := srcD_congr (by decide) _ _
@[sl_canon] theorem csmD_19 (hh) : (cc0_scratch17.slice (Rect.unit (s := S20) ![19] S1.size hh)).squeeze S_ squeezes_S1_S_ = csmD 19 := csmD_congr (by decide) _
@[sl_canon] theorem slotD_19 (hh hs) : (vWd.slice (Rect.unit (s := S10240x2560) ![9728, 0] S512x2560.size hh) hs) = slotD 19 := slotD_congr (by decide) _ _
@[sl_canon] theorem srcD_19 (hh hs) : (mWd.slice (Rect.unit (s := S10240x2560) ![9728, 0] S512x2560.size hh) hs) = srcD 19 := srcD_congr (by decide) _ _

@[sl_canon] theorem csmU_k (k : Fin k0_t1_loop.trips) (hh) : (cc0_scratch16.slice (Rect.unit (s := S10) (k0_off1 k) S1.size hh)).squeeze S_ squeezes_S1_S_ = csmU (bU k) := csmU_congr (off1_eq k) _
@[sl_canon] theorem slotU_k (k : Fin k0_t1_loop.trips) (hh hs) : (vWu.slice (Rect.unit (s := S10x2560x1024) (k0_off2 k) S1x2560x1024.size hh) hs).squeeze S2560x1024 squeezes_S1x2560x1024_S2560x1024 = slotU (bU k) := slotU_congr (off2_eq k) _ _
@[sl_canon] theorem srcU_k (k : Fin k0_t1_loop.trips) (hh hs) : (mWu.slice (Rect.unit (s := S2560x10240) (k0_off3 k) S2560x1024.size hh) hs) = srcU (bU k) := srcU_congr (off3_eq k) _ _
@[sl_canon] theorem csmD_k (k : Fin k0_t2_loop.trips) (hh) : (cc0_scratch17.slice (Rect.unit (s := S20) (k0_off7 k) S1.size hh)).squeeze S_ squeezes_S1_S_ = csmD (bD k) := csmD_congr (off7_eq k) _
@[sl_canon] theorem slotD_k (k : Fin k0_t2_loop.trips) (hh hs) : (vWd.slice (Rect.unit (s := S10240x2560) (k0_off8 k) S512x2560.size hh) hs) = slotD (bD k) := slotD_congr (off8_eq k) _ _
@[sl_canon] theorem srcD_k (k : Fin k0_t2_loop.trips) (hh hs) : (mWd.slice (Rect.unit (s := S10240x2560) (k0_off8 k) S512x2560.size hh) hs) = srcD (bD k) := srcD_congr (off8_eq k) _ _

/-! ## The pieces of the state -/

section Pieces
variable (c : Dev nD)

/-- What buffer `b` of core `c` holds. -/
abbrev BufAt {sp : Space} {S : Shape} {e : EltTy} (M : Memref sig .tc sp S e) : Type := Buf (Elt F) (M.view.loc (c : Thread nD τ))
/-- A memref held on its elements at contents `f`. -/
abbrev heldP {sp : Space} {S : Shape} {e : EltTy} (M : Memref sig .tc sp S e) (f : BufAt (F := F) c M) : sProp 𝕄 :=
  M.view.loc (c : Thread nD τ) ↦[M.view.set]{fullShare} f
/-- A DMA cell at zero. -/
abbrev cellP (s : DmaSems sig S_) : sProp 𝕄 := semVal ((c : Thread nD τ), SemLoc.dma s.sem) 0

/-- The block a slot of the up weight holds after its transfer, over prior contents `f`. -/
abbrev landedU (XU : BufAt (F := F) c mWu) (b : Fin 10) (f : BufAt (F := F) c (slotU b)) : BufAt (F := F) c (slotU b) :=
  (slotU b).view.writes (Elt F) f [⟨Rect.whole S2560x1024, ReadAs.same.apply ((srcU b).view.read (Elt F) XU)⟩]
/-- Slot `b` of the up weight IN FLIGHT, issued over `f`. -/
abbrev flightU (XU : BufAt (F := F) c mWu) (b : Fin 10) : sProp 𝕄 :=
  iprop(∃ f, Transfers.Flight countersEmb (c : Thread nD τ) (SemLoc.dma (csmU b).sem) () 81920
    iprop(heldP c (slotU b) (landedU c XU b f) ∗ heldP c (srcU b) XU))
/-- Slot `b` of the up weight at rest: the slot, the block back home, the cell at zero. -/
abbrev restU (XU : BufAt (F := F) c mWu) (b : Fin 10) : sProp 𝕄 :=
  iprop((∃ f, heldP c (slotU b) f) ∗ heldP c (srcU b) XU ∗ cellP c (csmU b))

abbrev landedD (XD : BufAt (F := F) c mWd) (b : Fin 20) (f : BufAt (F := F) c (slotD b)) : BufAt (F := F) c (slotD b) :=
  (slotD b).view.writes (Elt F) f [⟨Rect.whole S512x2560, ReadAs.same.apply ((srcD b).view.read (Elt F) XD)⟩]
/-- Row block `b` of the down weight in flight; -/
abbrev flightD (XD : BufAt (F := F) c mWd) (b : Fin 20) : sProp 𝕄 :=
  iprop(∃ f, Transfers.Flight countersEmb (c : Thread nD τ) (SemLoc.dma (csmD b).sem) () 40960
    iprop(heldP c (slotD b) (landedD c XD b f) ∗ heldP c (srcD b) XD))
/-- at rest. -/
abbrev restD (XD : BufAt (F := F) c mWd) (b : Fin 20) : sProp 𝕄 :=
  iprop((∃ f, heldP c (slotD b) f) ∗ heldP c (srcD b) XD ∗ cellP c (csmD b))

end Pieces

end Cert.Proof.RunPrinted

end
-- ==== Proof.RunPrinted.Up.lean ====
/-
  `Kernel`: one trip of the up-projection loop, and the loop's invariant.

  Trip `k` waits for column block `k` of the weight, multiplies the quantised input by it, scales, adds the bias, takes
  the positive part, stores the block of the hidden row and folds the block's 128-lane chunks into the running maximum.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Tactic
public import proofs.«01_k».proof.Proof.RunPrinted.Names

@[expose] public section

noncomputable section

namespace Cert.Proof.RunPrinted

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Up
variable (c : Dev nD) (XU : BufAt (F := F) c mWu) (v210 : Vec F S16x1 .f32)
  (fq : BufAt (F := F) c vXq) (fw : BufAt (F := F) c vWus) (fb : BufAt (F := F) c vBu)

/-- The loop's region on the kernel's buffers. -/
abbrev tripU : Fin k0_t1_loop.trips → Vec F S16x128 .f32 → Prog (TpuEff nD τ sig (Elt F) Λ₀ .tc) (Vec F S16x128 .f32) :=
  k0_t1_body (F := F) mX (Memref.isWhole_whole _) mWu (Memref.isWhole_whole _) mWus (Memref.isWhole_whole _) mBu (Memref.isWhole_whole _) mWd (Memref.isWhole_whole _) mWds (Memref.isWhole_whole _) mY (Memref.isWhole_whole _) mXc (Memref.isWhole_whole _) mXs (Memref.isWhole_whole _) mHc (Memref.isWhole_whole _) mHs (Memref.isWhole_whole _) vX (Memref.isWhole_whole _) vWu (Memref.isWhole_whole _) vWus (Memref.isWhole_whole _) vBu (Memref.isWhole_whole _) vWd (Memref.isWhole_whole _) vWds (Memref.isWhole_whole _) vY (Memref.isWhole_whole _) vXc (Memref.isWhole_whole _) vXs (Memref.isWhole_whole _) vHc (Memref.isWhole_whole _) vHs (Memref.isWhole_whole _) vXq (Memref.isWhole_whole _) vH (Memref.isWhole_whole _) vHq (Memref.isWhole_whole _) vAcc (Memref.isWhole_whole _) cc0_scratch15 cc0_scratch16 cc0_scratch17 cc0_scratch18 v210

/-- The quantised (padded) input as the loop loads it. -/
abbrev xqV : Vec F S32x2560 .fp8e4m3 := vXq.view.readAt (Elt F) (Rect.unit (s := S32x2560) ![0, 0] S32x2560.size inb_S32x2560_S32x2560_0_0).toLoadRect fq
/-- Block `k` of the weight as trip `k` loads it. -/
def wuV (k : Fin k0_t1_loop.trips) : Vec F S1x2560x1024 .fp8e4m3 :=
  vWu.view.readAt (Elt F) (Rect.unit (s := S10x2560x1024) (k0_off4 k) S1x2560x1024.size (k0_off4_inb k)).toLoadRect (landedU c XU (bU k) (slotU (bU k)).view.junk)
/-- Block `k` of the weight's column scales, -/
abbrev wusV (k : Fin k0_t1_loop.trips) : Vec F S1x1024 .f32 := vWus.view.readAt (Elt F) (Rect.unit (s := S1x10240) (k0_off5 k) S1x1024.size (k0_off5_inb k)).toLoadRect fw
/-- and of the bias. -/
abbrev buV (k : Fin k0_t1_loop.trips) : Vec F S1x1024 .f32 := vBu.view.readAt (Elt F) (Rect.unit (s := S1x10240) (k0_off5 k) S1x1024.size (k0_off5_inb k)).toLoadRect fb
/-- Block `k` of the hidden row. -/
abbrev hBlk (k : Fin k0_t1_loop.trips) : Vec F S16x1024 .f32 := k0_pay3 v210 (xqV c fq) (wuV c XU k) (wusV c fw k) (buV c fb k)
/-- The running maximum after trip `k`, from the one before it. -/
abbrev maxNext (k : Fin k0_t1_loop.trips) (acc : Vec F S16x128 .f32) : Vec F S16x128 .f32 :=
  k0_pay18 (k0_pay2 v210 (xqV c fq) (wuV c XU k) (wusV c fw k) (buV c fb k)) (k0_pay4 v210 acc (xqV c fq) (wuV c XU k) (wusV c fw k) (buV c fb k))

/-- The hidden row's buffer after `k` trips over contents `g0`. -/
def hAcc (g0 : BufAt (F := F) c vH) : ℕ → BufAt (F := F) c vH
  | 0 => g0
  | k + 1 => if h : k < k0_t1_loop.trips then
      vH.view.writes (Elt F) (hAcc g0 k) [⟨Rect.unit (s := S16x10240) (k0_off6 ⟨k, h⟩) S16x1024.size (k0_off6_inb ⟨k, h⟩), hBlk c XU v210 fq fw fb ⟨k, h⟩⟩]
    else hAcc g0 k
/-- The running maximum after `k` trips. -/
def mAcc : ℕ → Vec F S16x128 .f32
  | 0 => k0_pay17 (F := F)
  | k + 1 => if h : k < k0_t1_loop.trips then maxNext c XU v210 fq fw fb ⟨k, h⟩ (mAcc k) else mAcc k

set_option maxHeartbeats 0 in
set_option backward.proofsInPublic true in
/-- ONE TRIP: block `k` in flight before it, at rest after it; the hidden row's block stored, the maximum folded. -/
theorem tripRun1 (k : Fin k0_t1_loop.trips) (g : BufAt (F := F) c vH) (acc : Vec F S16x128 .f32) :
    iprop(heldP c vXq fq ∗ heldP c vWus fw ∗ heldP c vBu fb ∗ heldP c vH g ∗ flightU c XU (bU k) ∗ ∃ W, owes (c : Thread nD τ) 0 W) ⊢
      wp frame (wpE (defs₀ (F := F)) 𝒱₀ (c : Thread nD τ) none) Set.univ (tripU v210 k acc)
        (fun r => iprop(⌜r = maxNext c XU v210 fq fw fb k acc⌝ ∗ heldP c vXq fq ∗ heldP c vWus fw ∗ heldP c vBu fb
          ∗ heldP c vH (vH.view.writes (Elt F) g [⟨Rect.unit (s := S16x10240) (k0_off6 k) S16x1024.size (k0_off6_inb k), hBlk c XU v210 fq fw fb k⟩])
          ∗ restU c XU (bU k) ∗ ∃ W, owes (c : Thread nD τ) 0 W)) := by
  iintro ⟨HQ, HW, HB, HH, ⟨%f, HF⟩, ⟨%W, Howes⟩⟩
  unfold tripU
  sl_unfold [k0_t1_body]
  sl_exec
  sl_step
  isplitr; · ipureintro; rfl
  isplitl [HQ]; · iexact HQ
  isplitl [HW]; · iexact HW
  isplitl [HB]; · iexact HB
  isplitl [HH]; · iexact HH
  isplitl [HF_dst HF_src HF]
  · isplitl [HF_dst]; · iexists _; iexact HF_dst
    isplitl [HF_src]; · iexact HF_src
    iexact HF
  iexists _; iexact Howes

/-- The state before trip `k`: blocks before `k` at rest, the others in flight. -/
def invU (g0 : BufAt (F := F) c vH) (k : ℕ) (acc : Vec F S16x128 .f32) : sProp 𝕄 :=
  iprop(⌜acc = mAcc c XU v210 fq fw fb k⌝ ∗ heldP c vXq fq ∗ heldP c vWus fw ∗ heldP c vBu fb ∗ heldP c vH (hAcc c XU v210 fq fw fb g0 k)
    ∗ bigSep (Ring.rangeSet 10 k 10) (flightU c XU) ∗ bigSep (Ring.rangeSet 10 0 k) (restU c XU) ∗ ∃ W, owes (c : Thread nD τ) 0 W)

theorem invU_step (g0 : BufAt (F := F) c vH) (k : Fin k0_t1_loop.trips) (acc : Vec F S16x128 .f32) :
    invU c XU v210 fq fw fb g0 k.val acc ⊢ wp frame (wpE (defs₀ (F := F)) 𝒱₀ (c : Thread nD τ) none) Set.univ (tripU v210 k acc)
      (fun r => invU c XU v210 fq fw fb g0 (k.val + 1) r) := by
  have h10 : k.val < 10 := Nat.lt_of_lt_of_eq k.isLt trips1
  have e1 : hAcc c XU v210 fq fw fb g0 (k.val + 1) = vH.view.writes (Elt F) (hAcc c XU v210 fq fw fb g0 k.val) [⟨Rect.unit (s := S16x10240) (k0_off6 k) S16x1024.size (k0_off6_inb k), hBlk c XU v210 fq fw fb k⟩] := by
    rw [hAcc, dif_pos k.isLt]
  have e2 : mAcc c XU v210 fq fw fb (k.val + 1) = maxNext c XU v210 fq fw fb k (mAcc c XU v210 fq fw fb k.val) := by
    rw [mAcc, dif_pos k.isLt]
  unfold invU
  rw [e1, e2, Ring.bigSep_rangeSet_head h10 h10, Ring.bigSep_rangeSet_last (lo := 0) (hi := k.val + 1) (Nat.succ_pos _) h10]
  iintro ⟨%ha, HQ, HW, HB, HH, ⟨HF, HFs⟩, Hr, Ho⟩
  subst ha
  iapply (wp_wand_r Idealize.ShloMosaic.frame (wpE (defs₀ (F := F)) 𝒱₀ (c : Thread nD τ) none) Set.univ)
  isplitl [HQ HW HB HH HF Ho]
  · iapply (tripRun1 c XU v210 fq fw fb k _ _)
    isplitl [HQ]; · iexact HQ
    isplitl [HW]; · iexact HW
    isplitl [HB]; · iexact HB
    isplitl [HH]; · iexact HH
    isplitl [HF]; · iexact HF
    iexact Ho
  iintro %r ⟨%hr, HQ, HW, HB, HH, HR, Ho⟩
  isplitr; · ipureintro; exact hr
  isplitl [HQ]; · iexact HQ
  isplitl [HW]; · iexact HW
  isplitl [HB]; · iexact HB
  isplitl [HH]; · iexact HH
  isplitl [HFs]; · iexact HFs
  isplitl [HR Hr]
  · isplitl [HR]; · iexact HR
    iexact Hr
  iexact Ho

set_option warn.classDefReducibility false in
/-- THE UP LOOP'S INVARIANT, instanced. -/
@[sl_loop] def loopInvU (g0 : BufAt (F := F) c vH) :
    LoopInvTy_k0_t1 (F := F) Unit ℕ (UU nD τ) ℕ 𝒱₀ c none Set.univ mX (Memref.isWhole_whole _) mWu (Memref.isWhole_whole _) mWus (Memref.isWhole_whole _) mBu (Memref.isWhole_whole _) mWd (Memref.isWhole_whole _) mWds (Memref.isWhole_whole _) mY (Memref.isWhole_whole _) mXc (Memref.isWhole_whole _) mXs (Memref.isWhole_whole _) mHc (Memref.isWhole_whole _) mHs (Memref.isWhole_whole _) vX (Memref.isWhole_whole _) vWu (Memref.isWhole_whole _) vWus (Memref.isWhole_whole _) vBu (Memref.isWhole_whole _) vWd (Memref.isWhole_whole _) vWds (Memref.isWhole_whole _) vY (Memref.isWhole_whole _) vXc (Memref.isWhole_whole _) vXs (Memref.isWhole_whole _) vHc (Memref.isWhole_whole _) vHs (Memref.isWhole_whole _) vXq (Memref.isWhole_whole _) vH (Memref.isWhole_whole _) vHq (Memref.isWhole_whole _) vAcc (Memref.isWhole_whole _) cc0_scratch15 cc0_scratch16 cc0_scratch17 cc0_scratch18 v210 (k0_pay17 (F := F)) where
  inv k acc := invU c XU v210 fq fw fb g0 k acc
  step k acc := invU_step c XU v210 fq fw fb g0 k acc

end Up

end Cert.Proof.RunPrinted

end
-- ==== Proof.RunPrinted.Down.lean ====
/-
  `Kernel`: one trip of the down-projection loop, and the loop's invariant.

  Trip `k` waits for row block `k` of the weight and adds to the accumulator the product of the hidden codes' column
  block `k` with it.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Tactic
public import proofs.«01_k».proof.Proof.RunPrinted.Names

@[expose] public section

noncomputable section

namespace Cert.Proof.RunPrinted

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Down
variable (c : Dev nD) (XD : BufAt (F := F) c mWd) (v300 : FVec F S16x1 .f32) (v479 : Vec F S16x1024 .f32) (v480 : FVec F S16x1024 .f32)
  (fq : BufAt (F := F) c vHq)

/-- The loop's region on the kernel's buffers. -/
abbrev tripD : Fin k0_t2_loop.trips → Unit → Prog (TpuEff nD τ sig (Elt F) Λ₀ .tc) Unit :=
  k0_t2_body (F := F) mX (Memref.isWhole_whole _) mWu (Memref.isWhole_whole _) mWus (Memref.isWhole_whole _) mBu (Memref.isWhole_whole _) mWd (Memref.isWhole_whole _) mWds (Memref.isWhole_whole _) mY (Memref.isWhole_whole _) mXc (Memref.isWhole_whole _) mXs (Memref.isWhole_whole _) mHc (Memref.isWhole_whole _) mHs (Memref.isWhole_whole _) vX (Memref.isWhole_whole _) vWu (Memref.isWhole_whole _) vWus (Memref.isWhole_whole _) vBu (Memref.isWhole_whole _) vWd (Memref.isWhole_whole _) vWds (Memref.isWhole_whole _) vY (Memref.isWhole_whole _) vXc (Memref.isWhole_whole _) vXs (Memref.isWhole_whole _) vHc (Memref.isWhole_whole _) vHs (Memref.isWhole_whole _) vXq (Memref.isWhole_whole _) vH (Memref.isWhole_whole _) vHq (Memref.isWhole_whole _) vAcc (Memref.isWhole_whole _) cc0_scratch15 cc0_scratch16 cc0_scratch17 cc0_scratch18 v300 v479 v480

/-- Column block `k` of the hidden codes as trip `k` loads it, -/
abbrev hqV (k : Fin k0_t2_loop.trips) : Vec F S32x512 .fp8e4m3 := vHq.view.readAt (Elt F) (Rect.unit (s := S32x10240) (k0_off9 k) S32x512.size (k0_off9_inb k)).toLoadRect fq
/-- row block `k` of the weight, -/
def wdV (k : Fin k0_t2_loop.trips) : Vec F S512x2560 .fp8e4m3 :=
  vWd.view.readAt (Elt F) (Rect.unit (s := S10240x2560) (k0_off10 k) S512x2560.size (k0_off10_inb k)).toLoadRect (landedD c XD (bD k) (slotD (bD k)).view.junk)
/-- and the accumulator. -/
abbrev accV (g : BufAt (F := F) c vAcc) : Vec F S16x2560 .f32 := vAcc.view.readAt (Elt F) (Rect.unit (s := S16x2560) ![0, 0] S16x2560.size inb_S16x2560_S16x2560_0_0).toLoadRect g

/-- The accumulator's buffer after trip `k`, from the one before it. -/
abbrev accNext (k : Fin k0_t2_loop.trips) (g : BufAt (F := F) c vAcc) : BufAt (F := F) c vAcc :=
  vAcc.view.writes (Elt F) g [⟨Rect.unit (s := S16x2560) ![0, 0] S16x2560.size inb_S16x2560_S16x2560_0_0, k0_pay61 (hqV c fq k) (wdV c XD k) (accV c g)⟩]
/-- The accumulator's buffer after `k` trips over contents `g0`. -/
def dAcc (g0 : BufAt (F := F) c vAcc) : ℕ → BufAt (F := F) c vAcc
  | 0 => g0
  | k + 1 => if h : k < k0_t2_loop.trips then accNext c XD fq ⟨k, h⟩ (dAcc g0 k) else dAcc g0 k

set_option maxHeartbeats 0 in
set_option backward.proofsInPublic true in
/-- ONE TRIP: block `k` in flight before it, at rest after it; its product added. -/
theorem tripRun2 (k : Fin k0_t2_loop.trips) (g : BufAt (F := F) c vAcc) (u : Unit) :
    iprop(heldP c vHq fq ∗ heldP c vAcc g ∗ flightD c XD (bD k) ∗ ∃ W, owes (c : Thread nD τ) 0 W) ⊢
      wp frame (wpE (defs₀ (F := F)) 𝒱₀ (c : Thread nD τ) none) Set.univ (tripD v300 v479 v480 k u)
        (fun _ => iprop(heldP c vHq fq ∗ heldP c vAcc (accNext c XD fq k g) ∗ restD c XD (bD k) ∗ ∃ W, owes (c : Thread nD τ) 0 W)) := by
  iintro ⟨HQ, HH, ⟨%f, HF⟩, ⟨%W, Howes⟩⟩
  unfold tripD
  sl_unfold [k0_t2_body]
  sl_exec
  sl_step
  isplitl [HQ]; · iexact HQ
  isplitl [HH]; · iexact HH
  isplitl [HF_dst HF_src HF]
  · isplitl [HF_dst]; · iexists _; iexact HF_dst
    isplitl [HF_src]; · iexact HF_src
    iexact HF
  iexists _; iexact Howes

/-- The state before trip `k`: blocks before `k` at rest, the others in flight. -/
def invD (g0 : BufAt (F := F) c vAcc) (k : ℕ) : sProp 𝕄 :=
  iprop(heldP c vHq fq ∗ heldP c vAcc (dAcc c XD fq g0 k)
    ∗ bigSep (Ring.rangeSet 20 k 20) (flightD c XD) ∗ bigSep (Ring.rangeSet 20 0 k) (restD c XD) ∗ ∃ W, owes (c : Thread nD τ) 0 W)

theorem invD_step (g0 : BufAt (F := F) c vAcc) (k : Fin k0_t2_loop.trips) (u : Unit) :
    invD c XD fq g0 k.val ⊢ wp frame (wpE (defs₀ (F := F)) 𝒱₀ (c : Thread nD τ) none) Set.univ (tripD v300 v479 v480 k u)
      (fun _ => invD c XD fq g0 (k.val + 1)) := by
  have h20 : k.val < 20 := Nat.lt_of_lt_of_eq k.isLt trips2
  have e1 : dAcc c XD fq g0 (k.val + 1) = accNext c XD fq k (dAcc c XD fq g0 k.val) := by
    rw [dAcc, dif_pos k.isLt]
  unfold invD
  rw [e1, Ring.bigSep_rangeSet_head h20 h20, Ring.bigSep_rangeSet_last (lo := 0) (hi := k.val + 1) (Nat.succ_pos _) h20]
  iintro ⟨HQ, HH, ⟨HF, HFs⟩, Hr, Ho⟩
  iapply (wp_wand_r Idealize.ShloMosaic.frame (wpE (defs₀ (F := F)) 𝒱₀ (c : Thread nD τ) none) Set.univ)
  isplitl [HQ HH HF Ho]
  · iapply (tripRun2 c XD v300 v479 v480 fq k _ _)
    isplitl [HQ]; · iexact HQ
    isplitl [HH]; · iexact HH
    isplitl [HF]; · iexact HF
    iexact Ho
  iintro %r ⟨HQ, HH, HR, Ho⟩
  isplitl [HQ]; · iexact HQ
  isplitl [HH]; · iexact HH
  isplitl [HFs]; · iexact HFs
  isplitl [HR Hr]
  · isplitl [HR]; · iexact HR
    iexact Hr
  iexact Ho

set_option warn.classDefReducibility false in
/-- THE DOWN LOOP'S INVARIANT, instanced. -/
@[sl_loop] def loopInvD (g0 : BufAt (F := F) c vAcc) :
    LoopInvTy_k0_t2 (F := F) Unit ℕ (UU nD τ) ℕ 𝒱₀ c none Set.univ mX (Memref.isWhole_whole _) mWu (Memref.isWhole_whole _) mWus (Memref.isWhole_whole _) mBu (Memref.isWhole_whole _) mWd (Memref.isWhole_whole _) mWds (Memref.isWhole_whole _) mY (Memref.isWhole_whole _) mXc (Memref.isWhole_whole _) mXs (Memref.isWhole_whole _) mHc (Memref.isWhole_whole _) mHs (Memref.isWhole_whole _) vX (Memref.isWhole_whole _) vWu (Memref.isWhole_whole _) vWus (Memref.isWhole_whole _) vBu (Memref.isWhole_whole _) vWd (Memref.isWhole_whole _) vWds (Memref.isWhole_whole _) vY (Memref.isWhole_whole _) vXc (Memref.isWhole_whole _) vXs (Memref.isWhole_whole _) vHc (Memref.isWhole_whole _) vHs (Memref.isWhole_whole _) vXq (Memref.isWhole_whole _) vH (Memref.isWhole_whole _) vHq (Memref.isWhole_whole _) vAcc (Memref.isWhole_whole _) cc0_scratch15 cc0_scratch16 cc0_scratch17 cc0_scratch18 v300 v479 v480 where
  inv k _ := invD c XD fq g0 k
  step k u := invD_step c XD v300 v479 v480 fq g0 k u

end Down

end Cert.Proof.RunPrinted

end
-- ==== Proof.RunPrinted.Vals.lean ====
/-
  `Kernel`: what the kernel's body computes, step by step, from the contents of the argument buffers.

  Every definition is the value one step of the body stores or carries; `gX`, `gU`, … are the argument buffers'
  contents, `f…` what a scratch buffer held before (the results do not depend on it, as the value modules show).
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Tactic
public import proofs.«01_k».proof.Proof.RunPrinted.Up
public import proofs.«01_k».proof.Proof.RunPrinted.Down

@[expose] public section

noncomputable section

namespace Cert.Proof.RunPrinted

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Vals
variable (c : Dev nD) (gX : BufAt (F := F) c mX) (gU : BufAt (F := F) c mWu) (gWus : BufAt (F := F) c mWus) (gBu : BufAt (F := F) c mBu)
  (gD : BufAt (F := F) c mWd) (gWds : BufAt (F := F) c mWds)
  (fH : BufAt (F := F) c vH)

/-- The input, copied in and loaded. -/
def xV : Vec F S16x2560 .bf16 := vX.view.readAt (Elt F) (Rect.unit (s := S16x2560) ![0, 0] S16x2560.size inb_S16x2560_S16x2560_0_0).toLoadRect
  (vX.view.writes (Elt F) vX.view.junk [⟨Rect.whole S16x2560, ReadAs.same.apply (mX.view.read (Elt F) gX)⟩])
/-- Its rows' scales. -/
def xsC : FVec F S16x1 .f32 := k0_pay9 (k0_pay6 (xV c gX)) (k0_pay7 (F := F))
/-- Its codes, -/
def xcB : FVec F S16x2560 .fp8e4m3 := k0_pay14 (k0_pay5 (xV c gX)) (k0_pay10 (k0_pay6 (xV c gX)) (k0_pay7 (F := F))) (k0_pay11 (k0_pay6 (xV c gX)) (k0_pay7 (F := F))) k0_pay12
/-- the codes over sixteen rows of zeros, -/
def xqB : FVec F S32x2560 .fp8e4m3 := k0_pay15 (k0_pay5 (xV c gX)) (k0_pay10 (k0_pay6 (xV c gX)) (k0_pay7 (F := F))) (k0_pay11 (k0_pay6 (xV c gX)) (k0_pay7 (F := F))) k0_pay12
/-- and the buffer they are kept in. -/
def bXq : BufAt (F := F) c vXq := vXq.view.writes (Elt F) vXq.view.junk [⟨Rect.unit (s := S32x2560) ![0, 0] S32x2560.size inb_S32x2560_S32x2560_0_0, xqB c gX⟩]
/-- The column scales' buffer, -/
def bWus : BufAt (F := F) c vWus := vWus.view.writes (Elt F) vWus.view.junk [⟨Rect.whole S1x10240, ReadAs.same.apply (mWus.view.read (Elt F) gWus)⟩]
/-- the bias's, -/
def bBu : BufAt (F := F) c vBu := vBu.view.writes (Elt F) vBu.view.junk [⟨Rect.whole S1x10240, ReadAs.same.apply (mBu.view.read (Elt F) gBu)⟩]
/-- the hidden rows' after the up loop, -/
def bH : BufAt (F := F) c vH := hAcc c gU (xsC c gX) (bXq c gX) (bWus c gWus) (bBu c gBu) fH k0_t1_loop.trips
/-- and the running maximum after it. -/
def mxV : Vec F S16x128 .f32 := mAcc c gU (xsC c gX) (bXq c gX) (bWus c gWus) (bBu c gBu) k0_t1_loop.trips
/-- The hidden rows' scales, -/
def hsC : FVec F S16x1 .f32 := k0_pay23 (k0_pay20 (mxV c gX gU gWus gBu)) (k0_pay21 (mxV c gX gU gWus gBu)) k0_pay22
/-- the scales' inverses, -/
def hiC : FVec F S16x1 .f32 := k0_pay24 (k0_pay19 (mxV c gX gU gWus gBu))
/-- the scales as a row. -/
def hsR : FVec F S1x16 .f32 := k0_pay25 (k0_pay20 (mxV c gX gU gWus gBu)) (k0_pay21 (mxV c gX gU gWus gBu)) k0_pay22
/-- Column block at `off` of the hidden rows. -/
def hL (off : Fin 2 → ℕ) (h : ∀ a, off a + S16x1024.size a ≤ S16x10240.size a) : Vec F S16x1024 .f32 :=
  vH.view.readAt (Elt F) (Rect.unit (s := S16x10240) off S16x1024.size h).toLoadRect (bH c gX gU gWus gBu fH)
/-- The hidden codes' blocks as they are stored, last first, -/
def hcP : List (View.Piece (Elt F) S16x10240 .fp8e4m3) :=
  [⟨Rect.unit (s := S16x10240) ![0, 9216] S16x1024.size inb_S16x10240_S16x1024_0_9216, k0_pay58 (hL c gX gU gWus gBu fH ![0, 9216] inb_S16x10240_S16x1024_0_9216) (k0_pay56 (hiC c gX gU gWus gBu))⟩,
   ⟨Rect.unit (s := S16x10240) ![0, 8192] S16x1024.size inb_S16x10240_S16x1024_0_8192, k0_pay54 (hiC c gX gU gWus gBu) (hL c gX gU gWus gBu fH ![0, 8192] inb_S16x10240_S16x1024_0_8192)⟩,
   ⟨Rect.unit (s := S16x10240) ![0, 7168] S16x1024.size inb_S16x10240_S16x1024_0_7168, k0_pay51 (hiC c gX gU gWus gBu) (hL c gX gU gWus gBu fH ![0, 7168] inb_S16x10240_S16x1024_0_7168)⟩,
   ⟨Rect.unit (s := S16x10240) ![0, 6144] S16x1024.size inb_S16x10240_S16x1024_0_6144, k0_pay48 (hiC c gX gU gWus gBu) (hL c gX gU gWus gBu fH ![0, 6144] inb_S16x10240_S16x1024_0_6144)⟩,
   ⟨Rect.unit (s := S16x10240) ![0, 5120] S16x1024.size inb_S16x10240_S16x1024_0_5120, k0_pay45 (hiC c gX gU gWus gBu) (hL c gX gU gWus gBu fH ![0, 5120] inb_S16x10240_S16x1024_0_5120)⟩,
   ⟨Rect.unit (s := S16x10240) ![0, 4096] S16x1024.size inb_S16x10240_S16x1024_0_4096, k0_pay41 (hiC c gX gU gWus gBu) (hL c gX gU gWus gBu fH ![0, 4096] inb_S16x10240_S16x1024_0_4096)⟩,
   ⟨Rect.unit (s := S16x10240) ![0, 3072] S16x1024.size inb_S16x10240_S16x1024_0_3072, k0_pay38 (hiC c gX gU gWus gBu) (hL c gX gU gWus gBu fH ![0, 3072] inb_S16x10240_S16x1024_0_3072)⟩,
   ⟨Rect.unit (s := S16x10240) ![0, 2048] S16x1024.size inb_S16x10240_S16x1024_0_2048, k0_pay34 (hiC c gX gU gWus gBu) (hL c gX gU gWus gBu fH ![0, 2048] inb_S16x10240_S16x1024_0_2048)⟩,
   ⟨Rect.unit (s := S16x10240) ![0, 1024] S16x1024.size inb_S16x10240_S16x1024_0_1024, k0_pay31 (hiC c gX gU gWus gBu) (hL c gX gU gWus gBu fH ![0, 1024] inb_S16x10240_S16x1024_0_1024)⟩,
   ⟨Rect.unit (s := S16x10240) ![0, 0] S16x1024.size inb_S16x10240_S16x1024_0_0, k0_pay28 (k0_pay27 (k0_pay19 (mxV c gX gU gWus gBu)) (hL c gX gU gWus gBu fH ![0, 0] inb_S16x10240_S16x1024_0_0))⟩]
/-- and the padded ones for the second product. -/
def hqP : List (View.Piece (Elt F) S32x10240 .fp8e4m3) :=
  [⟨Rect.unit (s := S32x10240) ![0, 9216] S32x1024.size inb_S32x10240_S32x1024_0_9216, k0_pay59 (hL c gX gU gWus gBu fH ![0, 9216] inb_S16x10240_S16x1024_0_9216) (k0_pay56 (hiC c gX gU gWus gBu))⟩,
   ⟨Rect.unit (s := S32x10240) ![0, 8192] S32x1024.size inb_S32x10240_S32x1024_0_8192, k0_pay55 (hiC c gX gU gWus gBu) (hL c gX gU gWus gBu fH ![0, 8192] inb_S16x10240_S16x1024_0_8192)⟩,
   ⟨Rect.unit (s := S32x10240) ![0, 7168] S32x1024.size inb_S32x10240_S32x1024_0_7168, k0_pay52 (hiC c gX gU gWus gBu) (hL c gX gU gWus gBu fH ![0, 7168] inb_S16x10240_S16x1024_0_7168)⟩,
   ⟨Rect.unit (s := S32x10240) ![0, 6144] S32x1024.size inb_S32x10240_S32x1024_0_6144, k0_pay49 (hiC c gX gU gWus gBu) (hL c gX gU gWus gBu fH ![0, 6144] inb_S16x10240_S16x1024_0_6144)⟩,
   ⟨Rect.unit (s := S32x10240) ![0, 5120] S32x1024.size inb_S32x10240_S32x1024_0_5120, k0_pay46 (hiC c gX gU gWus gBu) (hL c gX gU gWus gBu fH ![0, 5120] inb_S16x10240_S16x1024_0_5120)⟩,
   ⟨Rect.unit (s := S32x10240) ![0, 4096] S32x1024.size inb_S32x10240_S32x1024_0_4096, k0_pay43 (k0_pay42 (hiC c gX gU gWus gBu) (hL c gX gU gWus gBu fH ![0, 4096] inb_S16x10240_S16x1024_0_4096))⟩,
   ⟨Rect.unit (s := S32x10240) ![0, 3072] S32x1024.size inb_S32x10240_S32x1024_0_3072, k0_pay39 (hiC c gX gU gWus gBu) (hL c gX gU gWus gBu fH ![0, 3072] inb_S16x10240_S16x1024_0_3072)⟩,
   ⟨Rect.unit (s := S32x10240) ![0, 2048] S32x1024.size inb_S32x10240_S32x1024_0_2048, k0_pay36 (k0_pay33 (hiC c gX gU gWus gBu) (hL c gX gU gWus gBu fH ![0, 2048] inb_S16x10240_S16x1024_0_2048)) (k0_pay35 (F := F))⟩,
   ⟨Rect.unit (s := S32x10240) ![0, 1024] S32x1024.size inb_S32x10240_S32x1024_0_1024, k0_pay32 (hiC c gX gU gWus gBu) (hL c gX gU gWus gBu fH ![0, 1024] inb_S16x10240_S16x1024_0_1024)⟩,
   ⟨Rect.unit (s := S32x10240) ![0, 0] S32x1024.size inb_S32x10240_S32x1024_0_0, k0_pay29 (k0_pay26 (k0_pay19 (mxV c gX gU gWus gBu)) (hL c gX gU gWus gBu fH ![0, 0] inb_S16x10240_S16x1024_0_0))⟩]
/-- The padded codes' buffer. -/
def bHq : BufAt (F := F) c vHq := vHq.view.writes (Elt F) vHq.view.junk (hqP c gX gU gWus gBu fH)
/-- The accumulator's, zeroed, -/
def bAcc0 : BufAt (F := F) c vAcc := vAcc.view.writes (Elt F) vAcc.view.junk [⟨Rect.unit (s := S16x2560) ![0, 0] S16x2560.size inb_S16x2560_S16x2560_0_0, k0_pay60 (F := F)⟩]
/-- and after the down loop. -/
def bAcc : BufAt (F := F) c vAcc := dAcc c gD (bHq c gX gU gWus gBu fH) (bAcc0 c) k0_t2_loop.trips
/-- The down projection's column scales, copied in and loaded. -/
def wdsV : Vec F S2560 .f32 := vWds.view.readAt (Elt F) (Rect.unit (s := S2560) ![0] S2560.size inb_S2560_S2560_0).toLoadRect
  (vWds.view.writes (Elt F) vWds.view.junk [⟨Rect.whole S2560, ReadAs.same.apply (mWds.view.read (Elt F) gWds)⟩])
/-- The output in bf16. -/
def yB : FVec F S16x2560 .bf16 := k0_pay1 (k0_pay62 (hsC c gX gU gWus gBu) (wdsV c gWds) (accV c (bAcc c gX gU gWus gBu gD fH)))

/-! ## The results' buffers: what was stored in VMEM, copied out -/

def outY (fY : BufAt (F := F) c vY) (oY : BufAt (F := F) c mY) : BufAt (F := F) c mY :=
  mY.view.writes (Elt F) oY [⟨Rect.whole S16x2560, ReadAs.same.apply (vY.view.read (Elt F) (vY.view.writes (Elt F) fY [⟨Rect.unit (s := S16x2560) ![0, 0] S16x2560.size inb_S16x2560_S16x2560_0_0, yB c gX gU gWus gBu gD gWds fH⟩]))⟩]
def outXc (fXc : BufAt (F := F) c vXc) (oXc : BufAt (F := F) c mXc) : BufAt (F := F) c mXc :=
  mXc.view.writes (Elt F) oXc [⟨Rect.whole S16x2560, ReadAs.same.apply (vXc.view.read (Elt F) (vXc.view.writes (Elt F) fXc [⟨Rect.unit (s := S16x2560) ![0, 0] S16x2560.size inb_S16x2560_S16x2560_0_0, xcB c gX⟩]))⟩]
def outXs (fXs : BufAt (F := F) c vXs) (oXs : BufAt (F := F) c mXs) : BufAt (F := F) c mXs :=
  mXs.view.writes (Elt F) oXs [⟨Rect.whole S1x16, ReadAs.same.apply (vXs.view.read (Elt F) (vXs.view.writes (Elt F) fXs [⟨Rect.unit (s := S1x16) ![0, 0] S1x16.size inb_S1x16_S1x16_0_0, k0_pay16 (xsC c gX)⟩]))⟩]
def outHc (fHc : BufAt (F := F) c vHc) (oHc : BufAt (F := F) c mHc) : BufAt (F := F) c mHc :=
  mHc.view.writes (Elt F) oHc [⟨Rect.whole S16x10240, ReadAs.same.apply (vHc.view.read (Elt F) (vHc.view.writes (Elt F) fHc (hcP c gX gU gWus gBu fH)))⟩]
def outHs (fHs : BufAt (F := F) c vHs) (oHs : BufAt (F := F) c mHs) : BufAt (F := F) c mHs :=
  mHs.view.writes (Elt F) oHs [⟨Rect.whole S1x16, ReadAs.same.apply (vHs.view.read (Elt F) (vHs.view.writes (Elt F) fHs [⟨Rect.unit (s := S1x16) ![0, 0] S1x16.size inb_S1x16_S1x16_0_0, hsR c gX gU gWus gBu⟩]))⟩]

end Vals

end Cert.Proof.RunPrinted

end
-- ==== Proof.RunPrinted.Body.lean ====
/-
  `Kernel`: the kernel body's run, at any contents of its buffers.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Tactic
public import proofs.«01_k».proof.Proof.RunPrinted.Vals

@[expose] public section

noncomputable section

namespace Cert.Proof.RunPrinted

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

section Body
variable (c : Dev nD) (gX : BufAt (F := F) c mX) (gU : BufAt (F := F) c mWu) (gWus : BufAt (F := F) c mWus) (gBu : BufAt (F := F) c mBu)
  (gD : BufAt (F := F) c mWd) (gWds : BufAt (F := F) c mWds)
  (oY : BufAt (F := F) c mY) (oXc : BufAt (F := F) c mXc) (oXs : BufAt (F := F) c mXs) (oHc : BufAt (F := F) c mHc) (oHs : BufAt (F := F) c mHs)
  (fX : BufAt (F := F) c vX) (fWus : BufAt (F := F) c vWus) (fBu : BufAt (F := F) c vBu) (fWds : BufAt (F := F) c vWds) (fY : BufAt (F := F) c vY) (fXc : BufAt (F := F) c vXc) (fXs : BufAt (F := F) c vXs) (fHc : BufAt (F := F) c vHc) (fHs : BufAt (F := F) c vHs) (fXq : BufAt (F := F) c vXq) (fH : BufAt (F := F) c vH) (fHq : BufAt (F := F) c vHq) (fAcc : BufAt (F := F) c vAcc) (W : Waits sig Unit)

/-- The kernel's body on its buffers. -/
abbrev bodyK : Prog (TpuEff nD τ sig (Elt F) Λ₀ .tc) PUnit :=
  cc0_relu_mlp_fp8 mX (Memref.isWhole_whole _) mWu (Memref.isWhole_whole _) mWus (Memref.isWhole_whole _) mBu (Memref.isWhole_whole _) mWd (Memref.isWhole_whole _) mWds (Memref.isWhole_whole _) mY (Memref.isWhole_whole _) mXc (Memref.isWhole_whole _) mXs (Memref.isWhole_whole _) mHc (Memref.isWhole_whole _) mHs (Memref.isWhole_whole _) vX (Memref.isWhole_whole _) vWu (Memref.isWhole_whole _) vWus (Memref.isWhole_whole _) vBu (Memref.isWhole_whole _) vWd (Memref.isWhole_whole _) vWds (Memref.isWhole_whole _) vY (Memref.isWhole_whole _) vXc (Memref.isWhole_whole _) vXs (Memref.isWhole_whole _) vHc (Memref.isWhole_whole _) vHs (Memref.isWhole_whole _) vXq (Memref.isWhole_whole _) vH (Memref.isWhole_whole _) vHq (Memref.isWhole_whole _) vAcc (Memref.isWhole_whole _) cc0_scratch15 cc0_scratch16 cc0_scratch17 cc0_scratch18

/-- What the body needs. -/
abbrev PRE : sProp 𝕄 :=
  iprop(bigSep Finset.univ (restU c gU) ∗ bigSep Finset.univ (restD c gD) ∗ heldP c mX gX ∗ heldP c mWus gWus ∗ heldP c mBu gBu ∗ heldP c mWds gWds ∗ heldP c mY oY ∗ heldP c mXc oXc ∗ heldP c mXs oXs ∗ heldP c mHc oHc ∗ heldP c mHs oHs ∗ heldP c vX fX ∗ heldP c vWus fWus ∗ heldP c vBu fBu ∗ heldP c vWds fWds ∗ heldP c vY fY ∗ heldP c vXc fXc ∗ heldP c vXs fXs ∗ heldP c vHc fHc ∗ heldP c vHs fHs ∗ heldP c vXq fXq ∗ heldP c vH fH ∗ heldP c vHq fHq ∗ heldP c vAcc fAcc ∗ cellP c (csmS 0) ∗ cellP c (csmS 1) ∗ cellP c (csmS 2) ∗ cellP c (csmS 3) ∗ cellP c (csmO 0) ∗ cellP c (csmO 1) ∗ cellP c (csmO 2) ∗ cellP c (csmO 3) ∗ cellP c (csmO 4) ∗ owes (c : Thread nD τ) 0 W)

/-- What it hands back. -/
abbrev POST : sProp 𝕄 :=
  iprop(bigSep Finset.univ (restU c gU) ∗ bigSep Finset.univ (restD c gD) ∗ heldP c mX gX ∗ heldP c mWus gWus ∗ heldP c mBu gBu ∗ heldP c mWds gWds ∗ heldP c mY (outY c gX gU gWus gBu gD gWds fH fY oY) ∗ heldP c mXc (outXc c gX fXc oXc) ∗ heldP c mXs (outXs c gX fXs oXs) ∗ heldP c mHc (outHc c gX gU gWus gBu fH fHc oHc) ∗ heldP c mHs (outHs c gX gU gWus gBu fHs oHs) ∗ (∃ f, heldP c vX f) ∗ (∃ f, heldP c vWus f) ∗ (∃ f, heldP c vBu f) ∗ (∃ f, heldP c vWds f) ∗ (∃ f, heldP c vY f) ∗ (∃ f, heldP c vXc f) ∗ (∃ f, heldP c vXs f) ∗ (∃ f, heldP c vHc f) ∗ (∃ f, heldP c vHs f) ∗ (∃ f, heldP c vXq f) ∗ (∃ f, heldP c vH f) ∗ (∃ f, heldP c vHq f) ∗ (∃ f, heldP c vAcc f) ∗ cellP c (csmS 0) ∗ cellP c (csmS 1) ∗ cellP c (csmS 2) ∗ cellP c (csmS 3) ∗ cellP c (csmO 0) ∗ cellP c (csmO 1) ∗ cellP c (csmO 2) ∗ cellP c (csmO 3) ∗ cellP c (csmO 4) ∗ (∃ W, owes (c : Thread nD τ) 0 W))

set_option maxHeartbeats 0
set_option backward.proofsInPublic true in
theorem bodyRun (Q : PUnit → sProp 𝕄) :
    iprop(PRE c gX gU gWus gBu gD gWds oY oXc oXs oHc oHs fX fWus fBu fWds fY fXc fXs fHc fHs fXq fH fHq fAcc W ∗ (POST c gX gU gWus gBu gD gWds oY oXc oXs oHc oHs fY fXc fXs fHc fHs fH -∗ Q ⟨⟩))
      ⊢ wp frame (wpE (defs₀ (F := F)) 𝒱₀ (c : Thread nD τ) none) Set.univ (bodyK (F := F)) Q := by
  unfold PRE
  rw [bigSep_fin10, bigSep_fin20]
  iintro ⟨⟨⟨⟨⟨%fU0, HdU0⟩, HgU0, HcU0⟩, ⟨⟨%fU1, HdU1⟩, HgU1, HcU1⟩, ⟨⟨%fU2, HdU2⟩, HgU2, HcU2⟩, ⟨⟨%fU3, HdU3⟩, HgU3, HcU3⟩, ⟨⟨%fU4, HdU4⟩, HgU4, HcU4⟩, ⟨⟨%fU5, HdU5⟩, HgU5, HcU5⟩, ⟨⟨%fU6, HdU6⟩, HgU6, HcU6⟩, ⟨⟨%fU7, HdU7⟩, HgU7, HcU7⟩, ⟨⟨%fU8, HdU8⟩, HgU8, HcU8⟩, ⟨⟨%fU9, HdU9⟩, HgU9, HcU9⟩⟩, ⟨⟨⟨%fD0, HdD0⟩, HgD0, HcD0⟩, ⟨⟨%fD1, HdD1⟩, HgD1, HcD1⟩, ⟨⟨%fD2, HdD2⟩, HgD2, HcD2⟩, ⟨⟨%fD3, HdD3⟩, HgD3, HcD3⟩, ⟨⟨%fD4, HdD4⟩, HgD4, HcD4⟩, ⟨⟨%fD5, HdD5⟩, HgD5, HcD5⟩, ⟨⟨%fD6, HdD6⟩, HgD6, HcD6⟩, ⟨⟨%fD7, HdD7⟩, HgD7, HcD7⟩, ⟨⟨%fD8, HdD8⟩, HgD8, HcD8⟩, ⟨⟨%fD9, HdD9⟩, HgD9, HcD9⟩, ⟨⟨%fD10, HdD10⟩, HgD10, HcD10⟩, ⟨⟨%fD11, HdD11⟩, HgD11, HcD11⟩, ⟨⟨%fD12, HdD12⟩, HgD12, HcD12⟩, ⟨⟨%fD13, HdD13⟩, HgD13, HcD13⟩, ⟨⟨%fD14, HdD14⟩, HgD14, HcD14⟩, ⟨⟨%fD15, HdD15⟩, HgD15, HcD15⟩, ⟨⟨%fD16, HdD16⟩, HgD16, HcD16⟩, ⟨⟨%fD17, HdD17⟩, HgD17, HcD17⟩, ⟨⟨%fD18, HdD18⟩, HgD18, HcD18⟩, ⟨⟨%fD19, HdD19⟩, HgD19, HcD19⟩⟩, HmX, HmWus, HmBu, HmWds, HmY, HmXc, HmXs, HmHc, HmHs, HvX, HvWus, HvBu, HvWds, HvY, HvXc, HvXs, HvHc, HvHs, HvXq, HvH, HvHq, HvAcc, Hs0, Hs1, Hs2, Hs3, Ho0, Ho1, Ho2, Ho3, Ho4, HW⟩, Hk⟩
  set_option sl_exec.stopBefore "k0_part10" in sl_exec
  ihave HFU : bigSep (Ring.rangeSet 10 0 10) (flightU c gU) $$ [HcU0 HcU1 HcU2 HcU3 HcU4 HcU5 HcU6 HcU7 HcU8 HcU9]
  · rw [Ring.rangeSet_univ, bigSep_fin10]
    isplitl [HcU0]; · iexists _; iexact HcU0
    isplitl [HcU1]; · iexists _; iexact HcU1
    isplitl [HcU2]; · iexists _; iexact HcU2
    isplitl [HcU3]; · iexists _; iexact HcU3
    isplitl [HcU4]; · iexists _; iexact HcU4
    isplitl [HcU5]; · iexists _; iexact HcU5
    isplitl [HcU6]; · iexists _; iexact HcU6
    isplitl [HcU7]; · iexists _; iexact HcU7
    isplitl [HcU8]; · iexists _; iexact HcU8
    iexists _; iexact HcU9
  ihave HRU : bigSep (Ring.rangeSet 10 0 0) (restU c gU) $$ []
  · rw [Ring.bigSep_rangeSet_empty le_rfl]; iempintro
  ihave HFD : bigSep (Ring.rangeSet 20 0 20) (flightD c gD) $$ [HcD0 HcD1 HcD2 HcD3 HcD4 HcD5 HcD6 HcD7 HcD8 HcD9 HcD10 HcD11 HcD12 HcD13 HcD14 HcD15 HcD16 HcD17 HcD18 HcD19]
  · rw [Ring.rangeSet_univ, bigSep_fin20]
    isplitl [HcD0]; · iexists _; iexact HcD0
    isplitl [HcD1]; · iexists _; iexact HcD1
    isplitl [HcD2]; · iexists _; iexact HcD2
    isplitl [HcD3]; · iexists _; iexact HcD3
    isplitl [HcD4]; · iexists _; iexact HcD4
    isplitl [HcD5]; · iexists _; iexact HcD5
    isplitl [HcD6]; · iexists _; iexact HcD6
    isplitl [HcD7]; · iexists _; iexact HcD7
    isplitl [HcD8]; · iexists _; iexact HcD8
    isplitl [HcD9]; · iexists _; iexact HcD9
    isplitl [HcD10]; · iexists _; iexact HcD10
    isplitl [HcD11]; · iexists _; iexact HcD11
    isplitl [HcD12]; · iexists _; iexact HcD12
    isplitl [HcD13]; · iexists _; iexact HcD13
    isplitl [HcD14]; · iexists _; iexact HcD14
    isplitl [HcD15]; · iexists _; iexact HcD15
    isplitl [HcD16]; · iexists _; iexact HcD16
    isplitl [HcD17]; · iexists _; iexact HcD17
    isplitl [HcD18]; · iexists _; iexact HcD18
    iexists _; iexact HcD19
  ihave HRD : bigSep (Ring.rangeSet 20 0 0) (restD c gD) $$ []
  · rw [Ring.bigSep_rangeSet_empty le_rfl]; iempintro
  set_option sl_exec.resultNames true in sl_exec
  sl_step
  iapply Hk
  unfold POST
  isplitl [HRU]
  · rw [← Ring.rangeSet_univ]; iexact HRU
  isplitl [HRD]
  · rw [← Ring.rangeSet_univ]; iexact HRD
  isplitl [HmX]; · iexact HmX
  isplitl [HmWus]; · iexact HmWus
  isplitl [HmBu]; · iexact HmBu
  isplitl [HmWds]; · iexact HmWds
  isplitl [HmY]; · iexact HmY
  isplitl [HmXc]; · iexact HmXc
  isplitl [HmXs]; · iexact HmXs
  isplitl [HmHc]; · iexact HmHc
  isplitl [HmHs]; · iexact HmHs
  isplitl [HvX]; · iexists _; iexact HvX
  isplitl [HvWus]; · iexists _; iexact HvWus
  isplitl [HvBu]; · iexists _; iexact HvBu
  isplitl [HvWds]; · iexists _; iexact HvWds
  isplitl [HvY]; · iexists _; iexact HvY
  isplitl [HvXc]; · iexists _; iexact HvXc
  isplitl [HvXs]; · iexists _; iexact HvXs
  isplitl [HvHc]; · iexists _; iexact HvHc
  isplitl [HvHs]; · iexists _; iexact HvHs
  isplitl [HvXq]; · iexists _; iexact HvXq
  isplitl [HvH]; · iexists _; iexact HvH
  isplitl [HvHq]; · iexists _; iexact HvHq
  isplitl [HvAcc]; · iexists _; iexact HvAcc
  isplitl [Hs0]; · iexact Hs0
  isplitl [Hs1]; · iexact Hs1
  isplitl [Hs2]; · iexact Hs2
  isplitl [Hs3]; · iexact Hs3
  isplitl [Ho0]; · iexact Ho0
  isplitl [Ho1]; · iexact Ho1
  isplitl [Ho2]; · iexact Ho2
  isplitl [Ho3]; · iexact Ho3
  isplitl [Ho4]; · iexact Ho4
  iexists _; iexact HW

end Body

end Cert.Proof.RunPrinted

end
-- ==== Proof.RunPrinted.Launch.lean ====
/-
  `Kernel`: the launch — from the body's run to the run of the whole program, every buffer's final contents named.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Tactic
public import proofs.«01_k».proof.Proof.RunPrinted.Body

@[expose] public section

noncomputable section

namespace Cert.Proof.RunPrinted

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

abbrev EP : Emb (UR sig nD τ) (MT nD τ sig Unit (Elt F) ℕ (UU nD τ) ℕ) := embL

/-! ## The kernel's own semaphores -/

abbrev osem : Fin 39 → SemLoc sig := fun i => .dma ⟨i.val, i.isLt⟩
theorem ownSemFacts : Pipeline.OwnSemFacts cfg0.spec osem := by decide

/-! ## Element sets -/

abbrev IU (b : Fin 10) : Finset S2560x10240.Idx := (Rect.unit (s := S2560x10240) (uColOff b) S2560x1024.size (uColOff_inb b)).set
abbrev JU (b : Fin 10) : Finset S10x2560x1024.Idx := (Rect.unit (s := S10x2560x1024) (uSlotOff b) S1x2560x1024.size (uSlotOff_inb b)).set
abbrev ID (b : Fin 20) : Finset S10240x2560.Idx := (Rect.unit (s := S10240x2560) (dRowOff b) S512x2560.size (dRowOff_inb b)).set

omit [FloatOps F] in
theorem srcU_set (b : Fin 10) : (srcU b).view.set = IU b := View.set_slice_whole _ _
omit [FloatOps F] in
theorem slotU_set (b : Fin 10) : (slotU b).view.set = JU b := (View.set_reshape _ _).trans (View.set_slice_whole _ _)
omit [FloatOps F] in
theorem srcD_set (b : Fin 20) : (srcD b).view.set = ID b := View.set_slice_whole _ _
omit [FloatOps F] in
theorem slotD_set (b : Fin 20) : (slotD b).view.set = ID b := View.set_slice_whole _ _

theorem mem_IU (b : Fin 10) (y : S2560x10240.Idx) : y ∈ IU b ↔ 1024 * b.val ≤ (y 1).val ∧ (y 1).val < 1024 * b.val + 1024 := by
  rw [Rect.mem_set_unit]
  have h0 : (y 0).val < 2560 := (y 0).isLt
  constructor
  · intro H; exact H 1
  · intro H i; fin_cases i
    · show 0 ≤ (y 0).val ∧ (y 0).val < 0 + 2560; omega
    · exact H
theorem mem_JU (b : Fin 10) (y : S10x2560x1024.Idx) : y ∈ JU b ↔ (y 0).val = b.val := by
  rw [Rect.mem_set_unit]
  have h1 : (y 1).val < 2560 := (y 1).isLt
  have h2 : (y 2).val < 1024 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 2560; omega
    · show 0 ≤ (y 2).val ∧ (y 2).val < 0 + 1024; omega
theorem mem_ID (b : Fin 20) (y : S10240x2560.Idx) : y ∈ ID b ↔ 512 * b.val ≤ (y 0).val ∧ (y 0).val < 512 * b.val + 512 := by
  rw [Rect.mem_set_unit]
  have h1 : (y 1).val < 2560 := (y 1).isLt
  constructor
  · intro H; exact H 0
  · intro H i; fin_cases i
    · exact H
    · show 0 ≤ (y 1).val ∧ (y 1).val < 0 + 2560; omega

theorem IU_disjoint : ∀ b b' : Fin 10, b ≠ b' → Disjoint (IU b) (IU b') := by
  intro b b' hne; rw [Finset.disjoint_left]; intro y hy hy'; rw [mem_IU] at hy hy'; exact hne (Fin.ext (by omega))
theorem IU_cover : (Finset.univ : Finset (Fin 10)).biUnion IU = Finset.univ := by
  ext y; simp only [Finset.mem_biUnion, Finset.mem_univ, true_and, iff_true]
  have h : (y 1).val < 10240 := (y 1).isLt
  exact ⟨⟨(y 1).val / 1024, by omega⟩, by rw [mem_IU]; dsimp only; omega⟩
theorem JU_disjoint : ∀ b b' : Fin 10, b ≠ b' → Disjoint (JU b) (JU b') := by
  intro b b' hne; rw [Finset.disjoint_left]; intro y hy hy'; rw [mem_JU] at hy hy'; exact hne (Fin.ext (by omega))
theorem JU_cover : (Finset.univ : Finset (Fin 10)).biUnion JU = Finset.univ := by
  ext y; simp only [Finset.mem_biUnion, Finset.mem_univ, true_and, iff_true]
  have h : (y 0).val < 10 := (y 0).isLt
  exact ⟨⟨(y 0).val, h⟩, by rw [mem_JU]⟩
theorem ID_disjoint : ∀ b b' : Fin 20, b ≠ b' → Disjoint (ID b) (ID b') := by
  intro b b' hne; rw [Finset.disjoint_left]; intro y hy hy'; rw [mem_ID] at hy hy'; exact hne (Fin.ext (by omega))
theorem ID_cover : (Finset.univ : Finset (Fin 20)).biUnion ID = Finset.univ := by
  ext y; simp only [Finset.mem_biUnion, Finset.mem_univ, true_and, iff_true]
  have h : (y 0).val < 10240 := (y 0).isLt
  exact ⟨⟨(y 0).val / 512, by omega⟩, by rw [mem_ID]; dsimp only; omega⟩

/-! ## Whole buffers and their blocks -/

theorem eqE {P Q : sProp 𝕄} (h : P = Q) : P ⊢ Q := h ▸ .rfl

theorem heldP_whole (c : Dev nD) (b : Ref sig .tc) (f : Buf (Elt F) ((c : Thread nD τ).loc b)) :
    heldP c (Memref.whole b) f = (((c : Thread nD τ).loc b) ↦{fullShare} f : sProp 𝕄) :=
  congrArg (fun S => (((c : Thread nD τ).loc b) ↦[S]{fullShare} f : sProp 𝕄)) (View.set_whole b)

theorem toH (c : Dev nD) (b : Ref sig .tc) (f : Buf (Elt F) ((c : Thread nD τ).loc b)) :
    (((c : Thread nD τ).loc b) ↦{fullShare} f : sProp 𝕄) ⊢ heldP c (Memref.whole b) f := eqE (heldP_whole c b f).symm
theorem ofH (c : Dev nD) (b : Ref sig .tc) (f : Buf (Elt F) ((c : Thread nD τ).loc b)) :
    heldP c (Memref.whole b) f ⊢ (((c : Thread nD τ).loc b) ↦{fullShare} f : sProp 𝕄) := eqE (heldP_whole c b f)

/-- The up weight whole is its ten column blocks; -/
theorem wu_eq (c : Dev nD) (f : Buf (Elt F) ((c : Thread nD τ).loc main_arg1)) :
    (((c : Thread nD τ).loc main_arg1) ↦{fullShare} f : sProp 𝕄) = bigSep Finset.univ (fun b => heldP c (srcU b) f) := by
  rw [Ring.pointsTo_blocks (ℓ := (c : Thread nD τ).loc main_arg1) IU IU_disjoint IU_cover]
  exact bigSep_congr fun b _ => congrArg (fun S => (((c : Thread nD τ).loc main_arg1) ↦[S]{fullShare} f : sProp 𝕄)) (srcU_set b).symm
/-- the down weight whole is its twenty row blocks. -/
theorem wd_eq (c : Dev nD) (f : Buf (Elt F) ((c : Thread nD τ).loc main_arg4)) :
    (((c : Thread nD τ).loc main_arg4) ↦{fullShare} f : sProp 𝕄) = bigSep Finset.univ (fun b => heldP c (srcD b) f) := by
  rw [Ring.pointsTo_blocks (ℓ := (c : Thread nD τ).loc main_arg4) ID ID_disjoint ID_cover]
  exact bigSep_congr fun b _ => congrArg (fun S => (((c : Thread nD τ).loc main_arg4) ↦[S]{fullShare} f : sProp 𝕄)) (srcD_set b).symm

theorem slotU_eq (c : Dev nD) : (fun b => iprop(∃ f, heldP (F := F) c (slotU b) f) : Fin 10 → sProp 𝕄)
    = fun b => iprop(∃ f : Buf (Elt F) ((c : Thread nD τ).loc cc0_scratch1), ((c : Thread nD τ).loc cc0_scratch1) ↦[JU b]{fullShare} f) :=
  funext fun b => congrArg (fun S => iprop(∃ f : Buf (Elt F) ((c : Thread nD τ).loc cc0_scratch1), ((c : Thread nD τ).loc cc0_scratch1) ↦[S]{fullShare} f)) (slotU_set b)
theorem slotD_eq (c : Dev nD) : (fun b => iprop(∃ f, heldP (F := F) c (slotD b) f) : Fin 20 → sProp 𝕄)
    = fun b => iprop(∃ f : Buf (Elt F) ((c : Thread nD τ).loc cc0_scratch4), ((c : Thread nD τ).loc cc0_scratch4) ↦[ID b]{fullShare} f) :=
  funext fun b => congrArg (fun S => iprop(∃ f : Buf (Elt F) ((c : Thread nD τ).loc cc0_scratch4), ((c : Thread nD τ).loc cc0_scratch4) ↦[S]{fullShare} f)) (slotD_set b)

/-- A buffer whole at some contents is its blocks, each at some contents, -/
theorem bufU_split (c : Dev nD) : iprop(∃ f : Buf (Elt F) ((c : Thread nD τ).loc cc0_scratch1), ((c : Thread nD τ).loc cc0_scratch1) ↦{fullShare} f)
    ⊢ (bigSep Finset.univ (fun b => iprop(∃ f, heldP (F := F) c (slotU b) f)) : sProp 𝕄) := by
  rw [slotU_eq]
  iintro ⟨%f, H⟩
  ihave H2 := (eqE (Ring.pointsTo_blocks (Ix := Unit) (Name := ℕ) (U := UU nD τ) (Lvl := ℕ) (q := fullShare) (ℓ := (c : Thread nD τ).loc cc0_scratch1) JU JU_disjoint JU_cover f)) $$ H
  have hm : (bigSep Finset.univ (fun b : Fin 10 => (((c : Thread nD τ).loc cc0_scratch1) ↦[JU b]{fullShare} f : sProp 𝕄)) : sProp 𝕄)
      ⊢ bigSep Finset.univ (fun b => iprop(∃ f : Buf (Elt F) ((c : Thread nD τ).loc cc0_scratch1), ((c : Thread nD τ).loc cc0_scratch1) ↦[JU b]{fullShare} f)) :=
    BI.bigSep_mono fun b _ => (sProp.exists_intro f)
  iapply hm
  iexact H2
/-- and back. -/
theorem bufU_join (c : Dev nD) : (bigSep Finset.univ (fun b => iprop(∃ f, heldP (F := F) c (slotU b) f)) : sProp 𝕄)
    ⊢ iprop(∃ f : Buf (Elt F) ((c : Thread nD τ).loc cc0_scratch1), ((c : Thread nD τ).loc cc0_scratch1) ↦{fullShare} f) := by
  rw [slotU_eq]
  exact Ring.pointsTo_blocks_join_exists (ℓ := (c : Thread nD τ).loc cc0_scratch1) JU JU_disjoint JU_cover (vWu.view.junk (Val := Elt F))
theorem bufD_split (c : Dev nD) : iprop(∃ f : Buf (Elt F) ((c : Thread nD τ).loc cc0_scratch4), ((c : Thread nD τ).loc cc0_scratch4) ↦{fullShare} f)
    ⊢ (bigSep Finset.univ (fun b => iprop(∃ f, heldP (F := F) c (slotD b) f)) : sProp 𝕄) := by
  rw [slotD_eq]
  iintro ⟨%f, H⟩
  ihave H2 := (eqE (Ring.pointsTo_blocks (Ix := Unit) (Name := ℕ) (U := UU nD τ) (Lvl := ℕ) (q := fullShare) (ℓ := (c : Thread nD τ).loc cc0_scratch4) ID ID_disjoint ID_cover f)) $$ H
  have hm : (bigSep Finset.univ (fun b : Fin 20 => (((c : Thread nD τ).loc cc0_scratch4) ↦[ID b]{fullShare} f : sProp 𝕄)) : sProp 𝕄)
      ⊢ bigSep Finset.univ (fun b => iprop(∃ f : Buf (Elt F) ((c : Thread nD τ).loc cc0_scratch4), ((c : Thread nD τ).loc cc0_scratch4) ↦[ID b]{fullShare} f)) :=
    BI.bigSep_mono fun b _ => (sProp.exists_intro f)
  iapply hm
  iexact H2
theorem bufD_join (c : Dev nD) : (bigSep Finset.univ (fun b => iprop(∃ f, heldP (F := F) c (slotD b) f)) : sProp 𝕄)
    ⊢ iprop(∃ f : Buf (Elt F) ((c : Thread nD τ).loc cc0_scratch4), ((c : Thread nD τ).loc cc0_scratch4) ↦{fullShare} f) := by
  rw [slotD_eq]
  exact Ring.pointsTo_blocks_join_exists (ℓ := (c : Thread nD τ).loc cc0_scratch4) ID ID_disjoint ID_cover (vWd.view.junk (Val := Elt F))

/-- The blocks at rest are the slots, the blocks home and the cells, family by family. -/
theorem restU_eq (c : Dev nD) (f : BufAt (F := F) c mWu) : (bigSep Finset.univ (restU c f) : sProp 𝕄)
    = iprop(bigSep Finset.univ (fun b => iprop(∃ f, heldP (F := F) c (slotU b) f)) ∗ bigSep Finset.univ (fun b => heldP c (srcU b) f) ∗ bigSep Finset.univ (fun b => cellP c (csmU b))) := by
  show bigSep Finset.univ (fun b => iprop((∃ f, heldP (F := F) c (slotU b) f) ∗ heldP c (srcU b) f ∗ cellP c (csmU b))) = _
  erw [BI.bigSep_sep, BI.bigSep_sep]; rfl
theorem restD_eq (c : Dev nD) (f : BufAt (F := F) c mWd) : (bigSep Finset.univ (restD c f) : sProp 𝕄)
    = iprop(bigSep Finset.univ (fun b => iprop(∃ f, heldP (F := F) c (slotD b) f)) ∗ bigSep Finset.univ (fun b => heldP c (srcD b) f) ∗ bigSep Finset.univ (fun b => cellP c (csmD b))) := by
  show bigSep Finset.univ (fun b => iprop((∃ f, heldP (F := F) c (slotD b) f) ∗ heldP c (srcD b) f ∗ cellP c (csmD b))) = _
  erw [BI.bigSep_sep, BI.bigSep_sep]; rfl

/-- The kernel's own cells at zero, listed. -/
theorem ownSems0_eq (c : Dev nD) : (Pipeline.ownSems0 (Ix := Unit) (Name := ℕ) (U := UU nD τ) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0 ∗ semVal ((c : Thread nD τ), osem 24) 0 ∗ semVal ((c : Thread nD τ), osem 25) 0 ∗ semVal ((c : Thread nD τ), osem 26) 0 ∗ semVal ((c : Thread nD τ), osem 27) 0 ∗ semVal ((c : Thread nD τ), osem 28) 0 ∗ semVal ((c : Thread nD τ), osem 29) 0 ∗ semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0 ∗ semVal ((c : Thread nD τ), osem 36) 0 ∗ semVal ((c : Thread nD τ), osem 37) 0 ∗ semVal ((c : Thread nD τ), osem 38) 0) :=
  Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38] (by decide) (by decide)

theorem cells_split (c : Dev nD) : (Pipeline.ownSems0 (Ix := Unit) (Name := ℕ) (U := UU nD τ) (Lvl := ℕ) (Val := Elt F) (τ := τ) osem c : sProp 𝕄)
    ⊢ iprop(cellP c (csmS 0) ∗ cellP c (csmS 1) ∗ cellP c (csmS 2) ∗ cellP c (csmS 3) ∗ bigSep Finset.univ (fun b => cellP c (csmU b)) ∗ bigSep Finset.univ (fun b => cellP c (csmD b)) ∗ cellP c (csmO 0) ∗ cellP c (csmO 1) ∗ cellP c (csmO 2) ∗ cellP c (csmO 3) ∗ cellP c (csmO 4)) := by
  rw [ownSems0_eq, bigSep_fin10, bigSep_fin20]
  iintro ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38⟩
  isplitl [Q0]; · iexact Q0
  isplitl [Q1]; · iexact Q1
  isplitl [Q2]; · iexact Q2
  isplitl [Q3]; · iexact Q3
  isplitl [Q4 Q5 Q6 Q7 Q8 Q9 Q10 Q11 Q12 Q13]
  · isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    iexact Q13
  isplitl [Q14 Q15 Q16 Q17 Q18 Q19 Q20 Q21 Q22 Q23 Q24 Q25 Q26 Q27 Q28 Q29 Q30 Q31 Q32 Q33]
  · isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    iexact Q33
  isplitl [Q34]; · iexact Q34
  isplitl [Q35]; · iexact Q35
  isplitl [Q36]; · iexact Q36
  isplitl [Q37]; · iexact Q37
  iexact Q38
theorem cells_join (c : Dev nD) : iprop(cellP c (csmS 0) ∗ cellP c (csmS 1) ∗ cellP c (csmS 2) ∗ cellP c (csmS 3) ∗ bigSep Finset.univ (fun b => cellP c (csmU b)) ∗ bigSep Finset.univ (fun b => cellP c (csmD b)) ∗ cellP c (csmO 0) ∗ cellP c (csmO 1) ∗ cellP c (csmO 2) ∗ cellP c (csmO 3) ∗ cellP c (csmO 4))
    ⊢ (Pipeline.ownSems0 (Ix := Unit) (Name := ℕ) (U := UU nD τ) (Lvl := ℕ) (Val := Elt F) (τ := τ) osem c : sProp 𝕄) := by
  rw [ownSems0_eq, bigSep_fin10, bigSep_fin20]
  iintro ⟨Q0, Q1, Q2, Q3, ⟨Q4, Q5, Q6, Q7, Q8, Q9, Q10, Q11, Q12, Q13⟩, ⟨Q14, Q15, Q16, Q17, Q18, Q19, Q20, Q21, Q22, Q23, Q24, Q25, Q26, Q27, Q28, Q29, Q30, Q31, Q32, Q33⟩, Q34, Q35, Q36, Q37, Q38⟩
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  iexact Q38

/-! ## The region's proof data -/

/-- Before the body: the arguments and the results' buffers as the region finds them, everything else at rest. -/
def PhiIn (c : Dev nD) : sProp 𝕄 := iprop((((c : Thread nD τ).loc main_arg0) ↦{fullShare} V m c main_arg0) ∗ (((c : Thread nD τ).loc main_arg2) ↦{fullShare} V m c main_arg2) ∗ (((c : Thread nD τ).loc main_arg3) ↦{fullShare} V m c main_arg3) ∗ bigSep Finset.univ (restU c (V m c main_arg1)) ∗ bigSep Finset.univ (restD c (V m c main_arg4)) ∗ heldP c mX (V m c main_v0) ∗ heldP c mWus (V m c main_v1) ∗ heldP c mBu (V m c main_v2) ∗ heldP c mWds (V m c main_arg5) ∗ heldP c mY (V m c main_v3_0) ∗ heldP c mXc (V m c main_v3_1) ∗ heldP c mXs (V m c main_v3_2) ∗ heldP c mHc (V m c main_v3_3) ∗ heldP c mHs (V m c main_v3_4) ∗ (∃ f, heldP c vX f) ∗ (∃ f, heldP c vWus f) ∗ (∃ f, heldP c vBu f) ∗ (∃ f, heldP c vWds f) ∗ (∃ f, heldP c vY f) ∗ (∃ f, heldP c vXc f) ∗ (∃ f, heldP c vXs f) ∗ (∃ f, heldP c vHc f) ∗ (∃ f, heldP c vHs f) ∗ (∃ f, heldP c vXq f) ∗ (∃ f, heldP c vH f) ∗ (∃ f, heldP c vHq f) ∗ (∃ f, heldP c vAcc f) ∗ cellP c (csmS 0) ∗ cellP c (csmS 1) ∗ cellP c (csmS 2) ∗ cellP c (csmS 3) ∗ cellP c (csmO 0) ∗ cellP c (csmO 1) ∗ cellP c (csmO 2) ∗ cellP c (csmO 3) ∗ cellP c (csmO 4))
/-- After it: the same, the results' buffers at what the body computes. -/
def PhiOut (c : Dev nD) : sProp 𝕄 := iprop((((c : Thread nD τ).loc main_arg0) ↦{fullShare} V m c main_arg0) ∗ (((c : Thread nD τ).loc main_arg2) ↦{fullShare} V m c main_arg2) ∗ (((c : Thread nD τ).loc main_arg3) ↦{fullShare} V m c main_arg3) ∗ bigSep Finset.univ (restU c (V m c main_arg1)) ∗ bigSep Finset.univ (restD c (V m c main_arg4)) ∗ heldP c mX (V m c main_v0) ∗ heldP c mWus (V m c main_v1) ∗ heldP c mBu (V m c main_v2) ∗ heldP c mWds (V m c main_arg5) ∗ (∃ fH : BufAt (F := F) c vH, ∃ fY : BufAt (F := F) c vY, heldP c mY (outY c (V m c main_v0) (V m c main_arg1) (V m c main_v1) (V m c main_v2) (V m c main_arg4) (V m c main_arg5) fH fY (V m c main_v3_0))) ∗ (∃ fXc : BufAt (F := F) c vXc, heldP c mXc (outXc c (V m c main_v0) fXc (V m c main_v3_1))) ∗ (∃ fXs : BufAt (F := F) c vXs, heldP c mXs (outXs c (V m c main_v0) fXs (V m c main_v3_2))) ∗ (∃ fH : BufAt (F := F) c vH, ∃ fHc : BufAt (F := F) c vHc, heldP c mHc (outHc c (V m c main_v0) (V m c main_arg1) (V m c main_v1) (V m c main_v2) fH fHc (V m c main_v3_3))) ∗ (∃ fHs : BufAt (F := F) c vHs, heldP c mHs (outHs c (V m c main_v0) (V m c main_arg1) (V m c main_v1) (V m c main_v2) fHs (V m c main_v3_4))) ∗ (∃ f, heldP c vX f) ∗ (∃ f, heldP c vWus f) ∗ (∃ f, heldP c vBu f) ∗ (∃ f, heldP c vWds f) ∗ (∃ f, heldP c vY f) ∗ (∃ f, heldP c vXc f) ∗ (∃ f, heldP c vXs f) ∗ (∃ f, heldP c vHc f) ∗ (∃ f, heldP c vHs f) ∗ (∃ f, heldP c vXq f) ∗ (∃ f, heldP c vH f) ∗ (∃ f, heldP c vHq f) ∗ (∃ f, heldP c vAcc f) ∗ cellP c (csmS 0) ∗ cellP c (csmS 1) ∗ cellP c (csmS 2) ∗ cellP c (csmS 3) ∗ cellP c (csmO 0) ∗ cellP c (csmO 1) ∗ cellP c (csmO 2) ∗ cellP c (csmO 3) ∗ cellP c (csmO 4))

def dats (_ : Fin 1) (c : Dev nD) : Dat τ (Elt F) Unit ℕ (UU nD τ) ℕ cfg0 c where
  A w := w.elim0
  after w _ := w.elim0
  Φ t := if t.val = 0 then PhiIn m c else PhiOut m c
  q _ := fullShare
  owed _ := 0

theorem defs_tc : (defs₀ (F := F)) .tc cfg0.body = fun _ => bodyK (F := F) := rfl
theorem prog_eq (t : Fin cfg0.N) : (defs₀ (F := F)) .tc cfg0.body (cfg0.bodyArgs t (cfg0.slots t)) = bodyK (F := F) :=
  (congrFun defs_tc _).trans rfl

theorem bigSep_W0 (Φ : Fin cfg0.W → sProp 𝕄) : bigSep Finset.univ Φ = (BI.emp : sProp 𝕄) := by
  rw [show (Finset.univ : Finset (Fin cfg0.W)) = ∅ from rfl, bigSep_empty]

theorem Phi_cast (c : Dev nD) (t : Fin cfg0.N) : (dats m 0 c).Φ t.castSucc = PhiIn m c := by
  obtain rfl := fin_N0 t; rfl
theorem Phi_succ (c : Dev nD) (t : Fin cfg0.N) : (dats m 0 c).Φ t.succ = PhiOut m c := by
  obtain rfl := fin_N0 t; rfl

set_option maxHeartbeats 0 in
set_option backward.isDefEq.respectTransparency.types false in
theorem body_obligation (c : Dev nD) : BodyObligation (dats (F := F) m 0 c) (defs₀ (F := F)) 𝒱₀ () Set.univ := fun t => by
  rw [bigSep_W0, bigSep_W0, Phi_cast, Phi_succ]
  unfold Dat.owesAt Pipeline.owesWithin
  rw [show (dats m 0 c).owed t.castSucc = 0 from rfl, show (dats m 0 c).owed t.succ = 0 from rfl]
  unfold PhiIn PhiOut
  iintro ⟨⟨R0, R2, R3, HU, HD, HmX, HmWus, HmBu, HmWds, HmY, HmXc, HmXs, HmHc, HmHs, ⟨%fX, HvX⟩, ⟨%fWus, HvWus⟩, ⟨%fBu, HvBu⟩, ⟨%fWds, HvWds⟩, ⟨%fY, HvY⟩, ⟨%fXc, HvXc⟩, ⟨%fXs, HvXs⟩, ⟨%fHc, HvHc⟩, ⟨%fHs, HvHs⟩, ⟨%fXq, HvXq⟩, ⟨%fH, HvH⟩, ⟨%fHq, HvHq⟩, ⟨%fAcc, HvAcc⟩, Hs0, Hs1, Hs2, Hs3, Ho0, Ho1, Ho2, Ho3, Ho4⟩, ⟨%W, -, HW⟩, -⟩
  sl_rw [prog_eq t]
  iapply (bodyRun c (V m c main_v0) (V m c main_arg1) (V m c main_v1) (V m c main_v2) (V m c main_arg4) (V m c main_arg5) (V m c main_v3_0) (V m c main_v3_1) (V m c main_v3_2) (V m c main_v3_3) (V m c main_v3_4) fX fWus fBu fWds fY fXc fXs fHc fHs fXq fH fHq fAcc W)
  isplitl [HU HD HmX HmWus HmBu HmWds HmY HmXc HmXs HmHc HmHs HvX HvWus HvBu HvWds HvY HvXc HvXs HvHc HvHs HvXq HvH HvHq HvAcc Hs0 Hs1 Hs2 Hs3 Ho0 Ho1 Ho2 Ho3 Ho4 HW]
  · unfold PRE
    isplitl [HU]; · iexact HU
    isplitl [HD]; · iexact HD
    isplitl [HmX]; · iexact HmX
    isplitl [HmWus]; · iexact HmWus
    isplitl [HmBu]; · iexact HmBu
    isplitl [HmWds]; · iexact HmWds
    isplitl [HmY]; · iexact HmY
    isplitl [HmXc]; · iexact HmXc
    isplitl [HmXs]; · iexact HmXs
    isplitl [HmHc]; · iexact HmHc
    isplitl [HmHs]; · iexact HmHs
    isplitl [HvX]; · iexact HvX
    isplitl [HvWus]; · iexact HvWus
    isplitl [HvBu]; · iexact HvBu
    isplitl [HvWds]; · iexact HvWds
    isplitl [HvY]; · iexact HvY
    isplitl [HvXc]; · iexact HvXc
    isplitl [HvXs]; · iexact HvXs
    isplitl [HvHc]; · iexact HvHc
    isplitl [HvHs]; · iexact HvHs
    isplitl [HvXq]; · iexact HvXq
    isplitl [HvH]; · iexact HvH
    isplitl [HvHq]; · iexact HvHq
    isplitl [HvAcc]; · iexact HvAcc
    isplitl [Hs0]; · iexact Hs0
    isplitl [Hs1]; · iexact Hs1
    isplitl [Hs2]; · iexact Hs2
    isplitl [Hs3]; · iexact Hs3
    isplitl [Ho0]; · iexact Ho0
    isplitl [Ho1]; · iexact Ho1
    isplitl [Ho2]; · iexact Ho2
    isplitl [Ho3]; · iexact Ho3
    isplitl [Ho4]; · iexact Ho4
    iexact HW
  · unfold POST
    iintro ⟨HU, HD, HmX, HmWus, HmBu, HmWds, HmY, HmXc, HmXs, HmHc, HmHs, HvX, HvWus, HvBu, HvWds, HvY, HvXc, HvXs, HvHc, HvHs, HvXq, HvH, HvHq, HvAcc, Hs0, Hs1, Hs2, Hs3, Ho0, Ho1, Ho2, Ho3, Ho4, ⟨%W2, HW⟩⟩
    isplitl [R0 R2 R3 HU HD HmX HmWus HmBu HmWds HmY HmXc HmXs HmHc HmHs HvX HvWus HvBu HvWds HvY HvXc HvXs HvHc HvHs HvXq HvH HvHq HvAcc Hs0 Hs1 Hs2 Hs3 Ho0 Ho1 Ho2 Ho3 Ho4]
    · isplitl [R0]; · iexact R0
      isplitl [R2]; · iexact R2
      isplitl [R3]; · iexact R3
      isplitl [HU]; · iexact HU
      isplitl [HD]; · iexact HD
      isplitl [HmX]; · iexact HmX
      isplitl [HmWus]; · iexact HmWus
      isplitl [HmBu]; · iexact HmBu
      isplitl [HmWds]; · iexact HmWds
      isplitl [HmY]; · iexists fH; iexists fY; iexact HmY
      isplitl [HmXc]; · iexists fXc; iexact HmXc
      isplitl [HmXs]; · iexists fXs; iexact HmXs
      isplitl [HmHc]; · iexists fH; iexists fHc; iexact HmHc
      isplitl [HmHs]; · iexists fHs; iexact HmHs
      isplitl [HvX]; · iexact HvX
      isplitl [HvWus]; · iexact HvWus
      isplitl [HvBu]; · iexact HvBu
      isplitl [HvWds]; · iexact HvWds
      isplitl [HvY]; · iexact HvY
      isplitl [HvXc]; · iexact HvXc
      isplitl [HvXs]; · iexact HvXs
      isplitl [HvHc]; · iexact HvHc
      isplitl [HvHs]; · iexact HvHs
      isplitl [HvXq]; · iexact HvXq
      isplitl [HvH]; · iexact HvH
      isplitl [HvHq]; · iexact HvHq
      isplitl [HvAcc]; · iexact HvAcc
      isplitl [Hs0]; · iexact Hs0
      isplitl [Hs1]; · iexact Hs1
      isplitl [Hs2]; · iexact Hs2
      isplitl [Hs3]; · iexact Hs3
      isplitl [Ho0]; · iexact Ho0
      isplitl [Ho1]; · iexact Ho1
      isplitl [Ho2]; · iexact Ho2
      isplitl [Ho3]; · iexact Ho3
      iexact Ho4
    isplitl [HW]
    · iexists W2; isplitr; · ipureintro; exact fun _ _ => Or.inl trivial
      iexact HW
    iempintro

/-! ## The run -/

/-- What a final state holds on core `c`: the arguments unchanged, each result at what the body computes (the scratch
    buffers' earlier contents named by some `f`s). -/
def QY (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ (∃ fH : BufAt (F := F) c vH, ∃ fY : BufAt (F := F) c vY, s.mem ((c : Thread nD τ).loc main_v3_0) = outY c (V m c main_v0) (V m c main_arg1) (V m c main_v1) (V m c main_v2) (V m c main_arg4) (V m c main_arg5) fH fY (V m c main_v3_0))
  ∧ (∃ fXc : BufAt (F := F) c vXc, s.mem ((c : Thread nD τ).loc main_v3_1) = outXc c (V m c main_v0) fXc (V m c main_v3_1))
  ∧ (∃ fXs : BufAt (F := F) c vXs, s.mem ((c : Thread nD τ).loc main_v3_2) = outXs c (V m c main_v0) fXs (V m c main_v3_2))
  ∧ (∃ fH : BufAt (F := F) c vH, ∃ fHc : BufAt (F := F) c vHc, s.mem ((c : Thread nD τ).loc main_v3_3) = outHc c (V m c main_v0) (V m c main_arg1) (V m c main_v1) (V m c main_v2) fH fHc (V m c main_v3_3))
  ∧ (∃ fHs : BufAt (F := F) c vHs, s.mem ((c : Thread nD τ).loc main_v3_4) = outHs c (V m c main_v0) (V m c main_arg1) (V m c main_v1) (V m c main_v2) fHs (V m c main_v3_4))

def outOfΦ (c : Dev nD) : sProp 𝕄 := iprop((((c : Thread nD τ).loc main_arg0) ↦{fullShare} m ((c : Thread nD τ).loc main_arg0)) ∗ (((c : Thread nD τ).loc main_arg1) ↦{fullShare} m ((c : Thread nD τ).loc main_arg1)) ∗ (((c : Thread nD τ).loc main_arg2) ↦{fullShare} m ((c : Thread nD τ).loc main_arg2)) ∗ (((c : Thread nD τ).loc main_arg3) ↦{fullShare} m ((c : Thread nD τ).loc main_arg3)) ∗ (((c : Thread nD τ).loc main_arg4) ↦{fullShare} m ((c : Thread nD τ).loc main_arg4)) ∗ (((c : Thread nD τ).loc main_arg5) ↦{fullShare} m ((c : Thread nD τ).loc main_arg5)) ∗ (∃ fH : BufAt (F := F) c vH, ∃ fY : BufAt (F := F) c vY, heldP c mY (outY c (V m c main_v0) (V m c main_arg1) (V m c main_v1) (V m c main_v2) (V m c main_arg4) (V m c main_arg5) fH fY (V m c main_v3_0))) ∗ (∃ fXc : BufAt (F := F) c vXc, heldP c mXc (outXc c (V m c main_v0) fXc (V m c main_v3_1))) ∗ (∃ fXs : BufAt (F := F) c vXs, heldP c mXs (outXs c (V m c main_v0) fXs (V m c main_v3_2))) ∗ (∃ fH : BufAt (F := F) c vH, ∃ fHc : BufAt (F := F) c vHc, heldP c mHc (outHc c (V m c main_v0) (V m c main_arg1) (V m c main_v1) (V m c main_v2) fH fHc (V m c main_v3_3))) ∗ (∃ fHs : BufAt (F := F) c vHs, heldP c mHs (outHs c (V m c main_v0) (V m c main_arg1) (V m c main_v1) (V m c main_v2) fHs (V m c main_v3_4))))
def intoΦ (c : Dev nD) : sProp 𝕄 := iprop(Pipeline.unscopedRest cfg0.spec c (V m c) ∗ Pipeline.ownSems0 osem c)
def u₀ : UU nD τ := (initOf (Pipeline.cells cfgs cellOf_inj) (Pipeline.launchToks cfgs cellOf_inj), 1)

set_option maxHeartbeats 800000 in
theorem hmainUU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 0 in
theorem phi_in (c : Dev nD) : iprop(intoΦ m c ∗ Pipeline.scopedRest cfg0.spec c) ⊢ PhiIn m c := by
  unfold intoΦ PhiIn
  rw [unscopedRest0_eq, scopedRest0_eq, restU_eq, restD_eq]
  iintro ⟨⟨⟨R0, HhU, R2, R3, HhD, HmWds, HmX, HmWus, HmBu, HmY, HmXc, HmXs, HmHc, HmHs⟩, HQ⟩, HvX, HBU, HvWus, HvBu, HBD, HvWds, HvY, HvXc, HvXs, HvHc, HvHs, HvXq, HvH, HvHq, HvAcc⟩
  ihave HQ2 := (cells_split c) $$ HQ
  icases HQ2 with ⟨Hs0, Hs1, Hs2, Hs3, HcU, HcD, Ho0, Ho1, Ho2, Ho3, Ho4⟩
  ihave HsU := (bufU_split c) $$ HBU
  ihave HsD := (bufD_split c) $$ HBD
  isplitl [R0]; · iexact R0
  isplitl [R2]; · iexact R2
  isplitl [R3]; · iexact R3
  isplitl [HsU HhU HcU]
  · isplitl [HsU]; · iexact HsU
    isplitl [HhU]; · iapply (eqE (wu_eq c _)); iexact HhU
    iexact HcU
  isplitl [HsD HhD HcD]
  · isplitl [HsD]; · iexact HsD
    isplitl [HhD]; · iapply (eqE (wd_eq c _)); iexact HhD
    iexact HcD
  isplitl [HmX]; · iapply (toH c main_v0 _); iexact HmX
  isplitl [HmWus]; · iapply (toH c main_v1 _); iexact HmWus
  isplitl [HmBu]; · iapply (toH c main_v2 _); iexact HmBu
  isplitl [HmWds]; · iapply (toH c main_arg5 _); iexact HmWds
  isplitl [HmY]; · iapply (toH c main_v3_0 _); iexact HmY
  isplitl [HmXc]; · iapply (toH c main_v3_1 _); iexact HmXc
  isplitl [HmXs]; · iapply (toH c main_v3_2 _); iexact HmXs
  isplitl [HmHc]; · iapply (toH c main_v3_3 _); iexact HmHc
  isplitl [HmHs]; · iapply (toH c main_v3_4 _); iexact HmHs
  isplitl [HvX]; · icases HvX with ⟨%f, HvX⟩; iexists f; iapply (toH c cc0_scratch0 _); iexact HvX
  isplitl [HvWus]; · icases HvWus with ⟨%f, HvWus⟩; iexists f; iapply (toH c cc0_scratch2 _); iexact HvWus
  isplitl [HvBu]; · icases HvBu with ⟨%f, HvBu⟩; iexists f; iapply (toH c cc0_scratch3 _); iexact HvBu
  isplitl [HvWds]; · icases HvWds with ⟨%f, HvWds⟩; iexists f; iapply (toH c cc0_scratch5 _); iexact HvWds
  isplitl [HvY]; · icases HvY with ⟨%f, HvY⟩; iexists f; iapply (toH c cc0_scratch6 _); iexact HvY
  isplitl [HvXc]; · icases HvXc with ⟨%f, HvXc⟩; iexists f; iapply (toH c cc0_scratch7 _); iexact HvXc
  isplitl [HvXs]; · icases HvXs with ⟨%f, HvXs⟩; iexists f; iapply (toH c cc0_scratch8 _); iexact HvXs
  isplitl [HvHc]; · icases HvHc with ⟨%f, HvHc⟩; iexists f; iapply (toH c cc0_scratch9 _); iexact HvHc
  isplitl [HvHs]; · icases HvHs with ⟨%f, HvHs⟩; iexists f; iapply (toH c cc0_scratch10 _); iexact HvHs
  isplitl [HvXq]; · icases HvXq with ⟨%f, HvXq⟩; iexists f; iapply (toH c cc0_scratch11 _); iexact HvXq
  isplitl [HvH]; · icases HvH with ⟨%f, HvH⟩; iexists f; iapply (toH c cc0_scratch12 _); iexact HvH
  isplitl [HvHq]; · icases HvHq with ⟨%f, HvHq⟩; iexists f; iapply (toH c cc0_scratch13 _); iexact HvHq
  isplitl [HvAcc]; · icases HvAcc with ⟨%f, HvAcc⟩; iexists f; iapply (toH c cc0_scratch14 _); iexact HvAcc
  isplitl [Hs0]; · iexact Hs0
  isplitl [Hs1]; · iexact Hs1
  isplitl [Hs2]; · iexact Hs2
  isplitl [Hs3]; · iexact Hs3
  isplitl [Ho0]; · iexact Ho0
  isplitl [Ho1]; · iexact Ho1
  isplitl [Ho2]; · iexact Ho2
  isplitl [Ho3]; · iexact Ho3
  iexact Ho4

set_option maxHeartbeats 0 in
theorem phi_out (c : Dev nD) : PhiOut m c ⊢ iprop(outOfΦ m c ∗ Pipeline.ownSems0 osem c ∗ Pipeline.scopedRest cfg0.spec c) := by
  unfold outOfΦ PhiOut
  rw [scopedRest0_eq, restU_eq, restD_eq, V_main_arg0, V_main_arg2, V_main_arg3]
  iintro ⟨R0, R2, R3, ⟨HsU, HhU, HcU⟩, ⟨HsD, HhD, HcD⟩, HmX, HmWus, HmBu, HmWds, HmY, HmXc, HmXs, HmHc, HmHs, HvX, HvWus, HvBu, HvWds, HvY, HvXc, HvXs, HvHc, HvHs, HvXq, HvH, HvHq, HvAcc, Hs0, Hs1, Hs2, Hs3, Ho0, Ho1, Ho2, Ho3, Ho4⟩
  isplitl [R0 HhU R2 R3 HhD HmWds HmY HmXc HmXs HmHc HmHs]
  · isplitl [R0]; · iexact R0
    isplitl [HhU]; · iapply (eqE ((wu_eq c _).symm.trans (congrArg (fun f => ((((c : Thread nD τ).loc main_arg1) ↦{fullShare} f : sProp 𝕄))) (V_main_arg1 m c)))); iexact HhU
    isplitl [R2]; · iexact R2
    isplitl [R3]; · iexact R3
    isplitl [HhD]; · iapply (eqE ((wd_eq c _).symm.trans (congrArg (fun f => ((((c : Thread nD τ).loc main_arg4) ↦{fullShare} f : sProp 𝕄))) (V_main_arg4 m c)))); iexact HhD
    isplitl [HmWds]; · iapply (eqE ((heldP_whole c main_arg5 _).trans (congrArg (fun f => ((((c : Thread nD τ).loc main_arg5) ↦{fullShare} f : sProp 𝕄))) (V_main_arg5 m c)))); iexact HmWds
    isplitl [HmY]; · iexact HmY
    isplitl [HmXc]; · iexact HmXc
    isplitl [HmXs]; · iexact HmXs
    isplitl [HmHc]; · iexact HmHc
    iexact HmHs
  isplitl [HcU HcD Hs0 Hs1 Hs2 Hs3 Ho0 Ho1 Ho2 Ho3 Ho4]
  · iapply (cells_join c)
    isplitl [Hs0]; · iexact Hs0
    isplitl [Hs1]; · iexact Hs1
    isplitl [Hs2]; · iexact Hs2
    isplitl [Hs3]; · iexact Hs3
    isplitl [HcU]; · iexact HcU
    isplitl [HcD]; · iexact HcD
    isplitl [Ho0]; · iexact Ho0
    isplitl [Ho1]; · iexact Ho1
    isplitl [Ho2]; · iexact Ho2
    isplitl [Ho3]; · iexact Ho3
    iexact Ho4
  isplitl [HvX]; · icases HvX with ⟨%f, HvX⟩; iexists f; iapply (ofH c cc0_scratch0 _); iexact HvX
  isplitl [HsU]; · iapply (bufU_join c); iexact HsU
  isplitl [HvWus]; · icases HvWus with ⟨%f, HvWus⟩; iexists f; iapply (ofH c cc0_scratch2 _); iexact HvWus
  isplitl [HvBu]; · icases HvBu with ⟨%f, HvBu⟩; iexists f; iapply (ofH c cc0_scratch3 _); iexact HvBu
  isplitl [HsD]; · iapply (bufD_join c); iexact HsD
  isplitl [HvWds]; · icases HvWds with ⟨%f, HvWds⟩; iexists f; iapply (ofH c cc0_scratch5 _); iexact HvWds
  isplitl [HvY]; · icases HvY with ⟨%f, HvY⟩; iexists f; iapply (ofH c cc0_scratch6 _); iexact HvY
  isplitl [HvXc]; · icases HvXc with ⟨%f, HvXc⟩; iexists f; iapply (ofH c cc0_scratch7 _); iexact HvXc
  isplitl [HvXs]; · icases HvXs with ⟨%f, HvXs⟩; iexists f; iapply (ofH c cc0_scratch8 _); iexact HvXs
  isplitl [HvHc]; · icases HvHc with ⟨%f, HvHc⟩; iexists f; iapply (ofH c cc0_scratch9 _); iexact HvHc
  isplitl [HvHs]; · icases HvHs with ⟨%f, HvHs⟩; iexists f; iapply (ofH c cc0_scratch10 _); iexact HvHs
  isplitl [HvXq]; · icases HvXq with ⟨%f, HvXq⟩; iexists f; iapply (ofH c cc0_scratch11 _); iexact HvXq
  isplitl [HvH]; · icases HvH with ⟨%f, HvH⟩; iexists f; iapply (ofH c cc0_scratch12 _); iexact HvH
  isplitl [HvHq]; · icases HvHq with ⟨%f, HvHq⟩; iexists f; iapply (ofH c cc0_scratch13 _); iexact HvHq
  icases HvAcc with ⟨%f, HvAcc⟩; iexists f; iapply (ofH c cc0_scratch14 _); iexact HvAcc

set_option maxHeartbeats 0 in
theorem fin_out (c : Dev nD) (s' : Phys nD τ sig (Elt F)) :
    iprop(outOfΦ m c ∗ emp ∗ SI s') ⊢ |={Set.univ}=> iprop(⌜QY m c s'.mem⌝ ∗ SI s' : sProp 𝕄) := by
  unfold outOfΦ
  iintro ⟨⟨A0, A1, A2, A3, A4, A5, ⟨%fHY, %fYY, OY⟩, ⟨%fXcXc, OXc⟩, ⟨%fXsXs, OXs⟩, ⟨%fHHc, %fHcHc, OHc⟩, ⟨%fHsHs, OHs⟩⟩, -, HSI⟩
  ihave OY := (ofH c main_v3_0 _) $$ OY
  ihave OXc := (ofH c main_v3_1 _) $$ OXc
  ihave OXs := (ofH c main_v3_2 _) $$ OXs
  ihave OHc := (ofH c main_v3_3 _) $$ OHc
  ihave OHs := (ofH c main_v3_4 _) $$ OHs
  icombine HSI A0 gives %hA0
  icombine HSI A1 gives %hA1
  icombine HSI A2 gives %hA2
  icombine HSI A3 gives %hA3
  icombine HSI A4 gives %hA4
  icombine HSI A5 gives %hA5
  icombine HSI OY gives %hOY
  icombine HSI OXc gives %hOXc
  icombine HSI OXs gives %hOXs
  icombine HSI OHc gives %hOHc
  icombine HSI OHs gives %hOHs
  imodintro
  isplitr
  · ipureintro
    exact ⟨Buf.eq_of_forall_mem_univ hA0, Buf.eq_of_forall_mem_univ hA1, Buf.eq_of_forall_mem_univ hA2, Buf.eq_of_forall_mem_univ hA3, Buf.eq_of_forall_mem_univ hA4, Buf.eq_of_forall_mem_univ hA5, ⟨fHY, fYY, Buf.eq_of_forall_mem_univ hOY⟩, ⟨fXcXc, Buf.eq_of_forall_mem_univ hOXc⟩, ⟨fXsXs, Buf.eq_of_forall_mem_univ hOXs⟩, ⟨fHHc, fHcHc, Buf.eq_of_forall_mem_univ hOHc⟩, ⟨fHsHs, Buf.eq_of_forall_mem_univ hOHs⟩⟩
  iexact HSI

set_option backward.isDefEq.respectTransparency.types false in
/-- At the compiled mesh, for any float values, from any memory with zero counters: every weakly fair execution of
    @main on the TensorCores terminates, and every final state is as `QY` says on every core, with every semaphore
    counter at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainUU m)
    (hA := fun _ w => w.elim0)
    (X := intoΦ m) (Y := outOfΦ m) (Z := fun _ => iprop(emp))
    (hX := fun c => by
      unfold intoΦ
      iintro ⟨H0, HS, -, -, -⟩; imodintro
      isplitl [H0 HS]
      · isplitl [H0]; · iexact H0
        iexact HS
      iempintro)
    (hin := fun c => phi_in m c)
    (hout := fun c => phi_out m c)
    (QY := QY m)
    (hY := fun c s' => fin_out m c s')
    (hQ := fun s h hz => ⟨fun c => (h c).2, hz⟩)

end Cert.Proof.RunPrinted

end
-- ==== Proof.Value.Scale.lean ====
/-
  The power-of-two scale: the kernel's, found by comparing with the 256 floats whose exponent field is given and built
  by shifting the field back, is the reference's, found by a logarithm and built by an exponential. Scalars only.
-/
module

public import Idealize.ShloMosaic.Lib.Pointwise
public import Idealize.ShloMosaic.Lib.SortNet.Extract

@[expose] public section

noncomputable section

namespace Cert.Proof.Value

open Idealize.ShloMosaic

/-- The float whose exponent field is `k` and whose other bits are zero. -/
def step (k : ℕ) : EReal := Ideal.ofBits .f32 (IntOp.shli .vector (BitVec.ofNat 32 k) 23#32)

/-- The constant 1/448 as the programs round it. -/
abbrev kappa : EReal := Ideal.ofBits .f32 0x3B124925#32

/-- The kernel's exponent field: the greatest `k` with `step k ≤ r`. -/
def fieldOf (r : EReal) : BitVec 32 :=
  Finset.fold IntOp.maxsi (2147483648#32)
    (fun x : Fin 256 => if Ideal.ofBits .f32 (IntOp.shli .vector (BitVec.ofNat 32 ↑x) 23#32) ≤ r then BitVec.ofNat 32 ↑x else 0#32) Finset.univ

/-- The kernel's exponent of the scale of a row whose greatest magnitude is `a`. -/
def kExp (a : EReal) : BitVec 32 :=
  if a = 0 then 0#32
  else Scalar.select (IntOp.ori (IntOp.cmpi .eq (fieldOf (a * kappa)) 0#32) (IntOp.cmpi .eq (fieldOf (a * kappa)) 255#32)) (0#32)
    (IntOp.subi (fieldOf (a * kappa)) 126#32)

/-- The kernel's power of two. -/
def kPow (e : BitVec 32) : EReal :=
  Ideal.ofBits .f32 (IntOp.shli .vector
    (Scalar.select (IntOp.cmpi .sle (IntOp.addi 127#32 e) 0#32) (0#32) (IntOp.minsi (IntOp.addi 127#32 e) 255#32)) 23#32)

/-- The reference's exponent. -/
def rExp (a : EReal) : EReal :=
  Scalar.select (IntOp.ori (BitVec.ofBool (decide (a * kappa < Ideal.ofBits .f32 0x00800000#32)))
      (BitVec.ofBool (decide (a * kappa = Ideal.ofBits .f32 0x7F800000#32)))) 0
    (min (Ideal.liftRound Int.floor (Ideal.div (Ideal.log (a * kappa)) (Ideal.log (Ideal.ofBits .f32 0x40000000#32))) + 1)
      (Ideal.ofBits .f32 0x43000000#32))

/-- The reference's power of two. -/
def rPow (e : EReal) : EReal :=
  if Ideal.ofBits .f32 0x42FE0000#32 < e then Ideal.ofBits .f32 0x7F800000#32
  else if e < Ideal.ofBits .f32 0xC2FC0000#32 then 0 else Ideal.exp2 e

/-! ## The floats of one exponent field -/

theorem bits_step : ∀ k : Fin 256, (BitVec.extractLsb' 31 1 (IntOp.shli .vector (BitVec.ofNat 32 k) 23#32) == 1#1) = false
    ∧ (BitVec.extractLsb' 23 8 (IntOp.shli .vector (BitVec.ofNat 32 k) 23#32)).toNat = k
    ∧ (BitVec.extractLsb' 0 23 (IntOp.shli .vector (BitVec.ofNat 32 k) 23#32)).toNat = 0 := by decide +kernel

theorem step_zero : step 0 = 0 := by
  obtain ⟨h1, h2, h3⟩ := bits_step 0
  simp only [Fin.coe_ofNat_eq_mod, Nat.zero_mod] at h1 h2 h3
  simp [step, Ideal.ofBits, Ideal.ieee, h1, h2, h3]

theorem step_mid (k : ℕ) (h1 : 1 ≤ k) (h2 : k ≤ 254) : step k = (((2 : ℝ) ^ ((k : ℤ) - 127) : ℝ) : EReal) := by
  obtain ⟨a1, a2, a3⟩ := bits_step ⟨k, by omega⟩
  simp only at a1 a2 a3
  have e : step k = if k = 2 ^ 8 - 1 then (if 0 = 0 then (if false then ⊥ else ⊤) else ⊥)
      else if k = 0 then (((if false then -1 else 1 : ℝ) * (0 : ℕ) * (2 : ℝ) ^ (1 - (2 ^ (8 - 1) - 1) - (23 : ℕ) : ℤ) : ℝ) : EReal)
      else (((if false then -1 else 1 : ℝ) * (2 ^ 23 + 0 : ℕ) * (2 : ℝ) ^ ((k : ℤ) - (2 ^ (8 - 1) - 1) - (23 : ℕ) : ℤ) : ℝ) : EReal) := by
    simp only [step, Ideal.ofBits, Ideal.ieee, Nat.reduceAdd, a1, a2, a3]
  rw [e, if_neg (by omega), if_neg (by omega)]
  refine congrArg Real.toEReal ?_
  simp only [Bool.false_eq_true, if_false, one_mul, add_zero]
  rw [show ((2 ^ 23 : ℕ) : ℝ) = (2 : ℝ) ^ (23 : ℤ) by norm_num, ← zpow_add₀ (by norm_num)]
  refine congrArg _ ?_
  push_cast
  ring

theorem step_top : step 255 = ⊤ := by
  obtain ⟨h1, h2, h3⟩ := bits_step 255
  have e : ((255 : Fin 256) : ℕ) = 255 := rfl
  rw [e] at h1 h2 h3
  simp [step, Ideal.ofBits, Ideal.ieee, h1, h2, h3]

theorem c_min : Ideal.ofBits .f32 0x00800000#32 = (((2 : ℝ) ^ (-126 : ℤ) : ℝ) : EReal) := by
  have := step_mid 1 le_rfl (by norm_num)
  exact this
theorem c_inf : Ideal.ofBits .f32 0x7F800000#32 = ⊤ := step_top
theorem c_two : Ideal.ofBits .f32 0x40000000#32 = ((2 : ℝ) : EReal) := by
  have := step_mid 128 (by norm_num) (by norm_num)
  rw [show Ideal.ofBits .f32 0x40000000#32 = step 128 from rfl, this]; norm_num
theorem c_128 : Ideal.ofBits .f32 0x43000000#32 = ((128 : ℝ) : EReal) := by
  have := step_mid 134 (by norm_num) (by norm_num)
  rw [show Ideal.ofBits .f32 0x43000000#32 = step 134 from rfl, this]; norm_num
theorem c_127 : Ideal.ofBits .f32 0x42FE0000#32 = ((127 : ℝ) : EReal) := by
  simp [Ideal.ofBits, Ideal.ieee, -EReal.coe_mul]; norm_num
theorem c_m126 : Ideal.ofBits .f32 0xC2FC0000#32 = ((-126 : ℝ) : EReal) := by
  simp [Ideal.ofBits, Ideal.ieee, -EReal.coe_mul]; norm_num
theorem kappa_pos : (0 : EReal) < kappa := by
  simp [kappa, Ideal.ofBits, Ideal.ieee, -EReal.coe_mul]

theorem two_pos (n : ℤ) : (0 : EReal) < (((2 : ℝ) ^ n : ℝ) : EReal) := EReal.coe_pos.mpr (zpow_pos (by norm_num) _)

theorem step_le_mono {j k : ℕ} (h : j ≤ k) (hk : k ≤ 255) : step j ≤ step k := by
  rcases Nat.eq_zero_or_pos j with rfl | hj
  · rw [step_zero]
    rcases Nat.eq_zero_or_pos k with rfl | hk0
    · rw [step_zero]
    · rcases Nat.lt_or_ge k 255 with h5 | h5
      · rw [step_mid k hk0 (by omega)]; exact (two_pos _).le
      · rw [show k = 255 by omega, step_top]; exact le_top
  · rcases Nat.lt_or_ge k 255 with h5 | h5
    · rw [step_mid k (by omega) (by omega), step_mid j hj (by omega)]
      exact EReal.coe_le_coe_iff.mpr (zpow_le_zpow_right₀ (by norm_num : (1 : ℝ) ≤ 2) (by omega))
    · rw [show k = 255 by omega, step_top]; exact le_top

/-! ## The kernel's field is the greatest -/

theorem toInt_ofNat (x : Fin 256) : (BitVec.ofNat 32 (x : ℕ)).toInt = (x : ℕ) := by
  revert x; decide +kernel

theorem fieldOf_spec (r : EReal) (hr : 0 ≤ r) :
    ∃ K : Fin 256, fieldOf r = BitVec.ofNat 32 K ∧ step K ≤ r ∧ ∀ x : Fin 256, step x ≤ r → x ≤ K := by
  obtain ⟨-, h2, h3⟩ := SortNet.fold_maxsi_spec (fun x : Fin 256 => if Ideal.ofBits .f32 (IntOp.shli .vector (BitVec.ofNat 32 ↑x) 23#32) ≤ r then BitVec.ofNat 32 ↑x else 0#32)
    Finset.univ (2147483648#32)
  have hall : ∀ x : Fin 256, step x ≤ r → ((x : ℕ) : ℤ) ≤ (fieldOf r).toInt := by
    intro x hx
    have := h2 x (Finset.mem_univ _)
    simp only [step] at hx
    rw [if_pos hx, toInt_ofNat] at this
    exact this
  have h0 := hall 0 (by show step 0 ≤ r; rw [step_zero]; exact hr)
  have key : ∃ K : Fin 256, fieldOf r = BitVec.ofNat 32 K ∧ step K ≤ r := by
    rcases h3 with h | ⟨i, -, h⟩
    · exfalso
      have e : fieldOf r = 2147483648#32 := h
      rw [e] at h0
      exact absurd h0 (by decide)
    · by_cases hi : step i ≤ r
      · refine ⟨i, ?_, hi⟩
        have e : fieldOf r = _ := h
        simp only [step] at hi
        rw [if_pos hi] at e
        exact e
      · refine ⟨0, ?_, by show step 0 ≤ r; rw [step_zero]; exact hr⟩
        have e : fieldOf r = _ := h
        simp only [step] at hi
        rw [if_neg hi] at e
        exact e
  obtain ⟨K, e, hK⟩ := key
  refine ⟨K, e, hK, fun x hx => ?_⟩
  have := hall x hx
  rw [e, toInt_ofNat] at this
  exact_mod_cast this

theorem tail_word : ∀ K : Fin 256, K ≠ 0 → K ≠ 255 →
    Scalar.select (IntOp.ori (IntOp.cmpi .eq (BitVec.ofNat 32 (K : ℕ)) 0#32) (IntOp.cmpi .eq (BitVec.ofNat 32 (K : ℕ)) 255#32)) (0#32)
      (IntOp.subi (BitVec.ofNat 32 (K : ℕ)) 126#32) = BitVec.ofInt 32 ((K : ℕ) - 126 : ℤ) := by decide +kernel

theorem sel_left (b : BitVec 1) (x : EReal) : Scalar.select (IntOp.ori (BitVec.ofBool true) b) 0 x = 0 := by
  have : ∀ b : BitVec 1, IntOp.ori (BitVec.ofBool true) b = 1#1 := by decide
  rw [this b]; rfl
theorem sel_right (b : BitVec 1) (x : EReal) : Scalar.select (IntOp.ori b (BitVec.ofBool true)) 0 x = 0 := by
  have : ∀ b : BitVec 1, IntOp.ori b (BitVec.ofBool true) = 1#1 := by decide
  rw [this b]; rfl

/-- One exponent, an integer between −125 and 128, is the kernel's word and the reference's real. -/
theorem exps (a : EReal) (ha : 0 ≤ a) :
    ∃ e : ℤ, -125 ≤ e ∧ e ≤ 128 ∧ kExp a = BitVec.ofInt 32 e ∧ rExp a = ((e : ℝ) : EReal) := by
  have hr : 0 ≤ a * kappa := mul_nonneg ha kappa_pos.le
  obtain ⟨K, hK, hle, hgr⟩ := fieldOf_spec _ hr
  by_cases hz : a = 0
  · refine ⟨0, by norm_num, by norm_num, by rw [kExp, if_pos hz]; rfl, ?_⟩
    rw [rExp, hz, zero_mul, c_min]
    rw [decide_eq_true (two_pos _), sel_left]
    norm_num
  rw [kExp, if_neg hz, rExp, hK]
  generalize a * kappa = r at *
  rw [c_min, c_inf, c_two, c_128]
  by_cases hs : r < (((2 : ℝ) ^ (-126 : ℤ) : ℝ) : EReal)
  · refine ⟨0, by norm_num, by norm_num, ?_, ?_⟩
    · have : K = 0 := by
        by_contra hne
        have h1 : 1 ≤ (K : ℕ) := Nat.one_le_iff_ne_zero.mpr (fun h => hne (Fin.ext h))
        have := step_le_mono h1 (by omega)
        rw [step_mid 1 le_rfl (by norm_num)] at this
        exact absurd (lt_of_le_of_lt (this.trans hle) hs) (by norm_num)
      subst this; decide
    · rw [decide_eq_true hs, sel_left]
      norm_num
  by_cases ht : r = ⊤
  · refine ⟨0, by norm_num, by norm_num, ?_, ?_⟩
    · have : K = 255 := by
        have := hgr 255 (by rw [ht]; exact le_top)
        omega
      subst this; decide
    · rw [decide_eq_true ht, sel_right]
      norm_num
  rw [decide_eq_false hs, decide_eq_false ht]
  have hge : (((2 : ℝ) ^ (-126 : ℤ) : ℝ) : EReal) ≤ r := not_lt.mp hs
  induction r with
  | bot => exact absurd (lt_of_lt_of_le EReal.bot_lt_zero hr) (lt_irrefl _)
  | top => exact absurd rfl ht
  | coe ρ =>
    have hpos : 0 < ρ := lt_of_lt_of_le (zpow_pos (by norm_num) _) (EReal.coe_le_coe_iff.mp hge)
    have hK1 : (1 : ℕ) ≤ K := hgr 1 (by show step 1 ≤ _; rw [step_mid 1 le_rfl (by norm_num)]; exact hge)
    have hK2 : (K : ℕ) ≤ 254 := by
      by_contra h
      rw [show (K : ℕ) = 255 by omega, step_top] at hle
      exact absurd hle (by simp)
    refine ⟨(K : ℕ) - 126, by omega, by omega, tail_word K (fun h => by subst h; simp at hK1) (fun h => by subst h; exact absurd hK2 (by decide)), ?_⟩
    rw [step_mid K hK1 hK2] at hle
    have hlo : (2 : ℝ) ^ (((K : ℕ) : ℤ) - 127) ≤ ρ := EReal.coe_le_coe_iff.mp hle
    have l2 : 0 < Real.log 2 := Real.log_pos (by norm_num)
    have elog : Ideal.log (ρ : EReal) = (Real.log ρ : EReal) := by
      show (if ρ ≤ 0 then (⊥ : EReal) else _) = _
      rw [if_neg (not_le.mpr hpos)]
    have elog2 : Ideal.log ((2 : ℝ) : EReal) = (Real.log 2 : EReal) := by
      show (if (2 : ℝ) ≤ 0 then (⊥ : EReal) else _) = _
      rw [if_neg (by norm_num)]
    have ediv : Ideal.div (Real.log ρ : EReal) (Real.log 2 : EReal) = ((Real.log ρ / Real.log 2 : ℝ) : EReal) := by
      rw [Ideal.div, if_neg (by exact_mod_cast l2.ne'), ← EReal.coe_inv, ← EReal.coe_mul, div_eq_mul_inv]
    rw [elog, elog2, ediv]
    have ef : Ideal.liftRound Int.floor ((Real.log ρ / Real.log 2 : ℝ) : EReal) = ((⌊Real.log ρ / Real.log 2⌋ : ℝ) : EReal) := rfl
    rw [ef]
    have flo : ((K : ℕ) : ℤ) - 127 ≤ ⌊Real.log ρ / Real.log 2⌋ := by
      rw [Int.le_floor, le_div_iff₀ l2]
      have := Real.log_le_log (zpow_pos (by norm_num) _) hlo
      rw [Real.log_zpow] at this
      exact_mod_cast this
    have fhi : (K : ℕ) < 254 → ⌊Real.log ρ / Real.log 2⌋ < ((K : ℕ) : ℤ) - 126 := by
      intro h
      rw [Int.floor_lt, div_lt_iff₀ l2]
      have hn : ¬ step ((K : ℕ) + 1) ≤ (ρ : EReal) := by
        intro hx
        have := hgr ⟨K + 1, by omega⟩ hx
        have h' : (K : ℕ) + 1 ≤ K := this
        omega
      rw [step_mid _ (by omega) (by omega)] at hn
      have hlt : ρ < (2 : ℝ) ^ ((((K : ℕ) + 1 : ℕ) : ℤ) - 127) := EReal.coe_lt_coe_iff.mp (not_le.mp hn)
      have := Real.log_lt_log hpos hlt
      rw [Real.log_zpow] at this
      have e : ((((K : ℕ) + 1 : ℕ) : ℤ) - 127) = ((K : ℕ) : ℤ) - 126 := by push_cast; ring
      rw [e] at this
      exact_mod_cast this
    have emin : min (⌊Real.log ρ / Real.log 2⌋ + 1) 128 = ((K : ℕ) : ℤ) - 126 := by
      rcases Nat.lt_or_ge (K : ℕ) 254 with h | h
      · have := fhi h; omega
      · omega
    have esel : ∀ x : EReal, Scalar.select (IntOp.ori (BitVec.ofBool false) (BitVec.ofBool false)) 0 x = x := fun x => by
      simp [IntOp.ori, Scalar.select]
    rw [esel, ← emin]
    have e1 : (1 : EReal) = ((1 : ℝ) : EReal) := rfl
    rw [e1, ← EReal.coe_add, ← EReal.coe_strictMono.monotone.map_min]
    congr 1
    push_cast
    rfl

/-! ## The powers of two agree -/

theorem pow_word : ∀ i : Fin 257, Scalar.select (IntOp.cmpi .sle (IntOp.addi 127#32 (BitVec.ofInt 32 ((i : ℕ) - 128 : ℤ))) 0#32) (0#32)
      (IntOp.minsi (IntOp.addi 127#32 (BitVec.ofInt 32 ((i : ℕ) - 128 : ℤ))) 255#32)
    = BitVec.ofNat 32 ((i : ℕ) - 1) := by decide +kernel

theorem pows (e : ℤ) (h1 : -128 ≤ e) (h2 : e ≤ 128) : kPow (BitVec.ofInt 32 e) = rPow ((e : ℝ) : EReal) := by
  obtain ⟨i, hi⟩ : ∃ i : Fin 257, e = (i : ℕ) - 128 := ⟨⟨(e + 128).toNat, by omega⟩, by simp only; omega⟩
  have hk : kPow (BitVec.ofInt 32 e) = step ((i : ℕ) - 1) := by
    rw [kPow, hi, pow_word i]; rfl
  rw [hk, rPow, c_127, c_inf, c_m126]
  by_cases ht : e = 128
  · rw [if_pos (by rw [ht]; exact_mod_cast (by norm_num : (127 : ℝ) < 128)), show (i : ℕ) - 1 = 255 by omega, step_top]
  rw [if_neg (by rw [not_lt, EReal.coe_le_coe_iff]; exact_mod_cast (by omega : e ≤ 127))]
  by_cases hb : e < -126
  · rw [if_pos (by rw [EReal.coe_lt_coe_iff]; exact_mod_cast hb), show (i : ℕ) - 1 = 0 by omega, step_zero]
  rw [if_neg (by rw [not_lt, EReal.coe_le_coe_iff]; exact_mod_cast (not_lt.mp hb)), step_mid _ (by omega) (by omega)]
  show _ = ((Real.rpow 2 (e : ℝ) : ℝ) : EReal)
  congr 1
  show _ = (2 : ℝ) ^ (e : ℝ)
  rw [Real.rpow_intCast]
  congr 1
  omega

/-- THE SCALE, and its inverse, of a row whose greatest magnitude is `a`. -/
theorem scale_eq (a : EReal) (ha : 0 ≤ a) : kPow (kExp a) = rPow (rExp a) := by
  obtain ⟨e, h1, h2, hk, hr⟩ := exps a ha
  rw [hk, hr, pows e (by omega) h2]

theorem neg_word (e : ℤ) : IntOp.subi (0#32) (BitVec.ofInt 32 e) = BitVec.ofInt 32 (-e) := by
  rw [IntOp.subi, BitVec.zero_sub, BitVec.ofInt_neg]

theorem inv_eq (a : EReal) (ha : 0 ≤ a) : kPow (IntOp.subi 0#32 (kExp a)) = rPow (0 - rExp a) := by
  obtain ⟨e, h1, h2, hk, hr⟩ := exps a ha
  rw [hk, hr, neg_word, pows (-e) (by omega) (by omega), zero_sub, Int.cast_neg, EReal.coe_neg]

end Cert.Proof.Value

end
-- ==== Proof.Value.Spec.lean ====
/-
  What the five results are, entry by entry, as functions of the argument matrices over the extended reals.
-/
module

public import proofs.«01_k».proof.Proof.Value.Scale

@[expose] public section

noncomputable section

namespace Cert.Proof.Value

open Idealize.ShloMosaic

/-- An `a` by `b` matrix. -/
abbrev Mat (a b : ℕ) : Type := (⟨2, ![a, b]⟩ : Shape).Idx → EReal

/-- The greatest magnitude in row `r`. -/
def amax {a b : ℕ} (X : Mat a b) (r : Fin a) : EReal :=
  Finset.fold max (Ideal.ofBits .f32 0xFF800000#32) (fun x : Fin b => max (X (ix2 r x)) (-(X (ix2 r x)))) Finset.univ

/-- The scale of a row whose greatest magnitude is `a`, -/
def scl (a : EReal) : EReal := kPow (kExp a)
/-- and its inverse. -/
def inv (a : EReal) : EReal := kPow (IntOp.subi 0#32 (kExp a))

/-- One entry quantised: multiplied by the inverse scale and clipped to the codes' range. -/
def clip (v i : EReal) : EReal :=
  min (Ideal.ofBits .f32 0x43E00000#32) (max (Ideal.ofBits .f32 0xC3E00000#32) (v * i))

/-- A matrix quantised row by row. -/
def codes {a b : ℕ} (X : Mat a b) (r : Fin a) (k : Fin b) : EReal := clip (X (ix2 r k)) (inv (amax X r))

section
variable (X : Mat 16 2560) (U : Mat 2560 10240) (us : Mat 1 10240) (b : Mat 1 10240) (D : Mat 10240 2560) (ds : Fin 2560 → EReal)

/-- The hidden rows: the quantised input times the up weight, rescaled, the bias added, clipped at zero. -/
def hid (r : Fin 16) (j : Fin 10240) : EReal :=
  max ((∑ x, codes X r x * U (ix2 x j)) * scl (amax X r) * us (ix2 0 j) + b (ix2 0 j)) 0
/-- The hidden rows as a matrix. -/
def hidM : Mat 16 10240 := fun i => hid X U us b (i 0) (i 1)
/-- The output: the quantised hidden rows times the down weight, rescaled. -/
def outp (r : Fin 16) (j : Fin 2560) : EReal :=
  (∑ x, codes (hidM X U us b) r x * D (ix2 x j)) * scl (amax (hidM X U us b) r) * ds j

theorem hid_nonneg (r : Fin 16) (j : Fin 10240) : 0 ≤ hid X U us b r j := le_max_right _ _
end

theorem ninf : Ideal.ofBits .f32 0xFF800000#32 = (⊥ : EReal) := by simp [Ideal.ofBits, Ideal.ieee]

theorem mag_nonneg (x : EReal) : 0 ≤ max x (-x) := by
  rcases le_total 0 x with h | h
  · exact le_max_of_le_left h
  · exact le_max_of_le_right (by simpa using EReal.neg_le_neg_iff.mpr h)

/-- A fold of the maximum from the bottom is the supremum. -/
theorem fold_max_eq_sup {ι : Type} (s : Finset ι) (f : ι → EReal) :
    Finset.fold max (Ideal.ofBits .f32 0xFF800000#32) f s = s.sup f := by rw [ninf]; rfl

theorem amax_eq {a b : ℕ} (X : Mat a b) (r : Fin a) :
    amax X r = Finset.univ.sup fun x : Fin b => max (X (ix2 r x)) (-(X (ix2 r x))) := fold_max_eq_sup _ _

theorem amax_nonneg {a b : ℕ} (hb : 0 < b) (X : Mat a b) (r : Fin a) : 0 ≤ amax X r := by
  rw [amax_eq]
  exact (mag_nonneg _).trans (Finset.le_sup (f := fun x : Fin b => max (X (ix2 r x)) (-(X (ix2 r x)))) (Finset.mem_univ (⟨0, hb⟩ : Fin b)))

theorem amax_hid (X : Mat 16 2560) (U : Mat 2560 10240) (us b : Mat 1 10240) (r : Fin 16) :
    amax (hidM X U us b) r = Finset.univ.sup fun j : Fin 10240 => hid X U us b r j := by
  rw [amax_eq]
  refine congrArg _ (funext fun j => ?_)
  have h := hid_nonneg X U us b r j
  have h' : -(hid X U us b r j) ≤ 0 := by simpa using EReal.neg_le_neg_iff.mpr h
  exact max_eq_left (h'.trans h)

end Cert.Proof.Value

end
-- ==== Proof.Value.Pay.lean ====
/-
  The values the kernel's body computes between its loads and stores, read at one entry.
-/
module

public import proofs.«01_k».proof.Proof.Value.Spec
public import proofs.«01_k».proof.Proof.Gen.KernelIdeal.Skeleton

@[expose] public section

set_option maxRecDepth 16384

noncomputable section

namespace Cert.Proof.Value

open Idealize.ShloMosaic
open Cert.KernelIdeal Cert.KernelIdeal.Gen

/-- The input's greatest magnitude, -/
theorem pay6_apply (X : Vec Ideal S16x2560 .bf16) (r : Fin 16) : k0_pay6 (F := Ideal) X (ix2 r 0) = amax X r := by
  pointwise [k0_pay6, k0_pay5]
  rfl

/-- the exponent it gives, -/
theorem pay8_apply (a : FVec Ideal S16x1 .f32) (r : Fin 16) :
    k0_pay8 (F := Ideal) a (k0_pay7 (F := Ideal)) (ix2 r 0) = kExp (a (ix2 r 0)) := by
  pointwise [k0_pay8, k0_pay7]
  rfl

/-- the scale, -/
theorem pay9_apply (a k : FVec Ideal S16x1 .f32) (r : Fin 16) :
    k0_pay9 (F := Ideal) a k (ix2 r 0) = kPow (k0_pay8 (F := Ideal) a k (ix2 r 0)) := by
  pointwise [k0_pay9]
  rfl

/-- the codes, -/
theorem pay13_apply (X : Vec Ideal S16x2560 .f32) (a k : FVec Ideal S16x1 .f32) (r : Fin 16) (j : Fin 2560) :
    k0_pay13 (F := Ideal) X (k0_pay10 (F := Ideal) a k) (k0_pay11 (F := Ideal) a k) k0_pay12 (ix2 r j)
      = clip (X (ix2 r j)) (kPow (IntOp.subi 0#32 (k0_pay8 (F := Ideal) a k (ix2 r 0)))) := by
  pointwise [k0_pay13, k0_pay10, k0_pay11, k0_pay12]
  rfl

/-- and the scales as a row: a diagonal matrix's column sums. -/
theorem diag_sum (f : Fin 16 → EReal) (r : Fin 16) :
    ∑ x : Fin 16, Scalar.select (IntOp.cmpi .eq (BitVec.ofNat 32 ↑x) (BitVec.ofNat 32 ↑r)) (f x) 0 = f r := by
  have h : ∀ x r : Fin 16, IntOp.cmpi .eq (BitVec.ofNat 32 (x : ℕ)) (BitVec.ofNat 32 (r : ℕ)) = if x = r then 1#1 else 0#1 := by decide +kernel
  rw [Finset.sum_eq_single r]
  · rw [h, if_pos rfl]; rfl
  · intro x _ hx
    rw [h, if_neg hx]; rfl
  · intro hr; exact absurd (Finset.mem_univ r) hr

theorem pay16_apply (a : FVec Ideal S16x1 .f32) (r : Fin 16) : k0_pay16 (F := Ideal) a (ix2 0 r) = a (ix2 r 0) := by
  pointwise [k0_pay16]
  exact diag_sum (fun x => a (ix2 x 0)) r

/-- One block of the hidden rows. -/
theorem pay2_apply (s : FVec Ideal S16x1 .f32) (q : Vec Ideal S32x2560 .fp8e4m3) (w : Vec Ideal S1x2560x1024 .fp8e4m3)
    (us b : Vec Ideal S1x1024 .f32) (r : Fin 16) (j : Fin 1024) :
    k0_pay2 (F := Ideal) s q w us b (ix2 r j)
      = max ((∑ x : Fin 2560, q (ix2 ⟨r, by omega⟩ x) * w (ix3 0 x j)) * s (ix2 r 0) * us (ix2 0 j) + b (ix2 0 j)) 0 := by
  pointwise [k0_pay2]

/-- The running maximum, folded over the block's eight chunks. -/
theorem pay18_apply (s : FVec Ideal S16x1 .f32) (q : Vec Ideal S32x2560 .fp8e4m3) (w : Vec Ideal S1x2560x1024 .fp8e4m3)
    (us b : Vec Ideal S1x1024 .f32) (acc : FVec Ideal S16x128 .f32) (r : Fin 16) (l : Fin 128) :
    k0_pay18 (F := Ideal) (k0_pay2 s q w us b) (k0_pay4 s acc q w us b) (ix2 r l)
      = max (acc (ix2 r l)) (Finset.univ.sup fun t : Fin 8 => k0_pay2 (F := Ideal) s q w us b (ix2 r ⟨128 * t + l, by omega⟩)) := by
  pointwise [k0_pay18, k0_pay4]
  generalize k0_pay2 (F := Ideal) s q w us b = P
  have e : ∀ f : Fin 8 → EReal, Finset.univ.sup f = max (f 0) (max (f 1) (max (f 2) (max (f 3) (max (f 4) (max (f 5) (max (f 6) (f 7))))))) := by
    intro f
    refine le_antisymm (Finset.sup_le fun t _ => ?_) ?_
    · fin_cases t <;> simp
    · simp only [max_le_iff]
      exact ⟨Finset.le_sup (Finset.mem_univ 0), Finset.le_sup (Finset.mem_univ 1), Finset.le_sup (Finset.mem_univ 2),
        Finset.le_sup (Finset.mem_univ 3), Finset.le_sup (Finset.mem_univ 4), Finset.le_sup (Finset.mem_univ 5),
        Finset.le_sup (Finset.mem_univ 6), Finset.le_sup (Finset.mem_univ 7)⟩
  rw [e]
  simp only [max_assoc]
  have z : (⟨l, by omega⟩ : Fin 1024) = ⟨128 * ((0 : Fin 8) : ℕ) + l, by simp; omega⟩ := by ext; simp
  rw [z]
  rfl

/-- The hidden rows' exponent, from the lanes' maxima. -/
theorem pay19_apply (m : FVec Ideal S16x128 .f32) (r : Fin 16) :
    k0_pay19 (F := Ideal) m (ix2 r 0) = kExp (Finset.univ.sup fun l : Fin 128 => m (ix2 r l)) := by
  rw [← fold_max_eq_sup]
  pointwise [k0_pay19]
  rfl

theorem pay23_apply (m : FVec Ideal S16x128 .f32) (r : Fin 16) :
    k0_pay23 (F := Ideal) (k0_pay20 (F := Ideal) m) (k0_pay21 (F := Ideal) m) k0_pay22 (ix2 r 0) = kPow (k0_pay19 (F := Ideal) m (ix2 r 0)) := by
  pointwise [k0_pay23, k0_pay20, k0_pay21, k0_pay22]
  rfl

theorem pay24_apply (e : IVec S16x1 32) (r : Fin 16) :
    k0_pay24 (F := Ideal) e (ix2 r 0) = kPow (IntOp.subi 0#32 (e (ix2 r 0))) := by
  pointwise [k0_pay24]
  rfl

theorem pay25_apply (m : FVec Ideal S16x128 .f32) (r : Fin 16) :
    k0_pay25 (F := Ideal) (k0_pay20 (F := Ideal) m) (k0_pay21 (F := Ideal) m) k0_pay22 (ix2 0 r) = kPow (k0_pay19 (F := Ideal) m (ix2 r 0)) := by
  pointwise [k0_pay25]
  rw [diag_sum (fun x => k0_pay23 (F := Ideal) (k0_pay20 (F := Ideal) m) (k0_pay21 (F := Ideal) m) k0_pay22 (ix2 x 0)), pay23_apply]

/-- One step of the second product. -/
theorem pay61_apply (q : Vec Ideal S32x512 .fp8e4m3) (w : Vec Ideal S512x2560 .fp8e4m3) (acc : Vec Ideal S16x2560 .f32) (r : Fin 16) (j : Fin 2560) :
    k0_pay61 (F := Ideal) q w acc (ix2 r j) = acc (ix2 r j) + ∑ x : Fin 512, q (ix2 ⟨r, by omega⟩ x) * w (ix2 x j) := by
  pointwise [k0_pay61]

theorem pay60_apply (r : Fin 16) (j : Fin 2560) : k0_pay60 (F := Ideal) (ix2 r j) = 0 := by
  pointwise [k0_pay60]

/-- The output, rescaled. -/
theorem pay62_apply (s : FVec Ideal S16x1 .f32) (d : Vec Ideal S2560 .f32) (acc : Vec Ideal S16x2560 .f32) (r : Fin 16) (j : Fin 2560) :
    k0_pay1 (F := Ideal) (k0_pay62 (F := Ideal) s d acc) (ix2 r j) = acc (ix2 r j) * s (ix2 r 0) * d (ix1 j) := by
  pointwise [k0_pay62, k0_pay1]

/-- The padded codes: rows sixteen to thirty-one are zero. -/
theorem pay15_apply (X : Vec Ideal S16x2560 .f32) (a k : FVec Ideal S16x1 .f32) (r : Fin 16) (j : Fin 2560) :
    k0_pay15 (F := Ideal) X (k0_pay10 (F := Ideal) a k) (k0_pay11 (F := Ideal) a k) k0_pay12 (ix2 ⟨r, by omega⟩ j)
      = clip (X (ix2 r j)) (kPow (IntOp.subi 0#32 (k0_pay8 (F := Ideal) a k (ix2 r 0)))) := by
  rw [← pay13_apply]
  pointwise [k0_pay15]

theorem pay14_apply (X : Vec Ideal S16x2560 .f32) (a k : FVec Ideal S16x1 .f32) (r : Fin 16) (j : Fin 2560) :
    k0_pay14 (F := Ideal) X (k0_pay10 (F := Ideal) a k) (k0_pay11 (F := Ideal) a k) k0_pay12 (ix2 r j)
      = clip (X (ix2 r j)) (kPow (IntOp.subi 0#32 (k0_pay8 (F := Ideal) a k (ix2 r 0)))) := by
  rw [← pay13_apply]
  pointwise [k0_pay14]

end Cert.Proof.Value

end
-- ==== Proof.Value.Reads.lean ====
/-
  What the kernel's loads read, in terms of the contents of the argument buffers.
-/
module

public import proofs.«01_k».proof.Proof.Value.Pay
public import proofs.«01_k».proof.Proof.RunIdeal.Vals

@[expose] public section

set_option maxRecDepth 16384

noncomputable section

namespace Cert.Proof.Value

open Idealize.ShloMosaic
open Cert.KernelIdeal Cert.KernelIdeal.Gen
open Cert.Proof.RunIdeal

variable (c : Dev nD)

/-- A load through a unit-stride rectangle of a two-axis buffer reads the buffer at the offset place. -/
theorem readAt2 {sig : RefSig} {κ : _} {sp : Space} {e : EltTy} {n m a b : ℕ} (v : View sig κ sp ⟨2, ![n, m]⟩ e) (off : Fin 2 → ℕ)
    (h : ∀ i, off i + (![a, b] : Fin 2 → ℕ) i ≤ (![n, m] : Fin 2 → ℕ) i) (f : v.ty.Contents (Elt Ideal)) (r : Fin a) (l : Fin b) (r' : Fin n) (l' : Fin m)
    (hr : r'.val = off 0 + r.val) (hl : l'.val = off 1 + l.val) :
    v.readAt (Elt Ideal) (Rect.unit (s := ⟨2, ![n, m]⟩) off ![a, b] h).toLoadRect f (ix2 r l) = v.read (Elt Ideal) f (ix2 r' l') := by
  rw [View.readAt_apply]
  refine congrArg _ (funext fun i => Fin.ext ?_)
  fin_cases i
  · simpa [Rect.unit, LoadRect.idx, Rect.toLoadRect] using hr.symm
  · simpa [Rect.unit, LoadRect.idx, Rect.toLoadRect] using hl.symm

/-- The newest store of a list, through a unit-stride rectangle, read at a place it holds. -/
theorem hit2 {sig : RefSig} {κ : _} {sp : Space} {e : EltTy} {n m a b : ℕ} (v : View sig κ sp ⟨2, ![n, m]⟩ e) (off : Fin 2 → ℕ)
    (h : ∀ i, off i + (![a, b] : Fin 2 → ℕ) i ≤ (![n, m] : Fin 2 → ℕ) i) (f : v.ty.Contents (Elt Ideal)) (w : (⟨2, ![a, b]⟩ : Shape).Idx → Elt Ideal e)
    (L : List (View.Piece (Elt Ideal) ⟨2, ![n, m]⟩ e)) (r : Fin a) (l : Fin b) (r' : Fin n) (l' : Fin m)
    (hr : r'.val = off 0 + r.val) (hl : l'.val = off 1 + l.val) :
    v.read (Elt Ideal) (v.writes (Elt Ideal) f (⟨Rect.unit (s := ⟨2, ![n, m]⟩) off ![a, b] h, w⟩ :: L)) (ix2 r' l') = w (ix2 r l) := by
  refine View.read_writes_cons_hit_of_coords v f (Rect.unit (s := ⟨2, ![n, m]⟩) off ![a, b] h) w L (ix2 r l) (ix2 r' l') fun i => ?_
  fin_cases i
  · simpa [Rect.unit] using hr
  · simpa [Rect.unit] using hl

/-- A buffer stored whole reads what was stored. -/
theorem whole_read {sig : RefSig} {κ : _} {sp : Space} {e : EltTy} {s : Shape} (v : View sig κ sp s e) (f : v.ty.Contents (Elt Ideal)) (w : s.Idx → Elt Ideal e)
    (L : List (View.Piece (Elt Ideal) s e)) (y : s.Idx) :
    v.read (Elt Ideal) (v.writes (Elt Ideal) f (⟨Rect.whole s, w⟩ :: L)) y = w y := by
  refine View.read_writes_cons_hit_of_coords v f (Rect.whole s) w L y y fun i => ?_
  simp [Rect.whole]

/-- The input block reads the input. -/
theorem xV_apply (gX : BufAt (F := Ideal) c mX) (r : Fin 16) (l : Fin 2560) :
    xV c gX (ix2 r l) = mX.view.read (Elt Ideal) gX (ix2 r l) := by
  unfold xV
  rw [readAt2 _ _ _ _ r l r l (by simp) (by simp)]
  exact whole_read _ _ _ _ _

/-- The padded codes' buffer reads them. -/
theorem xqV_apply (gX : BufAt (F := Ideal) c mX) (r : Fin 32) (l : Fin 2560) : xqV c (bXq c gX) (ix2 r l) = xqB c gX (ix2 r l) := by
  unfold xqV bXq
  rw [readAt2 _ _ _ _ r l r l (by simp) (by simp)]
  exact hit2 _ _ _ _ _ _ r l r l (by simp) (by simp)

theorem bU_lt (k : Fin k0_t1_loop.trips) : (bU k).val < 10 := (bU k).isLt

theorem shapeCast_block (V : Vec Ideal S1x2560x1024 .fp8e4m3) (h) (x : Fin 2560) (j : Fin 1024) :
    shapeCast S2560x1024 V h (ix2 x j) = V (ix3 0 x j) := by
  pointwise

/-- The three-axis twin of `readAt2`. -/
theorem readAt3 {sig : RefSig} {κ : _} {sp : Space} {e : EltTy} {p n m o a b : ℕ} (v : View sig κ sp ⟨3, ![p, n, m]⟩ e) (off : Fin 3 → ℕ)
    (h : ∀ i, off i + (![o, a, b] : Fin 3 → ℕ) i ≤ (![p, n, m] : Fin 3 → ℕ) i) (f : v.ty.Contents (Elt Ideal)) (q : Fin o) (r : Fin a) (l : Fin b)
    (q' : Fin p) (r' : Fin n) (l' : Fin m)
    (hq : q'.val = off 0 + q.val) (hr : r'.val = off 1 + r.val) (hl : l'.val = off 2 + l.val) :
    v.readAt (Elt Ideal) (Rect.unit (s := ⟨3, ![p, n, m]⟩) off ![o, a, b] h).toLoadRect f (ix3 q r l) = v.read (Elt Ideal) f (ix3 q' r' l') := by
  rw [View.readAt_apply]
  refine congrArg _ (funext fun i => Fin.ext ?_)
  fin_cases i
  · simpa [Rect.unit, LoadRect.idx, Rect.toLoadRect] using hq.symm
  · simpa [Rect.unit, LoadRect.idx, Rect.toLoadRect] using hr.symm
  · simpa [Rect.unit, LoadRect.idx, Rect.toLoadRect] using hl.symm

/-- The slot of a block reads the block's plane of the staging buffer. -/
theorem slotU_read (b : Fin 10) (f : vWu.view.ty.Contents (Elt Ideal)) (x : Fin 2560) (j : Fin 1024) :
    (slotU b).view.read (Elt Ideal) f (ix2 x j) = vWu.view.read (Elt Ideal) f (ix3 b x j) := by
  refine Eq.trans ?_ (readAt3 vWu.view (uSlotOff b) (uSlotOff_inb b) f 0 x j b x j (by simp [uSlotOff]) (by simp [uSlotOff]) (by simp [uSlotOff]))
  exact shapeCast_block (vWu.view.readAt (Elt Ideal) (Rect.unit (s := S10x2560x1024) (uSlotOff b) S1x2560x1024.size (uSlotOff_inb b)).toLoadRect f) _ x j

/-- Trip `k`'s block of the up weight is its columns from `1024 k`. -/
theorem wuV_apply (gU : BufAt (F := Ideal) c mWu) (k : Fin k0_t1_loop.trips) (x : Fin 2560) (j : Fin 1024) (j' : Fin 10240)
    (hj : j'.val = 1024 * (bU k).val + j.val) :
    wuV c gU k (ix3 0 x j) = mWu.view.read (Elt Ideal) gU (ix2 x j') := by
  unfold wuV
  refine (readAt3 vWu.view (k0_off4 k) (k0_off4_inb k) _ 0 x j (bU k) x j ?_ ?_ ?_).trans ?_
  · rw [off4_eq]; simp [uSlotOff]
  · rw [off4_eq]; simp [uSlotOff]
  · rw [off4_eq]; simp [uSlotOff]
  refine (slotU_read (bU k) _ x j).symm.trans ?_
  unfold landedU
  refine (whole_read _ _ _ _ _).trans ?_
  exact readAt2 mWu.view (uColOff (bU k)) (uColOff_inb (bU k)) gU x j x j' (by simp [uColOff]) (by simpa [uColOff] using hj)

/-- The column scales', -/
theorem wusV_apply (gWus : BufAt (F := Ideal) c mWus) (k : Fin k0_t1_loop.trips) (j : Fin 1024) (j' : Fin 10240)
    (hj : j'.val = 1024 * (bU k).val + j.val) :
    wusV c (bWus c gWus) k (ix2 0 j) = mWus.view.read (Elt Ideal) gWus (ix2 0 j') := by
  unfold wusV bWus
  refine (readAt2 _ _ _ _ 0 j 0 j' ?_ ?_).trans (whole_read _ _ _ _ _)
  · rw [off5_eq]; simp [uColOff]
  · rw [off5_eq]; simpa [uColOff] using hj

/-- and the bias's. -/
theorem buV_apply (gBu : BufAt (F := Ideal) c mBu) (k : Fin k0_t1_loop.trips) (j : Fin 1024) (j' : Fin 10240)
    (hj : j'.val = 1024 * (bU k).val + j.val) :
    buV c (bBu c gBu) k (ix2 0 j) = mBu.view.read (Elt Ideal) gBu (ix2 0 j') := by
  unfold buV bBu
  refine (readAt2 _ _ _ _ 0 j 0 j' ?_ ?_).trans (whole_read _ _ _ _ _)
  · rw [off5_eq]; simp [uColOff]
  · rw [off5_eq]; simpa [uColOff] using hj

/-- Trip `k`'s block of the down weight is its rows from `512 k`. -/
theorem wdV_apply (gD : BufAt (F := Ideal) c mWd) (k : Fin k0_t2_loop.trips) (x : Fin 512) (j : Fin 2560) (x' : Fin 10240)
    (hx : x'.val = 512 * (bD k).val + x.val) :
    wdV c gD k (ix2 x j) = mWd.view.read (Elt Ideal) gD (ix2 x' j) := by
  unfold wdV
  refine (readAt2 vWd.view (k0_off10 k) (k0_off10_inb k) _ x j x' j ?_ ?_).trans ?_
  · rw [off10_eq]; simpa [dRowOff] using hx
  · rw [off10_eq]; simp [dRowOff]
  refine (readAt2 vWd.view (dRowOff (bD k)) (dRowOff_inb (bD k)) _ x j x' j (by simpa [dRowOff] using hx) (by simp [dRowOff])).symm.trans ?_
  change (slotD (bD k)).view.read (Elt Ideal) (landedD c gD (bD k) (slotD (bD k)).view.junk) (ix2 x j) = _
  unfold landedD
  refine (whole_read _ _ _ _ _).trans ?_
  exact readAt2 mWd.view (dRowOff (bD k)) (dRowOff_inb (bD k)) gD x j x' j (by simpa [dRowOff] using hx) (by simp [dRowOff])

/-- The down projection's column scales. -/
theorem wdsV_apply (gWds : BufAt (F := Ideal) c mWds) (j : Fin 2560) :
    wdsV c gWds (ix1 j) = mWds.view.read (Elt Ideal) gWds (ix1 j) := by
  unfold wdsV
  rw [View.readAt_apply, whole_read]
  have : (Rect.unit (s := S2560) ![0] S2560.size inb_S2560_S2560_0).toLoadRect.idx (ix1 j) = ix1 j := by
    refine funext fun i => Fin.ext ?_
    fin_cases i
    simp [Rect.unit, LoadRect.idx, Rect.toLoadRect]
  rw [this]

end Cert.Proof.Value

end
-- ==== Proof.Value.Hidden.lean ====
/-
  The up loop: the hidden rows' buffer and the running maximum after it.
-/
module

public import proofs.«01_k».proof.Proof.Value.Reads

@[expose] public section

set_option maxRecDepth 16384

noncomputable section

namespace Cert.Proof.Value

open Idealize.ShloMosaic
open Cert.KernelIdeal Cert.KernelIdeal.Gen
open Cert.Proof.RunIdeal

variable (c : Dev nD) (gX : BufAt (F := Ideal) c mX) (gU : BufAt (F := Ideal) c mWu) (gWus : BufAt (F := Ideal) c mWus) (gBu : BufAt (F := Ideal) c mBu)

/-- The input as a matrix, -/
def mat_x : Mat 16 2560 := mX.view.read (Elt Ideal) gX
/-- the up weight, -/
def mat_u : Mat 2560 10240 := mWu.view.read (Elt Ideal) gU
/-- its column scales, -/
def mat_us : Mat 1 10240 := mWus.view.read (Elt Ideal) gWus
/-- the bias, -/
def mat_b : Mat 1 10240 := mBu.view.read (Elt Ideal) gBu
/-- and the hidden rows. -/
def mat_h : Mat 16 10240 := hidM (mat_x c gX) (mat_u c gU) (mat_us c gWus) (mat_b c gBu)

theorem xV_eq : xV c gX = mat_x c gX := funext fun i => by
  rw [eq_ix2 i]; exact xV_apply c gX _ _

theorem xV5_apply (r : Fin 16) (l : Fin 2560) : k0_pay5 (F := Ideal) (xV c gX) (ix2 r l) = mat_x c gX (ix2 r l) := by
  rw [xV_eq]
  pointwise [k0_pay5]

/-- The input's scales are the reference's. -/
theorem xsC_apply (r : Fin 16) : xsC c gX (ix2 r 0) = scl (amax (mat_x c gX) r) := by
  unfold xsC scl
  rw [pay9_apply, pay8_apply, pay6_apply, xV_eq]

/-- The input's codes, -/
theorem xcB_apply (r : Fin 16) (l : Fin 2560) : xcB c gX (ix2 r l) = codes (mat_x c gX) r l := by
  unfold xcB codes inv
  rw [pay14_apply, pay8_apply, pay6_apply, xV5_apply, xV_eq]

/-- also where they are padded. -/
theorem xqB_apply (r : Fin 16) (l : Fin 2560) : xqB c gX (ix2 ⟨r, by omega⟩ l) = codes (mat_x c gX) r l := by
  unfold xqB codes inv
  rw [pay15_apply, pay8_apply, pay6_apply, xV5_apply, xV_eq]

/-- Block `k` of the hidden rows. -/
theorem blk_apply (k : Fin k0_t1_loop.trips) (r : Fin 16) (j : Fin 1024) (j' : Fin 10240) (hj : j'.val = 1024 * k.val + j.val) :
    k0_pay2 (F := Ideal) (xsC c gX) (xqV c (bXq c gX)) (wuV c gU k) (wusV c (bWus c gWus) k) (buV c (bBu c gBu) k) (ix2 r j)
      = mat_h c gX gU gWus gBu (ix2 r j') := by
  rw [pay2_apply, xsC_apply, wusV_apply c gWus k j j' hj, buV_apply c gBu k j j' hj]
  have e : ∀ x : Fin 2560, xqV c (bXq c gX) (ix2 (⟨r, by omega⟩ : Fin 32) x) * wuV c gU k (ix3 0 x j)
      = codes (mat_x c gX) r x * mat_u c gU (ix2 x j') := by
    intro x
    rw [xqV_apply, xqB_apply, wuV_apply c gU k x j j' hj]
    rfl
  rw [Finset.sum_congr rfl fun x _ => e x]
  rfl

theorem pay3_apply (s : FVec Ideal S16x1 .f32) (q : Vec Ideal S32x2560 .fp8e4m3) (w : Vec Ideal S1x2560x1024 .fp8e4m3)
    (us b : Vec Ideal S1x1024 .f32) (r : Fin 16) (j : Fin 1024) :
    k0_pay3 (F := Ideal) s q w us b (ix2 r j) = k0_pay2 (F := Ideal) s q w us b (ix2 r j) := by
  pointwise [k0_pay3]

/-- After `k` trips the first `1024 k` columns hold the hidden rows. -/
theorem hAcc_read (fH : BufAt (F := Ideal) c vH) (k : ℕ) (hk : k ≤ 10) (r : Fin 16) (j : Fin 10240) (hj : j.val < 1024 * k) :
    vH.view.read (Elt Ideal) (hAcc c gU (xsC c gX) (bXq c gX) (bWus c gWus) (bBu c gBu) fH k) (ix2 r j) = mat_h c gX gU gWus gBu (ix2 r j) := by
  induction k with
  | zero => omega
  | succ k ih =>
    have ht : k < k0_t1_loop.trips := by rw [trips1]; omega
    rw [hAcc, dif_pos ht]
    by_cases h : j.val < 1024 * k
    · rw [View.read_writes_cons_miss_of_axis _ _ _ _ _ (1 : Fin 2) (1024 * k) 1024 ?_ rfl rfl (Or.inl h)]
      · exact ih (by omega) h
      · show k0_off6 ⟨k, ht⟩ 1 = _
        rw [off6_eq]; rfl
    · have hl : j.val - 1024 * k < 1024 := by omega
      refine (hit2 vH.view (k0_off6 ⟨k, ht⟩) (k0_off6_inb ⟨k, ht⟩) _ _ [] r ⟨j.val - 1024 * k, hl⟩ r j ?_ ?_).trans ?_
      · rw [off6_eq]; simp [uColOff]
      · rw [off6_eq]; simp [uColOff]; omega
      · unfold hBlk
        rw [pay3_apply]
        exact blk_apply c gX gU gWus gBu ⟨k, ht⟩ r _ j (by simp; omega)

/-- The hidden rows' buffer after the loop. -/
theorem bH_read (fH : BufAt (F := Ideal) c vH) (r : Fin 16) (j : Fin 10240) :
    vH.view.read (Elt Ideal) (bH c gX gU gWus gBu fH) (ix2 r j) = mat_h c gX gU gWus gBu (ix2 r j) := by
  unfold bH
  exact hAcc_read c gX gU gWus gBu fH _ (by rw [trips1]) r j (by rw [trips1]; omega)

theorem pay17_apply (r : Fin 16) (l : Fin 128) : k0_pay17 (F := Ideal) (ix2 r l) = 0 := by
  pointwise [k0_pay17]

/-- Lane `l` of the running maximum after `k` trips: the least bound of zero and of the first `1024 k` columns congruent to `l`. -/
theorem mAcc_le (k : ℕ) (hk : k ≤ 10) (r : Fin 16) (l : Fin 128) (b : EReal) :
    (mAcc c gU (xsC c gX) (bXq c gX) (bWus c gWus) (bBu c gBu) k (ix2 r l) : EReal) ≤ b
      ↔ 0 ≤ b ∧ ∀ j : Fin 10240, j.val < 1024 * k → j.val % 128 = l.val → mat_h c gX gU gWus gBu (ix2 r j) ≤ b := by
  induction k with
  | zero =>
    rw [mAcc, pay17_apply]
    exact ⟨fun h => ⟨h, fun j hj => by omega⟩, fun h => h.1⟩
  | succ k ih =>
    have ht : k < k0_t1_loop.trips := by rw [trips1]; omega
    rw [mAcc, dif_pos ht]
    unfold maxNext
    rw [pay18_apply, max_le_iff, ih (by omega), Finset.sup_le_iff, and_assoc]
    refine and_congr_right fun _ => ⟨fun ⟨h1, h2⟩ j hj hl => ?_, fun h => ⟨fun j hj hl => h j (by omega) hl, fun t _ => ?_⟩⟩
    · by_cases hlt : j.val < 1024 * k
      · exact h1 j hlt hl
      · have h3 := h2 (⟨(j.val - 1024 * k) / 128, by omega⟩ : Fin 8) (Finset.mem_univ _)
        rw [blk_apply c gX gU gWus gBu ⟨k, ht⟩ r _ j (by simp; omega)] at h3
        exact h3
    · have hb : 1024 * k + (128 * t.val + l.val) < 10240 := by omega
      rw [blk_apply c gX gU gWus gBu ⟨k, ht⟩ r _ ⟨1024 * k + (128 * t.val + l.val), hb⟩ rfl]
      exact h _ (by simp; omega) (by simp; omega)

/-- The greatest of the lanes' maxima is the row's greatest magnitude. -/
theorem mxV_sup (r : Fin 16) : (Finset.univ.sup fun l : Fin 128 => (mxV c gX gU gWus gBu (ix2 r l) : EReal)) = amax (mat_h c gX gU gWus gBu) r := by
  unfold mat_h
  rw [amax_hid]
  refine eq_of_forall_ge_iff fun b => ?_
  rw [Finset.sup_le_iff, Finset.sup_le_iff]
  unfold mxV
  constructor
  · intro h j _
    exact ((mAcc_le c gX gU gWus gBu _ (by rw [trips1]) r ⟨j.val % 128, by omega⟩ b).mp (h _ (Finset.mem_univ _))).2 j (by rw [trips1]; omega) rfl
  · intro h l _
    refine (mAcc_le c gX gU gWus gBu _ (by rw [trips1]) r l b).mpr ⟨(hid_nonneg _ _ _ _ r 0).trans (h 0 (Finset.mem_univ _)), fun j _ _ => h j (Finset.mem_univ _)⟩

/-- The hidden rows' exponents, -/
theorem exp_h (r : Fin 16) : k0_pay19 (F := Ideal) (mxV c gX gU gWus gBu) (ix2 r 0) = kExp (amax (mat_h c gX gU gWus gBu) r) := by
  rw [pay19_apply, mxV_sup]

/-- their scales, -/
theorem hsC_apply (r : Fin 16) : hsC c gX gU gWus gBu (ix2 r 0) = scl (amax (mat_h c gX gU gWus gBu) r) := by
  unfold hsC scl
  rw [pay23_apply, exp_h]

/-- the scales' inverses, -/
theorem hiC_apply (r : Fin 16) : hiC c gX gU gWus gBu (ix2 r 0) = inv (amax (mat_h c gX gU gWus gBu) r) := by
  unfold hiC inv
  rw [pay24_apply, exp_h]

/-- and the scales as a row. -/
theorem hsR_apply (r : Fin 16) : hsR c gX gU gWus gBu (ix2 0 r) = scl (amax (mat_h c gX gU gWus gBu) r) := by
  unfold hsR scl
  rw [pay25_apply, exp_h]

/-- A column block of the hidden rows. -/
theorem hL_apply (fH : BufAt (F := Ideal) c vH) (o : ℕ) (h) (r : Fin 16) (j : Fin 1024) (j' : Fin 10240) (hj : j'.val = o + j.val) :
    hL c gX gU gWus gBu fH ![0, o] h (ix2 r j) = mat_h c gX gU gWus gBu (ix2 r j') := by
  unfold hL
  exact (readAt2 vH.view ![0, o] h _ r j r j' (by simp) (by simpa using hj)).trans (bH_read c gX gU gWus gBu fH r j')

end Cert.Proof.Value

end
-- ==== Proof.Value.Blocks.lean ====
/-
  One block of the hidden codes, entry by entry: each block's stored codes are the hidden entries quantised, and the
  padded blocks carry them over sixteen rows of zeros.
-/
module

public import proofs.«01_k».proof.Proof.Value.Spec
public import proofs.«01_k».proof.Proof.Gen.KernelIdeal.Skeleton

@[expose] public section

set_option maxRecDepth 16384

noncomputable section

namespace Cert.Proof.Value

open Idealize.ShloMosaic
open Cert.KernelIdeal Cert.KernelIdeal.Gen

theorem code31 (i : FVec Ideal S16x1 .f32) (h : Vec Ideal S16x1024 .f32) (r : Fin 16) (j : Fin 1024) :
    k0_pay31 (F := Ideal) i h (ix2 r j) = clip (h (ix2 r j)) (i (ix2 r 0)) := by
  pointwise [k0_pay31, k0_pay30]
  rfl

theorem code34 (i : FVec Ideal S16x1 .f32) (h : Vec Ideal S16x1024 .f32) (r : Fin 16) (j : Fin 1024) :
    k0_pay34 (F := Ideal) i h (ix2 r j) = clip (h (ix2 r j)) (i (ix2 r 0)) := by
  pointwise [k0_pay34, k0_pay33]
  rfl

theorem code38 (i : FVec Ideal S16x1 .f32) (h : Vec Ideal S16x1024 .f32) (r : Fin 16) (j : Fin 1024) :
    k0_pay38 (F := Ideal) i h (ix2 r j) = clip (h (ix2 r j)) (i (ix2 r 0)) := by
  pointwise [k0_pay38, k0_pay37]
  rfl

theorem code41 (i : FVec Ideal S16x1 .f32) (h : Vec Ideal S16x1024 .f32) (r : Fin 16) (j : Fin 1024) :
    k0_pay41 (F := Ideal) i h (ix2 r j) = clip (h (ix2 r j)) (i (ix2 r 0)) := by
  pointwise [k0_pay41, k0_pay40]
  rfl

theorem code45 (i : FVec Ideal S16x1 .f32) (h : Vec Ideal S16x1024 .f32) (r : Fin 16) (j : Fin 1024) :
    k0_pay45 (F := Ideal) i h (ix2 r j) = clip (h (ix2 r j)) (i (ix2 r 0)) := by
  pointwise [k0_pay45, k0_pay44]
  rfl

theorem code48 (i : FVec Ideal S16x1 .f32) (h : Vec Ideal S16x1024 .f32) (r : Fin 16) (j : Fin 1024) :
    k0_pay48 (F := Ideal) i h (ix2 r j) = clip (h (ix2 r j)) (i (ix2 r 0)) := by
  pointwise [k0_pay48, k0_pay47]
  rfl

theorem code51 (i : FVec Ideal S16x1 .f32) (h : Vec Ideal S16x1024 .f32) (r : Fin 16) (j : Fin 1024) :
    k0_pay51 (F := Ideal) i h (ix2 r j) = clip (h (ix2 r j)) (i (ix2 r 0)) := by
  pointwise [k0_pay51, k0_pay50]
  rfl

theorem code54 (i : FVec Ideal S16x1 .f32) (h : Vec Ideal S16x1024 .f32) (r : Fin 16) (j : Fin 1024) :
    k0_pay54 (F := Ideal) i h (ix2 r j) = clip (h (ix2 r j)) (i (ix2 r 0)) := by
  pointwise [k0_pay54, k0_pay53]
  rfl

theorem code28 (e : IVec S16x1 32) (h : Vec Ideal S16x1024 .f32) (r : Fin 16) (j : Fin 1024) :
    k0_pay28 (F := Ideal) (k0_pay27 e h) (ix2 r j) = clip (h (ix2 r j)) (kPow (IntOp.subi 0#32 (e (ix2 r 0)))) := by
  pointwise [k0_pay28, k0_pay27, k0_pay26]
  rfl

theorem code58 (i : FVec Ideal S16x1 .f32) (h : Vec Ideal S16x1024 .f32) (r : Fin 16) (j : Fin 1024) :
    k0_pay58 (F := Ideal) h (k0_pay56 i) (ix2 r j) = clip (h (ix2 r j)) (i (ix2 r 0)) := by
  pointwise [k0_pay58, k0_pay57, k0_pay56]
  rfl

theorem pad32 (i : FVec Ideal S16x1 .f32) (h : Vec Ideal S16x1024 .f32) (r : Fin 32) (j : Fin 1024) :
    k0_pay32 (F := Ideal) i h (ix2 r j) = if hr : r.val < 16 then clip (h (ix2 ⟨r, hr⟩ j)) (i (ix2 ⟨r, hr⟩ 0)) else 0 := by
  pointwise [k0_pay32, k0_pay30]
  rfl

theorem pad39 (i : FVec Ideal S16x1 .f32) (h : Vec Ideal S16x1024 .f32) (r : Fin 32) (j : Fin 1024) :
    k0_pay39 (F := Ideal) i h (ix2 r j) = if hr : r.val < 16 then clip (h (ix2 ⟨r, hr⟩ j)) (i (ix2 ⟨r, hr⟩ 0)) else 0 := by
  pointwise [k0_pay39, k0_pay37]
  rfl

theorem pad46 (i : FVec Ideal S16x1 .f32) (h : Vec Ideal S16x1024 .f32) (r : Fin 32) (j : Fin 1024) :
    k0_pay46 (F := Ideal) i h (ix2 r j) = if hr : r.val < 16 then clip (h (ix2 ⟨r, hr⟩ j)) (i (ix2 ⟨r, hr⟩ 0)) else 0 := by
  pointwise [k0_pay46, k0_pay44]
  rfl

theorem pad49 (i : FVec Ideal S16x1 .f32) (h : Vec Ideal S16x1024 .f32) (r : Fin 32) (j : Fin 1024) :
    k0_pay49 (F := Ideal) i h (ix2 r j) = if hr : r.val < 16 then clip (h (ix2 ⟨r, hr⟩ j)) (i (ix2 ⟨r, hr⟩ 0)) else 0 := by
  pointwise [k0_pay49, k0_pay47]
  rfl

theorem pad52 (i : FVec Ideal S16x1 .f32) (h : Vec Ideal S16x1024 .f32) (r : Fin 32) (j : Fin 1024) :
    k0_pay52 (F := Ideal) i h (ix2 r j) = if hr : r.val < 16 then clip (h (ix2 ⟨r, hr⟩ j)) (i (ix2 ⟨r, hr⟩ 0)) else 0 := by
  pointwise [k0_pay52, k0_pay50]
  rfl

theorem pad55 (i : FVec Ideal S16x1 .f32) (h : Vec Ideal S16x1024 .f32) (r : Fin 32) (j : Fin 1024) :
    k0_pay55 (F := Ideal) i h (ix2 r j) = if hr : r.val < 16 then clip (h (ix2 ⟨r, hr⟩ j)) (i (ix2 ⟨r, hr⟩ 0)) else 0 := by
  pointwise [k0_pay55, k0_pay53]
  rfl

theorem pad29 (e : IVec S16x1 32) (h : Vec Ideal S16x1024 .f32) (r : Fin 32) (j : Fin 1024) :
    k0_pay29 (F := Ideal) (k0_pay26 e h) (ix2 r j) = if hr : r.val < 16 then clip (h (ix2 ⟨r, hr⟩ j)) (kPow (IntOp.subi 0#32 (e (ix2 ⟨r, hr⟩ 0)))) else 0 := by
  pointwise [k0_pay29, k0_pay26]
  rfl

theorem pad36 (i : FVec Ideal S16x1 .f32) (h : Vec Ideal S16x1024 .f32) (r : Fin 32) (j : Fin 1024) :
    k0_pay36 (F := Ideal) (k0_pay33 i h) (k0_pay35 (F := Ideal)) (ix2 r j) = if hr : r.val < 16 then clip (h (ix2 ⟨r, hr⟩ j)) (i (ix2 ⟨r, hr⟩ 0)) else 0 := by
  pointwise [k0_pay36, k0_pay35, k0_pay33]
  rfl

theorem pad43 (i : FVec Ideal S16x1 .f32) (h : Vec Ideal S16x1024 .f32) (r : Fin 32) (j : Fin 1024) :
    k0_pay43 (F := Ideal) (k0_pay42 i h) (ix2 r j) = if hr : r.val < 16 then clip (h (ix2 ⟨r, hr⟩ j)) (i (ix2 ⟨r, hr⟩ 0)) else 0 := by
  pointwise [k0_pay43, k0_pay42, k0_pay40]
  rfl

theorem pad59 (i : FVec Ideal S16x1 .f32) (h : Vec Ideal S16x1024 .f32) (r : Fin 32) (j : Fin 1024) :
    k0_pay59 (F := Ideal) h (k0_pay56 i) (ix2 r j) = if hr : r.val < 16 then clip (h (ix2 ⟨r, hr⟩ j)) (i (ix2 ⟨r, hr⟩ 0)) else 0 := by
  pointwise [k0_pay59, k0_pay57, k0_pay56]
  rfl

end Cert.Proof.Value

end
-- ==== Proof.Value.Down.lean ====
/-
  The hidden codes in their two buffers, the down loop, and the output.
-/
module

public import proofs.«01_k».proof.Proof.Value.Hidden
public import proofs.«01_k».proof.Proof.Value.Blocks

@[expose] public section

set_option maxRecDepth 16384

noncomputable section

namespace Cert.Proof.Value

open Idealize.ShloMosaic
open Cert.KernelIdeal Cert.KernelIdeal.Gen
open Cert.Proof.RunIdeal

/-- A matrix's codes as a matrix, -/
def codesM (H : Mat 16 10240) : Mat 16 10240 := fun i => codes H (i 0) (i 1)
/-- and over sixteen rows of zeros. -/
def padsM (H : Mat 16 10240) : Mat 32 10240 := fun i => if h : (i 0).val < 16 then codes H ⟨(i 0).val, h⟩ (i 1) else 0

theorem emb_codes (H : Mat 16 10240) (o : ℕ) (h : ∀ a, (![0, o] : Fin 2 → ℕ) a + S16x1024.size a ≤ S16x10240.size a) (r : Fin 16) (j : Fin 1024) (hj : o + j.val < 10240) :
    clip (H (ix2 r ⟨o + j.val, hj⟩)) (inv (amax H r)) = codesM H ((Rect.unit (s := S16x10240) ![0, o] S16x1024.size h).emb (ix2 r j)) := by
  have e : (Rect.unit (s := S16x10240) ![0, o] S16x1024.size h).emb (ix2 r j) = ix2 r ⟨o + j.val, hj⟩ := by
    refine Rect.emb_eq_of_coords _ _ _ fun a => ?_
    fin_cases a
    · simp [Rect.unit]
    · simp [Rect.unit]
  rw [e]; rfl

theorem emb_pads (H : Mat 16 10240) (o : ℕ) (h : ∀ a, (![0, o] : Fin 2 → ℕ) a + S32x1024.size a ≤ S32x10240.size a) (r : Fin 32) (j : Fin 1024) (hj : o + j.val < 10240) :
    (if hr : r.val < 16 then codes H ⟨r, hr⟩ ⟨o + j.val, hj⟩ else 0) = padsM H ((Rect.unit (s := S32x10240) ![0, o] S32x1024.size h).emb (ix2 r j)) := by
  have e : (Rect.unit (s := S32x10240) ![0, o] S32x1024.size h).emb (ix2 r j) = ix2 r ⟨o + j.val, hj⟩ := by
    refine Rect.emb_eq_of_coords _ _ _ fun a => ?_
    fin_cases a
    · simp [Rect.unit]
    · simp [Rect.unit]
  rw [e]; rfl

variable (c : Dev nD) (gX : BufAt (F := Ideal) c mX) (gU : BufAt (F := Ideal) c mWu) (gWus : BufAt (F := Ideal) c mWus) (gBu : BufAt (F := Ideal) c mBu)
  (gD : BufAt (F := Ideal) c mWd) (gWds : BufAt (F := Ideal) c mWds) (fH : BufAt (F := Ideal) c vH)

/-- Every stored block of the codes carries the hidden rows' codes at its place, -/
theorem hcP_pieces : ∀ p ∈ hcP c gX gU gWus gBu fH, ∀ x : p.1.shape.Idx, p.2 x = codesM (mat_h c gX gU gWus gBu) (p.1.emb x) := by
  unfold hcP
  simp only [List.forall_mem_cons, List.not_mem_nil, false_implies, implies_true, and_true]
  refine ⟨?_, ?_, ?_, ?_, ?_, ?_, ?_, ?_, ?_, ?_⟩
  · intro x
    obtain ⟨r, j, rfl⟩ : ∃ (r : Fin 16) (j : Fin 1024), x = ix2 r j := ⟨x 0, x 1, eq_ix2 x⟩
    exact (code58 _ _ r j).trans (by rw [hL_apply c gX gU gWus gBu fH 9216 _ r j ⟨9216 + j.val, by omega⟩ rfl, hiC_apply]; exact emb_codes _ 9216 inb_S16x10240_S16x1024_0_9216 r j _)
  · intro x
    obtain ⟨r, j, rfl⟩ : ∃ (r : Fin 16) (j : Fin 1024), x = ix2 r j := ⟨x 0, x 1, eq_ix2 x⟩
    exact (code54 _ _ r j).trans (by rw [hL_apply c gX gU gWus gBu fH 8192 _ r j ⟨8192 + j.val, by omega⟩ rfl, hiC_apply]; exact emb_codes _ 8192 inb_S16x10240_S16x1024_0_8192 r j _)
  · intro x
    obtain ⟨r, j, rfl⟩ : ∃ (r : Fin 16) (j : Fin 1024), x = ix2 r j := ⟨x 0, x 1, eq_ix2 x⟩
    exact (code51 _ _ r j).trans (by rw [hL_apply c gX gU gWus gBu fH 7168 _ r j ⟨7168 + j.val, by omega⟩ rfl, hiC_apply]; exact emb_codes _ 7168 inb_S16x10240_S16x1024_0_7168 r j _)
  · intro x
    obtain ⟨r, j, rfl⟩ : ∃ (r : Fin 16) (j : Fin 1024), x = ix2 r j := ⟨x 0, x 1, eq_ix2 x⟩
    exact (code48 _ _ r j).trans (by rw [hL_apply c gX gU gWus gBu fH 6144 _ r j ⟨6144 + j.val, by omega⟩ rfl, hiC_apply]; exact emb_codes _ 6144 inb_S16x10240_S16x1024_0_6144 r j _)
  · intro x
    obtain ⟨r, j, rfl⟩ : ∃ (r : Fin 16) (j : Fin 1024), x = ix2 r j := ⟨x 0, x 1, eq_ix2 x⟩
    exact (code45 _ _ r j).trans (by rw [hL_apply c gX gU gWus gBu fH 5120 _ r j ⟨5120 + j.val, by omega⟩ rfl, hiC_apply]; exact emb_codes _ 5120 inb_S16x10240_S16x1024_0_5120 r j _)
  · intro x
    obtain ⟨r, j, rfl⟩ : ∃ (r : Fin 16) (j : Fin 1024), x = ix2 r j := ⟨x 0, x 1, eq_ix2 x⟩
    exact (code41 _ _ r j).trans (by rw [hL_apply c gX gU gWus gBu fH 4096 _ r j ⟨4096 + j.val, by omega⟩ rfl, hiC_apply]; exact emb_codes _ 4096 inb_S16x10240_S16x1024_0_4096 r j _)
  · intro x
    obtain ⟨r, j, rfl⟩ : ∃ (r : Fin 16) (j : Fin 1024), x = ix2 r j := ⟨x 0, x 1, eq_ix2 x⟩
    exact (code38 _ _ r j).trans (by rw [hL_apply c gX gU gWus gBu fH 3072 _ r j ⟨3072 + j.val, by omega⟩ rfl, hiC_apply]; exact emb_codes _ 3072 inb_S16x10240_S16x1024_0_3072 r j _)
  · intro x
    obtain ⟨r, j, rfl⟩ : ∃ (r : Fin 16) (j : Fin 1024), x = ix2 r j := ⟨x 0, x 1, eq_ix2 x⟩
    exact (code34 _ _ r j).trans (by rw [hL_apply c gX gU gWus gBu fH 2048 _ r j ⟨2048 + j.val, by omega⟩ rfl, hiC_apply]; exact emb_codes _ 2048 inb_S16x10240_S16x1024_0_2048 r j _)
  · intro x
    obtain ⟨r, j, rfl⟩ : ∃ (r : Fin 16) (j : Fin 1024), x = ix2 r j := ⟨x 0, x 1, eq_ix2 x⟩
    exact (code31 _ _ r j).trans (by rw [hL_apply c gX gU gWus gBu fH 1024 _ r j ⟨1024 + j.val, by omega⟩ rfl, hiC_apply]; exact emb_codes _ 1024 inb_S16x10240_S16x1024_0_1024 r j _)
  · intro x
    obtain ⟨r, j, rfl⟩ : ∃ (r : Fin 16) (j : Fin 1024), x = ix2 r j := ⟨x 0, x 1, eq_ix2 x⟩
    exact (code28 _ _ r j).trans (by rw [hL_apply c gX gU gWus gBu fH 0 _ r j ⟨0 + j.val, by omega⟩ rfl, exp_h]; exact emb_codes _ 0 inb_S16x10240_S16x1024_0_0 r j _)

/-- and every padded block over zeros. -/
theorem hqP_pieces : ∀ p ∈ hqP c gX gU gWus gBu fH, ∀ x : p.1.shape.Idx, p.2 x = padsM (mat_h c gX gU gWus gBu) (p.1.emb x) := by
  unfold hqP
  simp only [List.forall_mem_cons, List.not_mem_nil, false_implies, implies_true, and_true]
  refine ⟨?_, ?_, ?_, ?_, ?_, ?_, ?_, ?_, ?_, ?_⟩
  · intro x
    obtain ⟨r, j, rfl⟩ : ∃ (r : Fin 32) (j : Fin 1024), x = ix2 r j := ⟨x 0, x 1, eq_ix2 x⟩
    refine (pad59 _ _ r j).trans (Eq.trans ?_ (emb_pads _ 9216 inb_S32x10240_S32x1024_0_9216 r j (by omega)))
    exact dite_congr rfl (fun hr => by rw [hL_apply c gX gU gWus gBu fH 9216 _ ⟨r, hr⟩ j ⟨9216 + j.val, by omega⟩ rfl, hiC_apply]; rfl) fun _ => rfl
  · intro x
    obtain ⟨r, j, rfl⟩ : ∃ (r : Fin 32) (j : Fin 1024), x = ix2 r j := ⟨x 0, x 1, eq_ix2 x⟩
    refine (pad55 _ _ r j).trans (Eq.trans ?_ (emb_pads _ 8192 inb_S32x10240_S32x1024_0_8192 r j (by omega)))
    exact dite_congr rfl (fun hr => by rw [hL_apply c gX gU gWus gBu fH 8192 _ ⟨r, hr⟩ j ⟨8192 + j.val, by omega⟩ rfl, hiC_apply]; rfl) fun _ => rfl
  · intro x
    obtain ⟨r, j, rfl⟩ : ∃ (r : Fin 32) (j : Fin 1024), x = ix2 r j := ⟨x 0, x 1, eq_ix2 x⟩
    refine (pad52 _ _ r j).trans (Eq.trans ?_ (emb_pads _ 7168 inb_S32x10240_S32x1024_0_7168 r j (by omega)))
    exact dite_congr rfl (fun hr => by rw [hL_apply c gX gU gWus gBu fH 7168 _ ⟨r, hr⟩ j ⟨7168 + j.val, by omega⟩ rfl, hiC_apply]; rfl) fun _ => rfl
  · intro x
    obtain ⟨r, j, rfl⟩ : ∃ (r : Fin 32) (j : Fin 1024), x = ix2 r j := ⟨x 0, x 1, eq_ix2 x⟩
    refine (pad49 _ _ r j).trans (Eq.trans ?_ (emb_pads _ 6144 inb_S32x10240_S32x1024_0_6144 r j (by omega)))
    exact dite_congr rfl (fun hr => by rw [hL_apply c gX gU gWus gBu fH 6144 _ ⟨r, hr⟩ j ⟨6144 + j.val, by omega⟩ rfl, hiC_apply]; rfl) fun _ => rfl
  · intro x
    obtain ⟨r, j, rfl⟩ : ∃ (r : Fin 32) (j : Fin 1024), x = ix2 r j := ⟨x 0, x 1, eq_ix2 x⟩
    refine (pad46 _ _ r j).trans (Eq.trans ?_ (emb_pads _ 5120 inb_S32x10240_S32x1024_0_5120 r j (by omega)))
    exact dite_congr rfl (fun hr => by rw [hL_apply c gX gU gWus gBu fH 5120 _ ⟨r, hr⟩ j ⟨5120 + j.val, by omega⟩ rfl, hiC_apply]; rfl) fun _ => rfl
  · intro x
    obtain ⟨r, j, rfl⟩ : ∃ (r : Fin 32) (j : Fin 1024), x = ix2 r j := ⟨x 0, x 1, eq_ix2 x⟩
    refine (pad43 _ _ r j).trans (Eq.trans ?_ (emb_pads _ 4096 inb_S32x10240_S32x1024_0_4096 r j (by omega)))
    exact dite_congr rfl (fun hr => by rw [hL_apply c gX gU gWus gBu fH 4096 _ ⟨r, hr⟩ j ⟨4096 + j.val, by omega⟩ rfl, hiC_apply]; rfl) fun _ => rfl
  · intro x
    obtain ⟨r, j, rfl⟩ : ∃ (r : Fin 32) (j : Fin 1024), x = ix2 r j := ⟨x 0, x 1, eq_ix2 x⟩
    refine (pad39 _ _ r j).trans (Eq.trans ?_ (emb_pads _ 3072 inb_S32x10240_S32x1024_0_3072 r j (by omega)))
    exact dite_congr rfl (fun hr => by rw [hL_apply c gX gU gWus gBu fH 3072 _ ⟨r, hr⟩ j ⟨3072 + j.val, by omega⟩ rfl, hiC_apply]; rfl) fun _ => rfl
  · intro x
    obtain ⟨r, j, rfl⟩ : ∃ (r : Fin 32) (j : Fin 1024), x = ix2 r j := ⟨x 0, x 1, eq_ix2 x⟩
    refine (pad36 _ _ r j).trans (Eq.trans ?_ (emb_pads _ 2048 inb_S32x10240_S32x1024_0_2048 r j (by omega)))
    exact dite_congr rfl (fun hr => by rw [hL_apply c gX gU gWus gBu fH 2048 _ ⟨r, hr⟩ j ⟨2048 + j.val, by omega⟩ rfl, hiC_apply]; rfl) fun _ => rfl
  · intro x
    obtain ⟨r, j, rfl⟩ : ∃ (r : Fin 32) (j : Fin 1024), x = ix2 r j := ⟨x 0, x 1, eq_ix2 x⟩
    refine (pad32 _ _ r j).trans (Eq.trans ?_ (emb_pads _ 1024 inb_S32x10240_S32x1024_0_1024 r j (by omega)))
    exact dite_congr rfl (fun hr => by rw [hL_apply c gX gU gWus gBu fH 1024 _ ⟨r, hr⟩ j ⟨1024 + j.val, by omega⟩ rfl, hiC_apply]; rfl) fun _ => rfl
  · intro x
    obtain ⟨r, j, rfl⟩ : ∃ (r : Fin 32) (j : Fin 1024), x = ix2 r j := ⟨x 0, x 1, eq_ix2 x⟩
    refine (pad29 _ _ r j).trans (Eq.trans ?_ (emb_pads _ 0 inb_S32x10240_S32x1024_0_0 r j (by omega)))
    exact dite_congr rfl (fun hr => by rw [hL_apply c gX gU gWus gBu fH 0 _ ⟨r, hr⟩ j ⟨0 + j.val, by omega⟩ rfl, exp_h]; rfl) fun _ => rfl

/-- The codes' buffer holds them, whatever it held before, -/
theorem hc_read {κ : _} {sp : Space} (v : View sig κ sp S16x10240 .fp8e4m3) (f : v.ty.Contents (Elt Ideal)) (y : S16x10240.Idx) :
    v.read (Elt Ideal) (v.writes (Elt Ideal) f (hcP c gX gU gWus gBu fH)) y = codesM (mat_h c gX gU gWus gBu) y :=
  View.read_writes_apply_of_pieces v f _ _ (hcP_pieces c gX gU gWus gBu fH) y (View.cover_of_tiled (s := S16x10240) (hcP c gX gU gWus gBu fH) S16x1024.size rfl y)

/-- and so does the padded one. -/
theorem bHq_read (y : S32x10240.Idx) : vHq.view.read (Elt Ideal) (bHq c gX gU gWus gBu fH) y = padsM (mat_h c gX gU gWus gBu) y :=
  View.read_writes_apply_of_pieces vHq.view vHq.view.junk _ _ (hqP_pieces c gX gU gWus gBu fH) y (View.cover_of_tiled (s := S32x10240) (hqP c gX gU gWus gBu fH) S32x1024.size rfl y)

/-- The down weight as a matrix, -/
def mat_d : Mat 10240 2560 := mWd.view.read (Elt Ideal) gD
/-- its column scales, -/
def vec_ds : Fin 2560 → EReal := fun j => mWds.view.read (Elt Ideal) gWds (ix1 j)

/-- and the terms of the contraction, by position. -/
def term (r : Fin 16) (j : Fin 2560) (n : ℕ) : EReal :=
  if h : n < 10240 then codes (mat_h c gX gU gWus gBu) r ⟨n, h⟩ * mat_d c gD (ix2 ⟨n, h⟩ j) else 0

/-- A column block of the padded codes, one of its first sixteen rows. -/
theorem hqV_apply (k : Fin k0_t2_loop.trips) (r : Fin 16) (x : Fin 512) (x' : Fin 10240) (hx : x'.val = 512 * k.val + x.val) :
    hqV c (bHq c gX gU gWus gBu fH) k (ix2 (⟨r, by omega⟩ : Fin 32) x) = codes (mat_h c gX gU gWus gBu) r x' := by
  unfold hqV
  refine (readAt2 vHq.view (k0_off9 k) (k0_off9_inb k) _ (⟨r, by omega⟩ : Fin 32) x (⟨r, by omega⟩ : Fin 32) x' ?_ ?_).trans ?_
  · rw [off9_eq]; simp
  · rw [off9_eq]; simpa using hx
  rw [bHq_read]
  exact dif_pos r.isLt

/-- One step's terms. -/
theorem step_terms (k : Fin k0_t2_loop.trips) (r : Fin 16) (j : Fin 2560) :
    (∑ x : Fin 512, (hqV c (bHq c gX gU gWus gBu fH) k (ix2 (⟨r, by omega⟩ : Fin 32) x) * wdV c gD k (ix2 x j) : EReal))
      = ∑ x ∈ Finset.range 512, term c gX gU gWus gBu gD r j (512 * k.val + x) := by
  rw [Finset.sum_range]
  refine Finset.sum_congr rfl fun x _ => ?_
  have hk : k.val < 20 := Nat.lt_of_lt_of_eq k.isLt trips2
  have hx : 512 * k.val + x.val < 10240 := by omega
  rw [wdV_apply c gD k x j ⟨512 * k.val + x.val, hx⟩ rfl, hqV_apply c gX gU gWus gBu fH k r x ⟨512 * k.val + x.val, hx⟩ rfl]
  unfold term
  rw [dif_pos hx]
  rfl

theorem accV_apply (g : BufAt (F := Ideal) c vAcc) (r : Fin 16) (j : Fin 2560) : accV c g (ix2 r j) = vAcc.view.read (Elt Ideal) g (ix2 r j) := by
  unfold accV
  exact readAt2 vAcc.view _ _ g r j r j (by simp) (by simp)

/-- The accumulator after `k` steps: the first `512 k` terms' sum. -/
theorem dAcc_read (k : ℕ) (hk : k ≤ 20) (r : Fin 16) (j : Fin 2560) :
    vAcc.view.read (Elt Ideal) (dAcc c gD (bHq c gX gU gWus gBu fH) (bAcc0 c) k) (ix2 r j)
      = ∑ x ∈ Finset.range (512 * k), term c gX gU gWus gBu gD r j x := by
  induction k with
  | zero =>
    rw [dAcc]
    unfold bAcc0
    refine (hit2 vAcc.view _ _ _ _ [] r j r j (by simp) (by simp)).trans ?_
    rw [pay60_apply]; simp
  | succ k ih =>
    have ht : k < k0_t2_loop.trips := by rw [trips2]; omega
    rw [dAcc, dif_pos ht]
    unfold accNext
    refine (hit2 vAcc.view _ _ _ _ [] r j r j (by simp) (by simp)).trans ?_
    rw [pay61_apply, accV_apply, ih (by omega), step_terms, Nat.mul_succ, Finset.sum_range_add]

/-- The accumulator after the loop: the whole contraction. -/
theorem acc_apply (r : Fin 16) (j : Fin 2560) :
    accV c (bAcc c gX gU gWus gBu gD fH) (ix2 r j) = ∑ x : Fin 10240, codes (mat_h c gX gU gWus gBu) r x * mat_d c gD (ix2 x j) := by
  rw [accV_apply]
  unfold bAcc
  rw [dAcc_read c gX gU gWus gBu gD fH _ (by rw [trips2]) r j, trips2, Finset.sum_range]
  refine Finset.sum_congr rfl fun x _ => ?_
  exact dif_pos x.isLt

/-- THE OUTPUT. -/
theorem yB_apply (r : Fin 16) (j : Fin 2560) :
    yB c gX gU gWus gBu gD gWds fH (ix2 r j)
      = outp (mat_x c gX) (mat_u c gU) (mat_us c gWus) (mat_b c gBu) (mat_d c gD) (vec_ds c gWds) r j := by
  unfold yB
  rw [pay62_apply, acc_apply, hsC_apply, wdsV_apply]
  rfl

end Cert.Proof.Value

end
-- ==== Proof.Value.KerOut.lean ====
/-
  The kernel's five results, entry by entry.
-/
module

public import proofs.«01_k».proof.Proof.Value.Down

@[expose] public section

set_option maxRecDepth 16384

noncomputable section

namespace Cert.Proof.Value

open Idealize.ShloMosaic
open Cert.KernelIdeal Cert.KernelIdeal.Gen
open Cert.Proof.RunIdeal

variable (c : Dev nD) (gX : BufAt (F := Ideal) c mX) (gU : BufAt (F := Ideal) c mWu) (gWus : BufAt (F := Ideal) c mWus) (gBu : BufAt (F := Ideal) c mBu)
  (gD : BufAt (F := Ideal) c mWd) (gWds : BufAt (F := Ideal) c mWds) (fH : BufAt (F := Ideal) c vH)

/-! A result's buffer read whole is its contents. -/

theorem mY_read (f : BufAt (F := Ideal) c mY) (y : S16x2560.Idx) : mY.view.read (Elt Ideal) f y = f y := rfl
theorem mXc_read (f : BufAt (F := Ideal) c mXc) (y : S16x2560.Idx) : mXc.view.read (Elt Ideal) f y = f y := rfl
theorem mXs_read (f : BufAt (F := Ideal) c mXs) (y : S1x16.Idx) : mXs.view.read (Elt Ideal) f y = f y := rfl
theorem mHc_read (f : BufAt (F := Ideal) c mHc) (y : S16x10240.Idx) : mHc.view.read (Elt Ideal) f y = f y := rfl
theorem mHs_read (f : BufAt (F := Ideal) c mHs) (y : S1x16.Idx) : mHs.view.read (Elt Ideal) f y = f y := rfl

/-- The output, -/
theorem outY_apply (fY : BufAt (F := Ideal) c vY) (oY : BufAt (F := Ideal) c mY) (r : Fin 16) (j : Fin 2560) :
    outY c gX gU gWus gBu gD gWds fH fY oY (ix2 r j)
      = outp (mat_x c gX) (mat_u c gU) (mat_us c gWus) (mat_b c gBu) (mat_d c gD) (vec_ds c gWds) r j := by
  refine (mY_read c _ _).symm.trans ?_
  unfold outY
  refine (whole_read mY.view oY _ [] _).trans ?_
  refine (hit2 vY.view _ _ _ _ [] r j r j (by simp) (by simp)).trans ?_
  exact yB_apply c gX gU gWus gBu gD gWds fH r j

/-- the input's codes, -/
theorem outXc_apply (fXc : BufAt (F := Ideal) c vXc) (oXc : BufAt (F := Ideal) c mXc) (r : Fin 16) (j : Fin 2560) :
    outXc c gX fXc oXc (ix2 r j) = codes (mat_x c gX) r j := by
  refine (mXc_read c _ _).symm.trans ?_
  unfold outXc
  refine (whole_read mXc.view oXc _ [] _).trans ?_
  refine (hit2 vXc.view _ _ _ _ [] r j r j (by simp) (by simp)).trans ?_
  exact xcB_apply c gX r j

/-- the input's scales, -/
theorem outXs_apply (fXs : BufAt (F := Ideal) c vXs) (oXs : BufAt (F := Ideal) c mXs) (r : Fin 16) :
    outXs c gX fXs oXs (ix2 0 r) = scl (amax (mat_x c gX) r) := by
  refine (mXs_read c _ _).symm.trans ?_
  unfold outXs
  refine (whole_read mXs.view oXs _ [] _).trans ?_
  refine (hit2 vXs.view _ _ _ _ [] 0 r 0 r (by simp) (by simp)).trans ?_
  rw [pay16_apply, xsC_apply]

/-- the hidden rows' codes, -/
theorem outHc_apply (fHc : BufAt (F := Ideal) c vHc) (oHc : BufAt (F := Ideal) c mHc) (r : Fin 16) (j : Fin 10240) :
    outHc c gX gU gWus gBu fH fHc oHc (ix2 r j) = codes (mat_h c gX gU gWus gBu) r j := by
  refine (mHc_read c _ _).symm.trans ?_
  unfold outHc
  refine (whole_read mHc.view oHc _ [] _).trans ?_
  exact hc_read c gX gU gWus gBu fH vHc.view fHc (ix2 r j)

/-- and the hidden rows' scales. -/
theorem outHs_apply (fHs : BufAt (F := Ideal) c vHs) (oHs : BufAt (F := Ideal) c mHs) (r : Fin 16) :
    outHs c gX gU gWus gBu fHs oHs (ix2 0 r) = scl (amax (mat_h c gX gU gWus gBu) r) := by
  refine (mHs_read c _ _).symm.trans ?_
  unfold outHs
  refine (whole_read mHs.view oHs _ [] _).trans ?_
  refine (hit2 vHs.view _ _ _ _ [] 0 r 0 r (by simp) (by simp)).trans ?_
  exact hsR_apply c gX gU gWus gBu r

end Cert.Proof.Value

end
-- ==== Proof.Value.RefPay.lean ====
/-
  The reference's values, entry by entry: the same functions of the same matrices.
-/
module

public import proofs.«01_k».proof.Proof.Value.Spec
public import proofs.«01_k».proof.Proof.Gen.ReferenceIdeal.Frame

@[expose] public section

set_option maxRecDepth 16384

noncomputable section

namespace Cert.Proof.Value.Ref

open Idealize.ShloMosaic
open Cert.ReferenceIdeal Cert.ReferenceIdeal.Gen

variable (X : Vec Ideal S16x2560 .bf16)

theorem pay4_apply (r : Fin 16) : k0_pay4 (F := Ideal) X (ix1 r) = rExp (amax X r) := by
  pointwise [k0_pay4, k0_pay3]
  rfl

theorem pay7_apply (r : Fin 16) : k0_pay7 (F := Ideal) (k0_pay4 X) (k0_pay6 X) (ix1 r) = rPow (rExp (amax X r)) := by
  rw [← pay4_apply]
  pointwise [k0_pay7, k0_pay6]
  rfl

theorem pay5_apply (r : Fin 16) (l : Fin 2560) : k0_pay5 (F := Ideal) X (ix2 r l) = clip (X (ix2 r l)) (rPow (0 - rExp (amax X r))) := by
  rw [← pay4_apply]
  pointwise [k0_pay5, k0_pay3]
  rfl

theorem pay1_apply (v : FVec Ideal S16 .f32) (r : Fin 16) : k0_pay1 (F := Ideal) v (ix2 0 r) = v (ix1 r) := by
  pointwise [k0_pay1]

theorem pay2_apply (v : FVec Ideal S16 .f32) (r : Fin 16) : k0_pay2 (F := Ideal) v (ix2 0 r) = v (ix1 r) := by
  pointwise [k0_pay2]

theorem pay8_apply (a : FVec Ideal S16 .f32) (q : FVec Ideal S16x2560 .fp8e4m3) (s : FVec Ideal S16 .f32) (U : Vec Ideal S2560x10240 .fp8e4m3)
    (us b : Vec Ideal S1x10240 .f32) (r : Fin 16) (j : Fin 10240) :
    k0_pay8 (F := Ideal) a q s U us b (ix2 r j)
      = max ((∑ x : Fin 2560, q (ix2 r x) * U (ix2 x j)) * k0_pay7 (F := Ideal) a s (ix1 r) * us (ix2 0 j) + b (ix2 0 j)) 0 := by
  pointwise [k0_pay8]

theorem pay12_apply (a : FVec Ideal S16 .f32) (q : FVec Ideal S16x2560 .fp8e4m3) (s : FVec Ideal S16 .f32) (U : Vec Ideal S2560x10240 .fp8e4m3)
    (us b : Vec Ideal S1x10240 .f32) (r : Fin 16) :
    k0_pay12 (F := Ideal) (k0_pay10 a q s U us b) (k0_pay11 a q s U us b) (ix1 r)
      = rExp (amax (k0_pay8 (F := Ideal) a q s U us b : Mat 16 10240) r) := by
  pointwise [k0_pay12, k0_pay11, k0_pay10, k0_pay9]
  rfl

theorem pay13_apply (H : FVec Ideal S16x10240 .f32) (m : IVec S16 1) (e : FVec Ideal S16 .f32) (r : Fin 16) (j : Fin 10240) :
    k0_pay13 (F := Ideal) H m e (ix2 r j) = clip (H (ix2 r j)) (rPow (0 - k0_pay12 (F := Ideal) m e (ix1 r))) := by
  pointwise [k0_pay13]
  rfl

theorem pay14_apply (m : IVec S16 1) (e : FVec Ideal S16 .f32) (r : Fin 16) :
    k0_pay14 (F := Ideal) m e (ix1 r) = rPow (k0_pay12 (F := Ideal) m e (ix1 r)) := by
  pointwise [k0_pay14]
  rfl

theorem pay15_apply (H : FVec Ideal S16x10240 .f32) (m : IVec S16 1) (e : FVec Ideal S16 .f32) (D : Vec Ideal S10240x2560 .fp8e4m3)
    (ds : Vec Ideal S1x2560 .f32) (r : Fin 16) (j : Fin 2560) :
    k0_pay15 (F := Ideal) H m e D ds (ix2 r j)
      = (∑ x : Fin 10240, k0_pay13 (F := Ideal) H m e (ix2 r x) * D (ix2 x j)) * k0_pay14 (F := Ideal) m e (ix1 r) * ds (ix2 0 j) := by
  pointwise [k0_pay15]

variable (U : Vec Ideal S2560x10240 .fp8e4m3) (us b : Vec Ideal S1x10240 .f32) (D : Vec Ideal S10240x2560 .fp8e4m3) (ds : Vec Ideal S1x2560 .f32)

/-- The input's codes, -/
theorem codes_x (r : Fin 16) (l : Fin 2560) : k0_pay5 (F := Ideal) X (ix2 r l) = codes (X : Mat 16 2560) r l := by
  rw [pay5_apply]
  unfold codes inv
  rw [inv_eq _ (amax_nonneg (by decide) _ r)]

/-- its scales, -/
theorem scl_x (r : Fin 16) : k0_pay7 (F := Ideal) (k0_pay4 X) (k0_pay6 X) (ix1 r) = scl (amax (X : Mat 16 2560) r) := by
  rw [pay7_apply]
  unfold scl
  rw [scale_eq _ (amax_nonneg (by decide) _ r)]

/-- the hidden rows, -/
theorem hid_eq : (k0_pay8 (F := Ideal) (k0_pay4 X) (k0_pay5 X) (k0_pay6 X) U us b : Mat 16 10240) = hidM X U us b := funext fun i => by
  obtain ⟨r, j, rfl⟩ : ∃ (r : Fin 16) (j : Fin 10240), i = ix2 r j := ⟨i 0, i 1, eq_ix2 i⟩
  refine (pay8_apply _ _ _ U us b r j).trans ?_
  rw [scl_x]
  have e : ∀ x : Fin 2560, k0_pay5 (F := Ideal) X (ix2 r x) * U (ix2 x j) = codes (X : Mat 16 2560) r x * U (ix2 x j) :=
    fun x => by rw [← codes_x]
  rw [Finset.sum_congr rfl fun x _ => e x]
  rfl

/-- their codes, -/
theorem codes_h (r : Fin 16) (j : Fin 10240) :
    k0_pay13 (F := Ideal) (k0_pay8 (k0_pay4 X) (k0_pay5 X) (k0_pay6 X) U us b) (k0_pay10 (k0_pay4 X) (k0_pay5 X) (k0_pay6 X) U us b)
        (k0_pay11 (k0_pay4 X) (k0_pay5 X) (k0_pay6 X) U us b) (ix2 r j)
      = codes (hidM X U us b) r j := by
  rw [pay13_apply, pay12_apply, hid_eq]
  unfold codes inv
  rw [inv_eq _ (amax_nonneg (by decide) _ r)]

/-- and their scales, -/
theorem scl_h (r : Fin 16) :
    k0_pay14 (F := Ideal) (k0_pay10 (k0_pay4 X) (k0_pay5 X) (k0_pay6 X) U us b)
        (k0_pay11 (k0_pay4 X) (k0_pay5 X) (k0_pay6 X) U us b) (ix1 r)
      = scl (amax (hidM X U us b) r) := by
  rw [pay14_apply, pay12_apply, hid_eq]
  unfold scl
  rw [scale_eq _ (amax_nonneg (by decide) _ r)]

/-- and the output. -/
theorem out_y (r : Fin 16) (j : Fin 2560) :
    k0_pay15 (F := Ideal) (k0_pay8 (k0_pay4 X) (k0_pay5 X) (k0_pay6 X) U us b) (k0_pay10 (k0_pay4 X) (k0_pay5 X) (k0_pay6 X) U us b)
        (k0_pay11 (k0_pay4 X) (k0_pay5 X) (k0_pay6 X) U us b) D ds (ix2 r j)
      = outp X U us b D (fun j => ds (ix2 0 j)) r j := by
  rw [pay15_apply, scl_h]
  have e : ∀ x : Fin 10240, k0_pay13 (F := Ideal) (k0_pay8 (k0_pay4 X) (k0_pay5 X) (k0_pay6 X) U us b) (k0_pay10 (k0_pay4 X) (k0_pay5 X) (k0_pay6 X) U us b)
      (k0_pay11 (k0_pay4 X) (k0_pay5 X) (k0_pay6 X) U us b) (ix2 r x) * D (ix2 x j) = codes (hidM X U us b) r x * D (ix2 x j) :=
    fun x => by rw [← codes_h]
  rw [Finset.sum_congr rfl fun x _ => e x]
  rfl

end Cert.Proof.Value.Ref

end
-- ==== Proof.RefRun.lean ====
/-
  `ReferenceIdeal`'s run with its result arrays named: what the one grid point writes back, block by block, and the
  arguments kept.
-/
module

public import proofs.«01_k».proof.Proof.Gen.ReferenceIdeal.Frame
public import Idealize.ShloMosaic.Lib.Pipeline.Value

@[expose] public section

noncomputable section

namespace Cert.Proof.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S16x2560.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S16x2560.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S1x16.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S16x10240.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S1x16.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v4_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v4_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v4_4) = (dats m 0 c).arrAt 10 cfg0.N :=
  (h c).1 10

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 6 cfg0.N
      ∧ r.2.mem ((c : Thread nD τ).loc main_v4_1) = (dats m 0 c).arrAt 7 cfg0.N
      ∧ r.2.mem ((c : Thread nD τ).loc main_v4_2) = (dats m 0 c).arrAt 8 cfg0.N
      ∧ r.2.mem ((c : Thread nD τ).loc main_v4_3) = (dats m 0 c).arrAt 9 cfg0.N
      ∧ r.2.mem ((c : Thread nD τ).loc main_v4_4) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      kept_main_arg0 m r h c,
      kept_main_arg1 m r h c,
      kept_main_arg2 m r h c,
      kept_main_arg3 m r h c,
      kept_main_arg4 m r h c,
      kept_main_arg5 m r h c⟩)
    (run_main m ρ)

end Cert.Proof.RefRun

end
-- ==== Proof.Value.RefOut.lean ====
/-
  The reference's five results, entry by entry, from the arrays its one grid point reads.
-/
module

public import proofs.«01_k».proof.Proof.Value.RefPay
public import proofs.«01_k».proof.Proof.RefRun

@[expose] public section

set_option maxRecDepth 16384

noncomputable section

namespace Cert.Proof.Value.Ref

open Idealize.ShloMosaic Idealize.ShloMosaic.TcCoe
open Cert.ReferenceIdeal Cert.ReferenceIdeal.Gen

variable (m : (ℓ : Loc nD τ sig) → Buf (Elt Ideal) ℓ) (c : Dev nD)

/-- The one grid point. -/
abbrev pt : Fin cfg0.N := ⟨0, by decide⟩

/-! ## The one block of an array is the array -/

theorem iblk0 : (iblk m c 0 pt : Vec Ideal S16x2560 _) = V m c main_v0 := funext fun y => by
  unfold iblk
  rw [View.read_apply]
  refine congrArg (V m c main_v0) (funext fun a => Fin.ext ?_)
  change 0 * _ + 1 * (y a).val = (y a).val
  rw [Nat.zero_mul, Nat.zero_add, Nat.one_mul]

theorem iblk1 : (iblk m c 1 pt : Vec Ideal S2560x10240 _) = V m c main_arg1 := funext fun y => by
  unfold iblk
  rw [View.read_apply]
  refine congrArg (V m c main_arg1) (funext fun a => Fin.ext ?_)
  change 0 * _ + 1 * (y a).val = (y a).val
  rw [Nat.zero_mul, Nat.zero_add, Nat.one_mul]

theorem iblk2 : (iblk m c 2 pt : Vec Ideal S1x10240 _) = V m c main_v1 := funext fun y => by
  unfold iblk
  rw [View.read_apply]
  refine congrArg (V m c main_v1) (funext fun a => Fin.ext ?_)
  change 0 * _ + 1 * (y a).val = (y a).val
  rw [Nat.zero_mul, Nat.zero_add, Nat.one_mul]

theorem iblk3 : (iblk m c 3 pt : Vec Ideal S1x10240 _) = V m c main_v2 := funext fun y => by
  unfold iblk
  rw [View.read_apply]
  refine congrArg (V m c main_v2) (funext fun a => Fin.ext ?_)
  change 0 * _ + 1 * (y a).val = (y a).val
  rw [Nat.zero_mul, Nat.zero_add, Nat.one_mul]

theorem iblk4 : (iblk m c 4 pt : Vec Ideal S10240x2560 _) = V m c main_arg4 := funext fun y => by
  unfold iblk
  rw [View.read_apply]
  refine congrArg (V m c main_arg4) (funext fun a => Fin.ext ?_)
  change 0 * _ + 1 * (y a).val = (y a).val
  rw [Nat.zero_mul, Nat.zero_add, Nat.one_mul]

theorem iblk5 : (iblk m c 5 pt : Vec Ideal S1x2560 _) = V m c main_v3 := funext fun y => by
  unfold iblk
  rw [View.read_apply]
  refine congrArg (V m c main_v3) (funext fun a => Fin.ext ?_)
  change 0 * _ + 1 * (y a).val = (y a).val
  rw [Nat.zero_mul, Nat.zero_add, Nat.one_mul]

/-! ## The results -/

/-- A load of a whole two-axis block is the block. -/
theorem ld2 {e : EltTy} {n m : ℕ} (h : ∀ i, (![0, 0] : Fin 2 → ℕ) i + (![n, m] : Fin 2 → ℕ) i ≤ (![n, m] : Fin 2 → ℕ) i)
    (x : (⟨2, ![n, m]⟩ : Shape).Idx → Elt Ideal e) : View.ld x (Rect.unit (s := ⟨2, ![n, m]⟩) ![0, 0] ![n, m] h) = x := funext fun i => by
  refine congrArg x (funext fun a => Fin.ext ?_)
  fin_cases a
  · change 0 + 1 * (i 0).val = (i 0).val
    omega
  · change 0 + 1 * (i 1).val = (i 1).val
    omega

/-- A block stored whole, at an entry. -/
theorem canon2 {e : EltTy} {n m : ℕ} (h : ∀ i, (![0, 0] : Fin 2 → ℕ) i + (![n, m] : Fin 2 → ℕ) i ≤ (![n, m] : Fin 2 → ℕ) i)
    (w : (⟨2, ![n, m]⟩ : Shape).Idx → Elt Ideal e) (y : (⟨2, ![n, m]⟩ : Shape).Idx) :
    View.canon (s := ⟨2, ![n, m]⟩) [⟨Rect.unit (s := ⟨2, ![n, m]⟩) ![0, 0] ![n, m] h, w⟩] y = w y := by
  have e : (Rect.unit (s := ⟨2, ![n, m]⟩) ![0, 0] ![n, m] h).emb y = y := Rect.emb_eq_of_coords _ _ _ fun a => ?_
  · exact (congrArg _ e.symm).trans (View.canon_cons_emb (Rect.unit (s := ⟨2, ![n, m]⟩) ![0, 0] ![n, m] h) w [] y)
  fin_cases a
  · change (y 0).val = 0 + 1 * (y 0).val
    omega
  · change (y 1).val = 0 + 1 * (y 1).val
    omega

theorem blk6_read (f : Buf (Elt Ideal) ((c : Thread nD τ).loc main_v4_0)) (y : S16x2560.Idx) :
    ((cfg0.win 6).blk pt).view.read (Elt Ideal) f y = f y := by
  rw [View.read_apply]
  refine congrArg f (funext fun a => Fin.ext ?_)
  change 0 * _ + 1 * (y a).val = (y a).val
  rw [Nat.zero_mul, Nat.zero_add, Nat.one_mul]

theorem arr6 (y : S16x2560.Idx) : (dats m 0 c).arrAt 6 cfg0.N y
    = out0_6 (V m c main_v0) (V m c main_arg1) (V m c main_v1) (V m c main_v2) (V m c main_arg4) (V m c main_v3) y := by
  have h := congrFun (RefRun.blocks6 m c pt (flush0_6 pt)) y
  rw [RefRun.flushed6, iblk0, iblk1, iblk2, iblk3, iblk4, iblk5] at h
  refine (blk6_read c _ y).symm.trans (h.trans ?_)
  rfl

theorem blk7_read (f : Buf (Elt Ideal) ((c : Thread nD τ).loc main_v4_1)) (y : S16x2560.Idx) :
    ((cfg0.win 7).blk pt).view.read (Elt Ideal) f y = f y := by
  rw [View.read_apply]
  refine congrArg f (funext fun a => Fin.ext ?_)
  change 0 * _ + 1 * (y a).val = (y a).val
  rw [Nat.zero_mul, Nat.zero_add, Nat.one_mul]

theorem arr7 (y : S16x2560.Idx) : (dats m 0 c).arrAt 7 cfg0.N y
    = out0_7 (V m c main_v0) (V m c main_arg1) (V m c main_v1) (V m c main_v2) (V m c main_arg4) (V m c main_v3) y := by
  have h := congrFun (RefRun.blocks7 m c pt (flush0_7 pt)) y
  rw [RefRun.flushed7, iblk0, iblk1, iblk2, iblk3, iblk4, iblk5] at h
  refine (blk7_read c _ y).symm.trans (h.trans ?_)
  rfl

theorem blk8_read (f : Buf (Elt Ideal) ((c : Thread nD τ).loc main_v4_2)) (y : S1x16.Idx) :
    ((cfg0.win 8).blk pt).view.read (Elt Ideal) f y = f y := by
  rw [View.read_apply]
  refine congrArg f (funext fun a => Fin.ext ?_)
  change 0 * _ + 1 * (y a).val = (y a).val
  rw [Nat.zero_mul, Nat.zero_add, Nat.one_mul]

theorem arr8 (y : S1x16.Idx) : (dats m 0 c).arrAt 8 cfg0.N y
    = out0_8 (V m c main_v0) (V m c main_arg1) (V m c main_v1) (V m c main_v2) (V m c main_arg4) (V m c main_v3) y := by
  have h := congrFun (RefRun.blocks8 m c pt (flush0_8 pt)) y
  rw [RefRun.flushed8, iblk0, iblk1, iblk2, iblk3, iblk4, iblk5] at h
  refine (blk8_read c _ y).symm.trans (h.trans ?_)
  rfl

theorem blk9_read (f : Buf (Elt Ideal) ((c : Thread nD τ).loc main_v4_3)) (y : S16x10240.Idx) :
    ((cfg0.win 9).blk pt).view.read (Elt Ideal) f y = f y := by
  rw [View.read_apply]
  refine congrArg f (funext fun a => Fin.ext ?_)
  change 0 * _ + 1 * (y a).val = (y a).val
  rw [Nat.zero_mul, Nat.zero_add, Nat.one_mul]

theorem arr9 (y : S16x10240.Idx) : (dats m 0 c).arrAt 9 cfg0.N y
    = out0_9 (V m c main_v0) (V m c main_arg1) (V m c main_v1) (V m c main_v2) (V m c main_arg4) (V m c main_v3) y := by
  have h := congrFun (RefRun.blocks9 m c pt (flush0_9 pt)) y
  rw [RefRun.flushed9, iblk0, iblk1, iblk2, iblk3, iblk4, iblk5] at h
  refine (blk9_read c _ y).symm.trans (h.trans ?_)
  rfl

theorem blk10_read (f : Buf (Elt Ideal) ((c : Thread nD τ).loc main_v4_4)) (y : S1x16.Idx) :
    ((cfg0.win 10).blk pt).view.read (Elt Ideal) f y = f y := by
  rw [View.read_apply]
  refine congrArg f (funext fun a => Fin.ext ?_)
  change 0 * _ + 1 * (y a).val = (y a).val
  rw [Nat.zero_mul, Nat.zero_add, Nat.one_mul]

theorem arr10 (y : S1x16.Idx) : (dats m 0 c).arrAt 10 cfg0.N y
    = out0_10 (V m c main_v0) (V m c main_arg1) (V m c main_v1) (V m c main_v2) (V m c main_arg4) (V m c main_v3) y := by
  have h := congrFun (RefRun.blocks10 m c pt (flush0_10 pt)) y
  rw [RefRun.flushed10, iblk0, iblk1, iblk2, iblk3, iblk4, iblk5] at h
  refine (blk10_read c _ y).symm.trans (h.trans ?_)
  rfl

/-- The input, -/
abbrev aX : Mat 16 2560 := V m c main_v0
/-- the up weight, -/
abbrev aU : Mat 2560 10240 := V m c main_arg1
/-- its column scales, -/
abbrev aUs : Mat 1 10240 := V m c main_v1
/-- the bias, -/
abbrev aB : Mat 1 10240 := V m c main_v2
/-- the down weight, -/
abbrev aD : Mat 10240 2560 := V m c main_arg4
/-- and its column scales. -/
abbrev aDs : Fin 2560 → EReal := fun j => (V m c main_v3 : Mat 1 2560) (ix2 0 j)

theorem y_apply (r : Fin 16) (j : Fin 2560) : (dats m 0 c).arrAt 6 cfg0.N (ix2 r j)
    = outp (aX m c) (aU m c) (aUs m c) (aB m c) (aD m c) (aDs m c) r j := by
  refine (arr6 m c (ix2 r j)).trans ?_
  unfold_out out0_6
  refine (canon2 _ _ _).trans ?_
  rw [ld2, ld2, ld2, ld2, ld2, ld2]
  exact out_y _ _ _ _ _ _ r j

theorem xc_apply (r : Fin 16) (j : Fin 2560) : (dats m 0 c).arrAt 7 cfg0.N (ix2 r j) = codes (aX m c) r j := by
  refine (arr7 m c (ix2 r j)).trans ?_
  unfold_out out0_7
  refine (canon2 _ _ _).trans ?_
  rw [ld2]
  exact codes_x _ r j

theorem xs_apply (r : Fin 16) : (dats m 0 c).arrAt 8 cfg0.N (ix2 0 r) = scl (amax (aX m c) r) := by
  refine (arr8 m c (ix2 0 r)).trans ?_
  unfold_out out0_8
  refine (canon2 _ _ _).trans ?_
  rw [ld2]
  exact (pay1_apply _ r).trans (scl_x _ r)

theorem hc_apply (r : Fin 16) (j : Fin 10240) : (dats m 0 c).arrAt 9 cfg0.N (ix2 r j)
    = codes (hidM (aX m c) (aU m c) (aUs m c) (aB m c)) r j := by
  refine (arr9 m c (ix2 r j)).trans ?_
  unfold_out out0_9
  refine (canon2 _ _ _).trans ?_
  rw [ld2, ld2, ld2, ld2]
  exact codes_h _ _ _ _ r j

theorem hs_apply (r : Fin 16) : (dats m 0 c).arrAt 10 cfg0.N (ix2 0 r)
    = scl (amax (hidM (aX m c) (aU m c) (aUs m c) (aB m c)) r) := by
  refine (arr10 m c (ix2 0 r)).trans ?_
  unfold_out out0_10
  refine (canon2 _ _ _).trans ?_
  rw [ld2, ld2, ld2, ld2]
  exact (pay2_apply _ r).trans (scl_h _ _ _ _ r)

end Cert.Proof.Value.Ref

end
-- ==== Proof.Value.Equation.lean ====
/-
  The equation: launched on the same arguments, the kernel's five results are the reference's.
-/
module

public import proofs.«01_k».proof.Proof.Value.KerOut
public import proofs.«01_k».proof.Proof.Value.RefOut
public import proofs.«01_k».proof.Proof.RunIdeal.Launch
public import Idealize.ShloMosaic.Lib.Claim

@[expose] public section

set_option maxRecDepth 16384

noncomputable section

namespace Cert.Proof.Value

open Idealize.ShloMosaic Idealize.ShloMosaic.TcCoe

/-! ## What the launch's reshapes leave in the operands -/

section Kernel
open Cert.KernelIdeal Cert.KernelIdeal.Gen
variable (m : (ℓ : Loc nD τ sig) → Buf (Elt Ideal) ℓ) (c : Dev nD)

theorem ker_x : V m c main_v0 = shapeCast S16x2560 (m ((c : Thread nD τ).loc main_arg0) : Vec Ideal S16x1x2560 .bf16) shapeCasts_S16x1x2560_S16x2560 := by
  entry_read
  rfl
theorem ker_us : V m c main_v1 = shapeCast S1x10240 (m ((c : Thread nD τ).loc main_arg2) : Vec Ideal S10240 .f32) shapeCasts_S10240_S1x10240 := by
  entry_read
  rfl
theorem ker_b : V m c main_v2 = shapeCast S1x10240 (m ((c : Thread nD τ).loc main_arg3) : Vec Ideal S10240 .f32) shapeCasts_S10240_S1x10240 := by
  entry_read
  rfl
end Kernel

section Reference
open Cert.ReferenceIdeal Cert.ReferenceIdeal.Gen
variable (m : (ℓ : Loc nD τ sig) → Buf (Elt Ideal) ℓ) (c : Dev nD)

theorem ref_x : V m c main_v0 = shapeCast S16x2560 (m ((c : Thread nD τ).loc main_arg0) : Vec Ideal S16x1x2560 .bf16) shapeCasts_S16x1x2560_S16x2560 := by
  entry_read
  rfl
theorem ref_us : V m c main_v1 = shapeCast S1x10240 (m ((c : Thread nD τ).loc main_arg2) : Vec Ideal S10240 .f32) shapeCasts_S10240_S1x10240 := by
  entry_read
  rfl
theorem ref_b : V m c main_v2 = shapeCast S1x10240 (m ((c : Thread nD τ).loc main_arg3) : Vec Ideal S10240 .f32) shapeCasts_S10240_S1x10240 := by
  entry_read
  rfl
theorem ref_ds : V m c main_v3 = shapeCast S1x2560 (m ((c : Thread nD τ).loc main_arg5) : Vec Ideal S2560 .f32) shapeCasts_S2560_S1x2560 := by
  entry_read
  rfl

theorem ref_ds_apply (j : Fin 2560) : Ref.aDs m c j = (m ((c : Thread nD τ).loc main_arg5) : Vec Ideal S2560 .f32) (ix1 j) := by
  unfold Ref.aDs
  rw [ref_ds]
  pointwise
end Reference

/-! ## The operands are the same -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two launches' arguments on core `c` agree. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable (h : Same m m' c)
include h

theorem same_x : mat_x c (Cert.KernelIdeal.Gen.V m c Cert.KernelIdeal.main_v0) = Ref.aX m' c :=
  (ker_x m c).trans ((congrArg (fun v : Vec Ideal Cert.KernelIdeal.S16x1x2560 .bf16 => shapeCast Cert.KernelIdeal.S16x2560 v Cert.KernelIdeal.Gen.facts.shapeCasts_S16x1x2560_S16x2560) h.1.symm).trans (ref_x m' c).symm)
theorem same_u : mat_u c (Cert.KernelIdeal.Gen.V m c Cert.KernelIdeal.main_arg1) = Ref.aU m' c :=
  (Cert.KernelIdeal.Gen.V_main_arg1 m c).trans (h.2.1.symm.trans (Cert.ReferenceIdeal.Gen.V_main_arg1 m' c).symm)
theorem same_us : mat_us c (Cert.KernelIdeal.Gen.V m c Cert.KernelIdeal.main_v1) = Ref.aUs m' c :=
  (ker_us m c).trans ((congrArg (fun v : Vec Ideal Cert.KernelIdeal.S10240 .f32 => shapeCast Cert.KernelIdeal.S1x10240 v Cert.KernelIdeal.Gen.facts.shapeCasts_S10240_S1x10240) h.2.2.1.symm).trans (ref_us m' c).symm)
theorem same_b : mat_b c (Cert.KernelIdeal.Gen.V m c Cert.KernelIdeal.main_v2) = Ref.aB m' c :=
  (ker_b m c).trans ((congrArg (fun v : Vec Ideal Cert.KernelIdeal.S10240 .f32 => shapeCast Cert.KernelIdeal.S1x10240 v Cert.KernelIdeal.Gen.facts.shapeCasts_S10240_S1x10240) h.2.2.2.1.symm).trans (ref_b m' c).symm)
theorem same_d : mat_d c (Cert.KernelIdeal.Gen.V m c Cert.KernelIdeal.main_arg4) = Ref.aD m' c :=
  (Cert.KernelIdeal.Gen.V_main_arg4 m c).trans (h.2.2.2.2.1.symm.trans (Cert.ReferenceIdeal.Gen.V_main_arg4 m' c).symm)
theorem same_ds : vec_ds c (Cert.KernelIdeal.Gen.V m c Cert.KernelIdeal.main_arg5) = Ref.aDs m' c := funext fun j => by
  rw [ref_ds_apply]
  exact congrFun ((Cert.KernelIdeal.Gen.V_main_arg5 m c).trans h.2.2.2.2.2.symm) (ix1 j)

theorem same_h : mat_h c (Cert.KernelIdeal.Gen.V m c Cert.KernelIdeal.main_v0) (Cert.KernelIdeal.Gen.V m c Cert.KernelIdeal.main_arg1)
    (Cert.KernelIdeal.Gen.V m c Cert.KernelIdeal.main_v1) (Cert.KernelIdeal.Gen.V m c Cert.KernelIdeal.main_v2)
      = hidM (Ref.aX m' c) (Ref.aU m' c) (Ref.aUs m' c) (Ref.aB m' c) := by
  unfold mat_h
  rw [same_x m m' c h, same_u m m' c h, same_us m m' c h, same_b m m' c h]
end

/-- THE EQUATION, all five results. -/
theorem algebraic : Cert.algebraic_KernelIdeal_ReferenceIdeal (hKernelIdeal := Cert.KernelIdeal.Gen.facts) (hReferenceIdeal := Cert.ReferenceIdeal.Gen.facts) := by
  intro m g m' g' _ hargs
  have hs : ∀ c, Same m m' c := hargs
  refine ⟨fun c => (Cert.ReferenceIdeal.Gen.dats m' 0 c).arrAt 6 Cert.ReferenceIdeal.cfg0.N,
    fun c => (Cert.ReferenceIdeal.Gen.dats m' 0 c).arrAt 7 Cert.ReferenceIdeal.cfg0.N,
    fun c => (Cert.ReferenceIdeal.Gen.dats m' 0 c).arrAt 8 Cert.ReferenceIdeal.cfg0.N,
    fun c => (Cert.ReferenceIdeal.Gen.dats m' 0 c).arrAt 9 Cert.ReferenceIdeal.cfg0.N,
    fun c => (Cert.ReferenceIdeal.Gen.dats m' 0 c).arrAt 10 Cert.ReferenceIdeal.cfg0.N, ?_, RefRun.run_blocks m' g'⟩
  refine (θ_run Cert.KernelIdeal.defs _ _).mono (fun r h c => ?_) (RunIdeal.run_main m g)
  obtain ⟨h0, h1, h2, h3, h4, h5, ⟨fH, fY, hY⟩, ⟨fXc, hXc⟩, ⟨fXs, hXs⟩, ⟨fH', fHc, hHc⟩, ⟨fHs, hHs⟩⟩ := h.1 c
  refine ⟨hY.trans (funext fun i => ?_), hXc.trans (funext fun i => ?_), hXs.trans (funext fun i => ?_),
    hHc.trans (funext fun i => ?_), hHs.trans (funext fun i => ?_), h0, h1, h2, h3, h4, h5⟩
  · obtain ⟨r, j, rfl⟩ : ∃ (r : Fin 16) (j : Fin 2560), i = ix2 r j := ⟨i 0, i 1, eq_ix2 i⟩
    refine (outY_apply c _ _ _ _ _ _ fH fY _ r j).trans (Eq.trans ?_ (Ref.y_apply m' c r j).symm)
    rw [same_x m m' c (hs c), same_u m m' c (hs c), same_us m m' c (hs c), same_b m m' c (hs c), same_d m m' c (hs c), same_ds m m' c (hs c)]
  · obtain ⟨r, j, rfl⟩ : ∃ (r : Fin 16) (j : Fin 2560), i = ix2 r j := ⟨i 0, i 1, eq_ix2 i⟩
    refine (outXc_apply c _ fXc _ r j).trans (Eq.trans ?_ (Ref.xc_apply m' c r j).symm)
    rw [same_x m m' c (hs c)]
  · obtain ⟨r, rfl⟩ : ∃ r : Fin 16, i = ix2 0 r := ⟨i 1, by rw [eq_ix2 i]; exact congrArg (ix2 · _) (Subsingleton.elim (α := Fin 1) _ _)⟩
    refine (outXs_apply c _ fXs _ r).trans (Eq.trans ?_ (Ref.xs_apply m' c r).symm)
    rw [same_x m m' c (hs c)]
  · obtain ⟨r, j, rfl⟩ : ∃ (r : Fin 16) (j : Fin 10240), i = ix2 r j := ⟨i 0, i 1, eq_ix2 i⟩
    refine (outHc_apply c _ _ _ _ fH' fHc _ r j).trans (Eq.trans ?_ (Ref.hc_apply m' c r j).symm)
    rw [same_h m m' c (hs c)]
  · obtain ⟨r, rfl⟩ : ∃ r : Fin 16, i = ix2 0 r := ⟨i 1, by rw [eq_ix2 i]; exact congrArg (ix2 · _) (Subsingleton.elim (α := Fin 1) _ _)⟩
    refine (outHs_apply c _ _ _ _ fHs _ r).trans (Eq.trans ?_ (Ref.hs_apply m' c r).symm)
    rw [same_h m m' c (hs c)]

end Cert.Proof.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.RunIdeal.Launch
public import proofs.«01_k».proof.Proof.RunPrinted.Launch
public import proofs.«01_k».proof.Proof.Value.Equation
public import Idealize.ShloMosaic.Adequacy
public import Idealize.ShloMosaic.Init

@[expose] public section

noncomputable section

namespace Cert.Proof

open Idealize.ShloMosaic

/-- What the run says of the arguments is what the frame claims, for the printed program, -/
theorem frame_kernel : Cert.quiescent_Kernel (hKernel := Cert.Kernel.Gen.facts) := fun m ρ _ =>
  (θ_run Cert.Kernel.defs _ _).mono (fun r h => ⟨fun c => by
    obtain ⟨h0, h1, h2, h3, h4, h5, -⟩ := h.1 c
    exact ⟨h0, h1, h2, h3, h4, h5⟩, h.2⟩) (RunPrinted.run_main m ρ)

/-- and for the idealized one. -/
theorem frame_kernelIdeal : Cert.quiescent_KernelIdeal (hKernelIdeal := Cert.KernelIdeal.Gen.facts) := fun m ρ _ =>
  (θ_run Cert.KernelIdeal.defs _ _).mono (fun r h => ⟨fun c => by
    obtain ⟨h0, h1, h2, h3, h4, h5, -⟩ := h.1 c
    exact ⟨h0, h1, h2, h3, h4, h5⟩, h.2⟩) (RunIdeal.run_main m ρ)

/-- All five claims. -/
theorem claim : Cert.Claim :=
  ⟨Cert.Kernel.Gen.facts, Cert.KernelIdeal.Gen.facts, Cert.ReferenceIdeal.Gen.facts,
    frame_kernel, frame_kernelIdeal, fun m ρ _ => Cert.ReferenceIdeal.Gen.frame m ρ, trivial, Value.algebraic⟩

end Cert.Proof

end
